-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S1x2048x1024 .f32) (main_arg1 : FVec F S1024x1024 .f32) (main_arg2 : FVec F S4x2048x32x128 .f32) (main_arg3 : FVec F S4x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Pre_finite_ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x2048x32x128 : S_.BroadcastsInDim S4x2048x32x128 (![] : Fin 0 → Fin S4x2048x32x128.rank)
  reducesTo_S4x2048x32x128_S_d0_1_2_3 : S4x2048x32x128.ReducesTo [0, 1, 2, 3] S_

variable [Facts]

def fn {F : FTy → Type} [FloatOps F] (main_arg0 : FVec F S4x2048x1024 .f32) (main_arg1 : FVec F S1024x4096 .f32) (main_arg2 : FVec F S4x2048x32x128 .f32) (main_arg3 : FVec F S4x2048x32x128 .f32) (main_arg4 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x2048x32x128 .f32 := Host.absf main_arg2
  let main_cst_2 : FVec F S_ .f32 := constant S_ .f32 0x7F800000#32
  let main_v10 : FVec F S4x2048x32x128 .f32 := broadcastInDim S4x2048x32x128 ![] bcast_S_S4x2048x32x128 main_cst_2
  let main_v11 : IVec S4x2048x32x128 1 := cmpf .olt main_v9 main_v10
  let main_c_3 : IVec S_ 1 := constantI S_ 1 1#1
  let main_v12 : IVec S_ 1 := (fun x v => Host.reduce IntOp.andi x v reducesTo_S4x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S4x2048x32x128 : Shape := ⟨4, ![4, 2048, 32, 128]⟩
abbrev S2048x1024 : Shape := ⟨2, ![2048, 1024]⟩
abbrev S_ : Shape := ⟨0, ![]⟩
abbrev S2x2x1024x1024 : Shape := ⟨4, ![2, 2, 1024, 1024]⟩
abbrev S2x1024x1024 : Shape := ⟨3, ![2, 1024, 1024]⟩
abbrev S8x2048x128 : Shape := ⟨3, ![8, 2048, 128]⟩
abbrev S256x1024 : Shape := ⟨2, ![256, 1024]⟩
abbrev S3x256x512 : Shape := ⟨3, ![3, 256, 512]⟩
abbrev S3 : Shape := ⟨1, ![3]⟩
abbrev S2 : Shape := ⟨1, ![2]⟩
abbrev S2x8 : Shape := ⟨2, ![2, 8]⟩
abbrev S1x1 : Shape := ⟨2, ![1, 1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S1 : Shape := ⟨1, ![1]⟩
abbrev S1x1x1024x1024 : Shape := ⟨4, ![1, 1, 1024, 1024]⟩
abbrev S1x1024x1024 : Shape := ⟨3, ![1, 1024, 1024]⟩
abbrev S256x512 : Shape := ⟨2, ![256, 512]⟩
abbrev S1x256x512 : Shape := ⟨3, ![1, 256, 512]⟩
abbrev S512x128 : Shape := ⟨2, ![512, 128]⟩
abbrev S256x128 : Shape := ⟨2, ![256, 128]⟩
abbrev S1x512x128 : Shape := ⟨3, ![1, 512, 128]⟩
abbrev S256x1 : Shape := ⟨2, ![256, 1]⟩
abbrev S1x2x1024x1024 : Shape := ⟨4, ![1, 2, 1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4x2048x32x128, .f32⟩
  | .hbm, ⟨3, _⟩ => ⟨S4x2048x32x128, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S1024x1024, .bf16⟩
  | .hbm, ⟨12, _⟩ => ⟨S2048x1024, .f32⟩
  | .hbm, ⟨13, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2x2x1024x1024, .bf16⟩
  | .local _ .vmem, ⟨5, _⟩ => ⟨S2x1024x1024, .bf16⟩
  | .local _ .vmem, ⟨6, _⟩ => ⟨S8x2048x128, .bf16⟩
  | .local _ .vmem, ⟨7, _⟩ => ⟨S8x2048x128, .bf16⟩
  | .local _ .vmem, ⟨8, _⟩ => ⟨S8x2048x128, .f32⟩
  | .local _ .vmem, ⟨9, _⟩ => ⟨S2048x1024, .bf16⟩
  | .local _ .vmem, ⟨10, _⟩ => ⟨S256x1024, .bf16⟩
  | .local _ .vmem, ⟨11, _⟩ => ⟨S3x256x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let c8_i32 : BitVec 32 := 8#32
  let v13 : BitVec 32 := Scalar.muli v2 c8_i32
  let v14 : BitVec 32 := Scalar.addi v13 c0_i32_10
  let c0_i32_17 : BitVec 32 := 0#32
  ![v2.toNat, 0, v14.toNat, 0]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_81 : BitVec 32 := 1#32
  let v77 : BitVec 32 := Scalar.muli v7 c1_i32_81
  let v78 : BitVec 32 := Scalar.addi c0_i32_82 v77
  v78.toNat
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_89 : BitVec 32 := 1#32
  let v85 : BitVec 32 := Scalar.muli v7 c1_i32_89
  let v86 : BitVec 32 := Scalar.addi c0_i32_90 v85
  v86.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_96 : BitVec 32 := 1#32
  let v93 : BitVec 32 := Scalar.muli v5 c1_i32_96
  let v94 : BitVec 32 := Scalar.addi c0_i32_97 v93
  v94.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_103 : BitVec 32 := 1#32
  let v101 : BitVec 32 := Scalar.muli v5 c1_i32_103
  let v102 : BitVec 32 := Scalar.addi c0_i32_104 v101
  v102.toNat
@[reducible] def k0_t1_loop : Scf.Loop 32 :=
  let c0_i32_183 : BitVec 32 := 0#32
  let c8_i32_184 : BitVec 32 := 8#32
  let v212 : BitVec 32 := Scalar.addi c0_i32_183 c8_i32_184
  let c1_i32_185 : BitVec 32 := 1#32
  ⟨c0_i32_183, v212, c1_i32_185⟩
def k0_off2 (k0_t1 : Fin k0_t1_loop.trips) : Fin 3 → Nat :=
  let c0_i32_183 : BitVec 32 := 0#32
  let c1_i32_185 : BitVec 32 := 1#32
  let arg19 : BitVec 32 := Scf.iv c0_i32_183 c1_i32_185 k0_t1
  let v1089 : Index := Scalar.indexCast arg19
  let c0_1257 : Index := 0#32
  let c0_1258 : Index := 0#32
  ![v1089.toNat, 0, 0]
@[reducible] def k0_t2_loop : Scf.Loop 32 :=
  let c0_i32_259 : BitVec 32 := 0#32
  let c8_i32_260 : BitVec 32 := 8#32
  let v277 : BitVec 32 := Scalar.addi c0_i32_259 c8_i32_260
  let c1_i32_261 : BitVec 32 := 1#32
  ⟨c0_i32_259, v277, c1_i32_261⟩
def k0_off3 (k0_t2 : Fin k0_t2_loop.trips) : Fin 2 → Nat :=
  let c0_i32_259 : BitVec 32 := 0#32
  let c1_i32_261 : BitVec 32 := 1#32
  let arg19 : BitVec 32 := Scf.iv c0_i32_259 c1_i32_261 k0_t2
  let c256_i32_1257 : BitVec 32 := 256#32
  let v1089 : BitVec 32 := Scalar.muli arg19 c256_i32_1257
  let v1090 : Index := Scalar.indexCast v1089
  let c0_1258 : Index := 0#32
  ![v1090.toNat, 0]
@[reducible] def k0_t3_loop : Scf.Loop 32 :=
  let c0_i32_319 : BitVec 32 := 0#32
  let c8_i32_320 : BitVec 32 := 8#32
  let v326 : BitVec 32 := Scalar.addi c0_i32_319 c8_i32_320
  let c1_i32_321 : BitVec 32 := 1#32
  ⟨c0_i32_319, v326, c1_i32_321⟩
def k0_off4 (k0_t3 : Fin k0_t3_loop.trips) : Fin 3 → Nat :=
  let c0_i32_319 : BitVec 32 := 0#32
  let c1_i32_321 : BitVec 32 := 1#32
  let arg19 : BitVec 32 := Scf.iv c0_i32_319 c1_i32_321 k0_t3
  let v1089 : Index := Scalar.indexCast arg19
  let c0_1257 : Index := 0#32
  let c0_1258 : Index := 0#32
  ![v1089.toNat, 0, 0]
def k0_off5 (d0 : Dev nD) (c1_i32_124 : BitVec 32) (c0_i32_324 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_330 : BitVec 32 := 0#32
  let v161 : BitVec 32 := Scalar.subi v2 c1_i32_124
  let c4_i32_125 : BitVec 32 := 4#32
  let v162 : BitVec 32 := Scalar.addi v161 c4_i32_125
  let c4_i32_126 : BitVec 32 := 4#32
  let v163 : BitVec 32 := Scalar.remsi v162 c4_i32_126
  let c8_i32_323 : BitVec 32 := 8#32
  let v327 : BitVec 32 := Scalar.muli v163 c8_i32_323
  let v328 : BitVec 32 := Scalar.addi v327 c0_i32_324
  let c0_i32_331 : BitVec 32 := 0#32
  ![v2.toNat, 0, v328.toNat, 0]
@[reducible] def k0_t4_loop : Scf.Loop 32 :=
  let c0_i32_395 : BitVec 32 := 0#32
  let c8_i32_396 : BitVec 32 := 8#32
  let v391 : BitVec 32 := Scalar.addi c0_i32_395 c8_i32_396
  let c1_i32_397 : BitVec 32 := 1#32
  ⟨c0_i32_395, v391, c1_i32_397⟩
def k0_mult1 (k0_t4 : Fin k0_t4_loop.trips) : BitVec 32 :=
  let c1536_i32_1261 : BitVec 32 := 1536#32
  let c0_i32_1260 : BitVec 32 := 0#32
  let c0_i32_395 : BitVec 32 := 0#32
  let c1_i32_397 : BitVec 32 := 1#32
  let arg19 : BitVec 32 := Scf.iv c0_i32_395 c1_i32_397 k0_t4
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  v1093
def k0_off6 (k0_t4 : Fin k0_t4_loop.trips) : Fin 3 → Nat :=
  let c0_i32_395 : BitVec 32 := 0#32
  let c1_i32_397 : BitVec 32 := 1#32
  let arg19 : BitVec 32 := Scf.iv c0_i32_395 c1_i32_397 k0_t4
  let c0_i32_1262 : BitVec 32 := 0#32
  let v1095 : BitVec 1 := Scalar.cmpi .eq arg19 c0_i32_1262
  let c0_i32_1266 : BitVec 32 := 0#32
  let c7_i32_1263 : BitVec 32 := 7#32
  let v1096 : BitVec 1 := Scalar.cmpi .eq arg19 c7_i32_1263
  let c2_i32_1264 : BitVec 32 := 2#32
  let c1_i32_1265 : BitVec 32 := 1#32
  let v1097 : BitVec 32 := Scalar.select v1096 c2_i32_1264 c1_i32_1265
  let v1098 : BitVec 32 := Scalar.select v1095 c0_i32_1266 v1097
  let v1099 : Index := Scalar.indexCast v1098
  let c0_1267 : Index := 0#32
  let c0_1268 : Index := 0#32
  ![v1099.toNat, 0, 0]
@[reducible] def k0_t5_loop : Scf.Loop 32 :=
  let c0_i32_1269 : BitVec 32 := 0#32
  let c2_i32_1270 : BitVec 32 := 2#32
  let v1102 : BitVec 32 := Scalar.addi c0_i32_1269 c2_i32_1270
  let c1_i32_1271 : BitVec 32 := 1#32
  ⟨c0_i32_1269, v1102, c1_i32_1271⟩
def k0_off7 (k0_t4 : Fin k0_t4_loop.trips) (k0_t5 : Fin k0_t5_loop.trips) (c0_i32_1280 : BitVec 32) : Fin 2 → Nat :=
  let c0_i32_395 : BitVec 32 := 0#32
  let c1_i32_397 : BitVec 32 := 1#32
  let arg19 : BitVec 32 := Scf.iv c0_i32_395 c1_i32_397 k0_t4
  let c256_i32_1257 : BitVec 32 := 256#32
  let v1089 : BitVec 32 := Scalar.muli arg19 c256_i32_1257
  let v1112 : Index := Scalar.indexCast v1089
  let c0_i32_1269 : BitVec 32 := 0#32
  let c1_i32_1271 : BitVec 32 := 1#32
  let arg20 : BitVec 32 := Scf.iv c0_i32_1269 c1_i32_1271 k0_t5
  let c4_i32_1279 : BitVec 32 := 4#32
  let v1109 : BitVec 32 := Scalar.muli arg20 c4_i32_1279
  let v1110 : BitVec 32 := Scalar.addi v1109 c0_i32_1280
  let c128_i32_1281 : BitVec 32 := 128#32
  let v1111 : BitVec 32 := Scalar.muli v1110 c128_i32_1281
  let v1113 : Index := Scalar.indexCast v1111
  ![v1112.toNat, v1113.toNat]
def k0_off8 (k0_t4 : Fin k0_t4_loop.trips) (k0_t5 : Fin k0_t5_loop.trips) (c0_i32_1280 : BitVec 32) : Fin 3 → Nat :=
  let c0_i32_1269 : BitVec 32 := 0#32
  let c1_i32_1271 : BitVec 32 := 1#32
  let arg20 : BitVec 32 := Scf.iv c0_i32_1269 c1_i32_1271 k0_t5
  let c4_i32_1279 : BitVec 32 := 4#32
  let v1109 : BitVec 32 := Scalar.muli arg20 c4_i32_1279
  let v1110 : BitVec 32 := Scalar.addi v1109 c0_i32_1280
  let v1115 : Index := Scalar.indexCast v1110
  let c1536_i32_1261 : BitVec 32 := 1536#32
  let c0_i32_1260 : BitVec 32 := 0#32
  let c0_i32_395 : BitVec 32 := 0#32
  let c1_i32_397 : BitVec 32 := 1#32
  let arg19 : BitVec 32 := Scf.iv c0_i32_395 c1_i32_397 k0_t4
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  let v1094 : BitVec 32 := v1093
  let v1116 : Index := Scalar.indexCast v1094
  let c0_1282 : Index := 0#32
  ![v1115.toNat, v1116.toNat, 0]
def k0_off9 (k0_t5 : Fin k0_t5_loop.trips) (c0_i32_1280 : BitVec 32) : Fin 2 → Nat :=
  let c0_1289 : Index := 0#32
  let c0_i32_1269 : BitVec 32 := 0#32
  let c1_i32_1271 : BitVec 32 := 1#32
  let arg20 : BitVec 32 := Scf.iv c0_i32_1269 c1_i32_1271 k0_t5
  let c4_i32_1279 : BitVec 32 := 4#32
  let v1109 : BitVec 32 := Scalar.muli arg20 c4_i32_1279
  let v1110 : BitVec 32 := Scalar.addi v1109 c0_i32_1280
  let c128_i32_1288 : BitVec 32 := 128#32
  let v1135 : BitVec 32 := Scalar.muli v1110 c128_i32_1288
  let v1136 : Index := Scalar.indexCast v1135
  ![0, v1136.toNat]
def k0_off10 (k0_t4 : Fin k0_t4_loop.trips) : Fin 2 → Nat :=
  let c0_i32_395 : BitVec 32 := 0#32
  let c1_i32_397 : BitVec 32 := 1#32
  let arg19 : BitVec 32 := Scf.iv c0_i32_395 c1_i32_397 k0_t4
  let c256_i32_1257 : BitVec 32 := 256#32
  let v1089 : BitVec 32 := Scalar.muli arg19 c256_i32_1257
  let v1107 : Index := Scalar.indexCast v1089
  let c0_1278 : Index := 0#32
  ![v1107.toNat, 0]
def k0_dev7 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_419 : BitVec 32 := 1#32
  let v404 : BitVec 32 := Scalar.muli v7 c1_i32_419
  let v405 : BitVec 32 := Scalar.addi c0_i32_420 v404
  v405.toNat
@[reducible] def k0_t6_loop : Scf.Loop 32 :=
  let c0_i32_488 : BitVec 32 := 0#32
  let c8_i32_489 : BitVec 32 := 8#32
  let v467 : BitVec 32 := Scalar.addi c0_i32_488 c8_i32_489
  let c1_i32_490 : BitVec 32 := 1#32
  ⟨c0_i32_488, v467, c1_i32_490⟩
def k0_off11 (k0_t6 : Fin k0_t6_loop.trips) : Fin 3 → Nat :=
  let c0_i32_488 : BitVec 32 := 0#32
  let c1_i32_490 : BitVec 32 := 1#32
  let arg19 : BitVec 32 := Scf.iv c0_i32_488 c1_i32_490 k0_t6
  let v1089 : Index := Scalar.indexCast arg19
  let c0_1257 : Index := 0#32
  let c0_1258 : Index := 0#32
  ![v1089.toNat, 0, 0]
@[reducible] def k0_t7_loop : Scf.Loop 32 :=
  let c0_i32_566 : BitVec 32 := 0#32
  let c8_i32_567 : BitVec 32 := 8#32
  let v532 : BitVec 32 := Scalar.addi c0_i32_566 c8_i32_567
  let c1_i32_568 : BitVec 32 := 1#32
  ⟨c0_i32_566, v532, c1_i32_568⟩
def k0_off12 (k0_t7 : Fin k0_t7_loop.trips) : Fin 2 → Nat :=
  let c0_i32_566 : BitVec 32 := 0#32
  let c1_i32_568 : BitVec 32 := 1#32
  let arg19 : BitVec 32 := Scf.iv c0_i32_566 c1_i32_568 k0_t7
  let c256_i32_1257 : BitVec 32 := 256#32
  let v1089 : BitVec 32 := Scalar.muli arg19 c256_i32_1257
  let v1090 : Index := Scalar.indexCast v1089
  let c0_1258 : Index := 0#32
  ![v1090.toNat, 0]
@[reducible] def k0_t8_loop : Scf.Loop 32 :=
  let c0_i32_626 : BitVec 32 := 0#32
  let c8_i32_627 : BitVec 32 := 8#32
  let v581 : BitVec 32 := Scalar.addi c0_i32_626 c8_i32_627
  let c1_i32_628 : BitVec 32 := 1#32
  ⟨c0_i32_626, v581, c1_i32_628⟩
def k0_off13 (k0_t8 : Fin k0_t8_loop.trips) : Fin 3 → Nat :=
  let c0_i32_626 : BitVec 32 := 0#32
  let c1_i32_628 : BitVec 32 := 1#32
  let arg19 : BitVec 32 := Scf.iv c0_i32_626 c1_i32_628 k0_t8
  let v1089 : Index := Scalar.indexCast arg19
  let c0_1257 : Index := 0#32
  let c0_1258 : Index := 0#32
  ![v1089.toNat, 0, 0]
def k0_off14 (d0 : Dev nD) (c0_i32_631 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_637 : BitVec 32 := 0#32
  let c1_i32_430 : BitVec 32 := 1#32
  let v417 : BitVec 32 := Scalar.addi v2 c1_i32_430
  let c4_i32_431 : BitVec 32 := 4#32
  let v418 : BitVec 32 := Scalar.remsi v417 c4_i32_431
  let c8_i32_630 : BitVec 32 := 8#32
  let v582 : BitVec 32 := Scalar.muli v418 c8_i32_630
  let v583 : BitVec 32 := Scalar.addi v582 c0_i32_631
  let c0_i32_638 : BitVec 32 := 0#32
  ![v2.toNat, 0, v583.toNat, 0]
@[reducible] def k0_t9_loop : Scf.Loop 32 :=
  let c0_i32_704 : BitVec 32 := 0#32
  let c8_i32_705 : BitVec 32 := 8#32
  let v646 : BitVec 32 := Scalar.addi c0_i32_704 c8_i32_705
  let c1_i32_706 : BitVec 32 := 1#32
  ⟨c0_i32_704, v646, c1_i32_706⟩
def k0_mult2 (k0_t9 : Fin k0_t9_loop.trips) : BitVec 32 :=
  let c1536_i32_1261 : BitVec 32 := 1536#32
  let c0_i32_1260 : BitVec 32 := 0#32
  let c0_i32_704 : BitVec 32 := 0#32
  let c1_i32_706 : BitVec 32 := 1#32
  let arg19 : BitVec 32 := Scf.iv c0_i32_704 c1_i32_706 k0_t9
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  v1093
def k0_off15 (k0_t9 : Fin k0_t9_loop.trips) : Fin 3 → Nat :=
  let c0_i32_704 : BitVec 32 := 0#32
  let c1_i32_706 : BitVec 32 := 1#32
  let arg19 : BitVec 32 := Scf.iv c0_i32_704 c1_i32_706 k0_t9
  let c0_i32_1262 : BitVec 32 := 0#32
  let v1095 : BitVec 1 := Scalar.cmpi .eq arg19 c0_i32_1262
  let c0_i32_1266 : BitVec 32 := 0#32
  let c7_i32_1263 : BitVec 32 := 7#32
  let v1096 : BitVec 1 := Scalar.cmpi .eq arg19 c7_i32_1263
  let c2_i32_1264 : BitVec 32 := 2#32
  let c1_i32_1265 : BitVec 32 := 1#32
  let v1097 : BitVec 32 := Scalar.select v1096 c2_i32_1264 c1_i32_1265
  let v1098 : BitVec 32 := Scalar.select v1095 c0_i32_1266 v1097
  let v1099 : Index := Scalar.indexCast v1098
  let c0_1267 : Index := 0#32
  let c0_1268 : Index := 0#32
  ![v1099.toNat, 0, 0]
@[reducible] def k0_t10_loop : Scf.Loop 32 :=
  let c0_i32_1269 : BitVec 32 := 0#32
  let c2_i32_1270 : BitVec 32 := 2#32
  let v1102 : BitVec 32 := Scalar.addi c0_i32_1269 c2_i32_1270
  let c1_i32_1271 : BitVec 32 := 1#32
  ⟨c0_i32_1269, v1102, c1_i32_1271⟩
def k0_off16 (k0_t9 : Fin k0_t9_loop.trips) (k0_t10 : Fin k0_t10_loop.trips) (c0_i32_1283 : BitVec 32) : Fin 2 → Nat :=
  let c0_i32_704 : BitVec 32 := 0#32
  let c1_i32_706 : BitVec 32 := 1#32
  let arg19 : BitVec 32 := Scf.iv c0_i32_704 c1_i32_706 k0_t9
  let c256_i32_1257 : BitVec 32 := 256#32
  let v1089 : BitVec 32 := Scalar.muli arg19 c256_i32_1257
  let v1117 : Index := Scalar.indexCast v1089
  let c0_i32_1269 : BitVec 32 := 0#32
  let c1_i32_1271 : BitVec 32 := 1#32
  let arg20 : BitVec 32 := Scf.iv c0_i32_1269 c1_i32_1271 k0_t10
  let c4_i32_1282 : BitVec 32 := 4#32
  let v1114 : BitVec 32 := Scalar.muli arg20 c4_i32_1282
  let v1115 : BitVec 32 := Scalar.addi v1114 c0_i32_1283
  let c128_i32_1284 : BitVec 32 := 128#32
  let v1116 : BitVec 32 := Scalar.muli v1115 c128_i32_1284
  let v1118 : Index := Scalar.indexCast v1116
  ![v1117.toNat, v1118.toNat]
def k0_off17 (k0_t9 : Fin k0_t9_loop.trips) (k0_t10 : Fin k0_t10_loop.trips) (c0_i32_1283 : BitVec 32) : Fin 3 → Nat :=
  let c0_i32_1269 : BitVec 32 := 0#32
  let c1_i32_1271 : BitVec 32 := 1#32
  let arg20 : BitVec 32 := Scf.iv c0_i32_1269 c1_i32_1271 k0_t10
  let c4_i32_1282 : BitVec 32 := 4#32
  let v1114 : BitVec 32 := Scalar.muli arg20 c4_i32_1282
  let v1115 : BitVec 32 := Scalar.addi v1114 c0_i32_1283
  let v1120 : Index := Scalar.indexCast v1115
  let c1536_i32_1261 : BitVec 32 := 1536#32
  let c0_i32_1260 : BitVec 32 := 0#32
  let c0_i32_704 : BitVec 32 := 0#32
  let c1_i32_706 : BitVec 32 := 1#32
  let arg19 : BitVec 32 := Scf.iv c0_i32_704 c1_i32_706 k0_t9
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  let v1094 : BitVec 32 := v1093
  let v1121 : Index := Scalar.indexCast v1094
  let c0_1285 : Index := 0#32
  ![v1120.toNat, v1121.toNat, 0]
def k0_off18 (k0_t10 : Fin k0_t10_loop.trips) (c0_i32_1283 : BitVec 32) : Fin 2 → Nat :=
  let c0_1292 : Index := 0#32
  let c0_i32_1269 : BitVec 32 := 0#32
  let c1_i32_1271 : BitVec 32 := 1#32
  let arg20 : BitVec 32 := Scf.iv c0_i32_1269 c1_i32_1271 k0_t10
  let c4_i32_1282 : BitVec 32 := 4#32
  let v1114 : BitVec 32 := Scalar.muli arg20 c4_i32_1282
  let v1115 : BitVec 32 := Scalar.addi v1114 c0_i32_1283
  let c128_i32_1291 : BitVec 32 := 128#32
  let v1140 : BitVec 32 := Scalar.muli v1115 c128_i32_1291
  let v1141 : Index := Scalar.indexCast v1140
  ![0, v1141.toNat]
def k0_off19 (k0_t9 : Fin k0_t9_loop.trips) : Fin 2 → Nat :=
  let c0_i32_704 : BitVec 32 := 0#32
  let c1_i32_706 : BitVec 32 := 1#32
  let arg19 : BitVec 32 := Scf.iv c0_i32_704 c1_i32_706 k0_t9
  let c256_i32_1257 : BitVec 32 := 256#32
  let v1089 : BitVec 32 := Scalar.muli arg19 c256_i32_1257
  let v1108 : Index := Scalar.indexCast v1089
  let c0_1280 : Index := 0#32
  ![v1108.toNat, 0]
@[reducible] def k0_t11_loop : Scf.Loop 32 :=
  let c0_i32_783 : BitVec 32 := 0#32
  let c8_i32_784 : BitVec 32 := 8#32
  let v712 : BitVec 32 := Scalar.addi c0_i32_783 c8_i32_784
  let c1_i32_785 : BitVec 32 := 1#32
  ⟨c0_i32_783, v712, c1_i32_785⟩
def k0_off20 (k0_t11 : Fin k0_t11_loop.trips) : Fin 3 → Nat :=
  let c0_i32_783 : BitVec 32 := 0#32
  let c1_i32_785 : BitVec 32 := 1#32
  let arg19 : BitVec 32 := Scf.iv c0_i32_783 c1_i32_785 k0_t11
  let v1089 : Index := Scalar.indexCast arg19
  let c0_1257 : Index := 0#32
  let c0_1258 : Index := 0#32
  ![v1089.toNat, 0, 0]
@[reducible] def k0_t12_loop : Scf.Loop 32 :=
  let c0_i32_860 : BitVec 32 := 0#32
  let c8_i32_861 : BitVec 32 := 8#32
  let v777 : BitVec 32 := Scalar.addi c0_i32_860 c8_i32_861
  let c1_i32_862 : BitVec 32 := 1#32
  ⟨c0_i32_860, v777, c1_i32_862⟩
def k0_off21 (k0_t12 : Fin k0_t12_loop.trips) : Fin 2 → Nat :=
  let c0_i32_860 : BitVec 32 := 0#32
  let c1_i32_862 : BitVec 32 := 1#32
  let arg19 : BitVec 32 := Scf.iv c0_i32_860 c1_i32_862 k0_t12
  let c256_i32_1257 : BitVec 32 := 256#32
  let v1089 : BitVec 32 := Scalar.muli arg19 c256_i32_1257
  let v1090 : Index := Scalar.indexCast v1089
  let c0_1258 : Index := 0#32
  ![v1090.toNat, 0]
@[reducible] def k0_t13_loop : Scf.Loop 32 :=
  let c0_i32_920 : BitVec 32 := 0#32
  let c8_i32_921 : BitVec 32 := 8#32
  let v826 : BitVec 32 := Scalar.addi c0_i32_920 c8_i32_921
  let c1_i32_922 : BitVec 32 := 1#32
  ⟨c0_i32_920, v826, c1_i32_922⟩
def k0_off22 (k0_t13 : Fin k0_t13_loop.trips) : Fin 3 → Nat :=
  let c0_i32_920 : BitVec 32 := 0#32
  let c1_i32_922 : BitVec 32 := 1#32
  let arg19 : BitVec 32 := Scf.iv c0_i32_920 c1_i32_922 k0_t13
  let v1089 : Index := Scalar.indexCast arg19
  let c0_1257 : Index := 0#32
  let c0_1258 : Index := 0#32
  ![v1089.toNat, 0, 0]
@[reducible] def k0_t14_loop : Scf.Loop 32 :=
  let c0_i32_997 : BitVec 32 := 0#32
  let c8_i32_998 : BitVec 32 := 8#32
  let v891 : BitVec 32 := Scalar.addi c0_i32_997 c8_i32_998
  let c1_i32_999 : BitVec 32 := 1#32
  ⟨c0_i32_997, v891, c1_i32_999⟩
def k0_mult3 (k0_t14 : Fin k0_t14_loop.trips) : BitVec 32 :=
  let c1536_i32_1261 : BitVec 32 := 1536#32
  let c0_i32_1260 : BitVec 32 := 0#32
  let c0_i32_997 : BitVec 32 := 0#32
  let c1_i32_999 : BitVec 32 := 1#32
  let arg19 : BitVec 32 := Scf.iv c0_i32_997 c1_i32_999 k0_t14
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  v1093
def k0_off23 (k0_t14 : Fin k0_t14_loop.trips) : Fin 3 → Nat :=
  let c0_i32_997 : BitVec 32 := 0#32
  let c1_i32_999 : BitVec 32 := 1#32
  let arg19 : BitVec 32 := Scf.iv c0_i32_997 c1_i32_999 k0_t14
  let c0_i32_1262 : BitVec 32 := 0#32
  let v1095 : BitVec 1 := Scalar.cmpi .eq arg19 c0_i32_1262
  let c0_i32_1266 : BitVec 32 := 0#32
  let c7_i32_1263 : BitVec 32 := 7#32
  let v1096 : BitVec 1 := Scalar.cmpi .eq arg19 c7_i32_1263
  let c2_i32_1264 : BitVec 32 := 2#32
  let c1_i32_1265 : BitVec 32 := 1#32
  let v1097 : BitVec 32 := Scalar.select v1096 c2_i32_1264 c1_i32_1265
  let v1098 : BitVec 32 := Scalar.select v1095 c0_i32_1266 v1097
  let v1099 : Index := Scalar.indexCast v1098
  let c0_1267 : Index := 0#32
  let c0_1268 : Index := 0#32
  ![v1099.toNat, 0, 0]
@[reducible] def k0_t15_loop : Scf.Loop 32 :=
  let c0_i32_1269 : BitVec 32 := 0#32
  let c2_i32_1270 : BitVec 32 := 2#32
  let v1102 : BitVec 32 := Scalar.addi c0_i32_1269 c2_i32_1270
  let c1_i32_1271 : BitVec 32 := 1#32
  ⟨c0_i32_1269, v1102, c1_i32_1271⟩
def k0_off24 (k0_t14 : Fin k0_t14_loop.trips) (k0_t15 : Fin k0_t15_loop.trips) (c0_i32_1283 : BitVec 32) : Fin 2 → Nat :=
  let c0_i32_997 : BitVec 32 := 0#32
  let c1_i32_999 : BitVec 32 := 1#32
  let arg19 : BitVec 32 := Scf.iv c0_i32_997 c1_i32_999 k0_t14
  let c256_i32_1257 : BitVec 32 := 256#32
  let v1089 : BitVec 32 := Scalar.muli arg19 c256_i32_1257
  let v1117 : Index := Scalar.indexCast v1089
  let c0_i32_1269 : BitVec 32 := 0#32
  let c1_i32_1271 : BitVec 32 := 1#32
  let arg20 : BitVec 32 := Scf.iv c0_i32_1269 c1_i32_1271 k0_t15
  let c4_i32_1282 : BitVec 32 := 4#32
  let v1114 : BitVec 32 := Scalar.muli arg20 c4_i32_1282
  let v1115 : BitVec 32 := Scalar.addi v1114 c0_i32_1283
  let c128_i32_1284 : BitVec 32 := 128#32
  let v1116 : BitVec 32 := Scalar.muli v1115 c128_i32_1284
  let v1118 : Index := Scalar.indexCast v1116
  ![v1117.toNat, v1118.toNat]
def k0_off25 (k0_t14 : Fin k0_t14_loop.trips) (k0_t15 : Fin k0_t15_loop.trips) (c0_i32_1283 : BitVec 32) : Fin 3 → Nat :=
  let c0_i32_1269 : BitVec 32 := 0#32
  let c1_i32_1271 : BitVec 32 := 1#32
  let arg20 : BitVec 32 := Scf.iv c0_i32_1269 c1_i32_1271 k0_t15
  let c4_i32_1282 : BitVec 32 := 4#32
  let v1114 : BitVec 32 := Scalar.muli arg20 c4_i32_1282
  let v1115 : BitVec 32 := Scalar.addi v1114 c0_i32_1283
  let v1120 : Index := Scalar.indexCast v1115
  let c1536_i32_1261 : BitVec 32 := 1536#32
  let c0_i32_1260 : BitVec 32 := 0#32
  let c0_i32_997 : BitVec 32 := 0#32
  let c1_i32_999 : BitVec 32 := 1#32
  let arg19 : BitVec 32 := Scf.iv c0_i32_997 c1_i32_999 k0_t14
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  let v1094 : BitVec 32 := v1093
  let v1121 : Index := Scalar.indexCast v1094
  let c0_1285 : Index := 0#32
  ![v1120.toNat, v1121.toNat, 0]
def k0_off26 (k0_t15 : Fin k0_t15_loop.trips) (c0_i32_1283 : BitVec 32) : Fin 2 → Nat :=
  let c0_1292 : Index := 0#32
  let c0_i32_1269 : BitVec 32 := 0#32
  let c1_i32_1271 : BitVec 32 := 1#32
  let arg20 : BitVec 32 := Scf.iv c0_i32_1269 c1_i32_1271 k0_t15
  let c4_i32_1282 : BitVec 32 := 4#32
  let v1114 : BitVec 32 := Scalar.muli arg20 c4_i32_1282
  let v1115 : BitVec 32 := Scalar.addi v1114 c0_i32_1283
  let c128_i32_1291 : BitVec 32 := 128#32
  let v1140 : BitVec 32 := Scalar.muli v1115 c128_i32_1291
  let v1141 : Index := Scalar.indexCast v1140
  ![0, v1141.toNat]
def k0_off27 (k0_t14 : Fin k0_t14_loop.trips) : Fin 2 → Nat :=
  let c0_i32_997 : BitVec 32 := 0#32
  let c1_i32_999 : BitVec 32 := 1#32
  let arg19 : BitVec 32 := Scf.iv c0_i32_997 c1_i32_999 k0_t14
  let c256_i32_1257 : BitVec 32 := 256#32
  let v1089 : BitVec 32 := Scalar.muli arg19 c256_i32_1257
  let v1108 : Index := Scalar.indexCast v1089
  let c0_1280 : Index := 0#32
  ![v1108.toNat, 0]
@[reducible] def k0_t16_loop : Scf.Loop 32 :=
  let c0_i32_1072 : BitVec 32 := 0#32
  let c8_i32_1073 : BitVec 32 := 8#32
  let v951 : BitVec 32 := Scalar.addi c0_i32_1072 c8_i32_1073
  let c1_i32_1074 : BitVec 32 := 1#32
  ⟨c0_i32_1072, v951, c1_i32_1074⟩
def k0_off28 (k0_t16 : Fin k0_t16_loop.trips) : Fin 3 → Nat :=
  let c0_i32_1072 : BitVec 32 := 0#32
  let c1_i32_1074 : BitVec 32 := 1#32
  let arg19 : BitVec 32 := Scf.iv c0_i32_1072 c1_i32_1074 k0_t16
  let v1089 : Index := Scalar.indexCast arg19
  let c0_1257 : Index := 0#32
  let c0_1258 : Index := 0#32
  ![v1089.toNat, 0, 0]
@[reducible] def k0_t17_loop : Scf.Loop 32 :=
  let c0_i32_1150 : BitVec 32 := 0#32
  let c8_i32_1151 : BitVec 32 := 8#32
  let v1016 : BitVec 32 := Scalar.addi c0_i32_1150 c8_i32_1151
  let c1_i32_1152 : BitVec 32 := 1#32
  ⟨c0_i32_1150, v1016, c1_i32_1152⟩
def k0_off29 (k0_t17 : Fin k0_t17_loop.trips) : Fin 2 → Nat :=
  let c0_i32_1150 : BitVec 32 := 0#32
  let c1_i32_1152 : BitVec 32 := 1#32
  let arg19 : BitVec 32 := Scf.iv c0_i32_1150 c1_i32_1152 k0_t17
  let c256_i32_1257 : BitVec 32 := 256#32
  let v1089 : BitVec 32 := Scalar.muli arg19 c256_i32_1257
  let v1090 : Index := Scalar.indexCast v1089
  let c0_1258 : Index := 0#32
  ![v1090.toNat, 0]
@[reducible] def k0_t18_loop : Scf.Loop 32 :=
  let c0_i32_1210 : BitVec 32 := 0#32
  let c8_i32_1211 : BitVec 32 := 8#32
  let v1065 : BitVec 32 := Scalar.addi c0_i32_1210 c8_i32_1211
  let c1_i32_1212 : BitVec 32 := 1#32
  ⟨c0_i32_1210, v1065, c1_i32_1212⟩
def k0_off30 (k0_t18 : Fin k0_t18_loop.trips) : Fin 3 → Nat :=
  let c0_i32_1210 : BitVec 32 := 0#32
  let c1_i32_1212 : BitVec 32 := 1#32
  let arg19 : BitVec 32 := Scf.iv c0_i32_1210 c1_i32_1212 k0_t18
  let v1089 : Index := Scalar.indexCast arg19
  let c0_1257 : Index := 0#32
  let c0_1258 : Index := 0#32
  ![v1089.toNat, 0, 0]
@[reducible] def k0_t19_loop : Scf.Loop 32 :=
  let c0_i32_1216 : BitVec 32 := 0#32
  let c8_i32_1217 : BitVec 32 := 8#32
  let v1066 : BitVec 32 := Scalar.addi c0_i32_1216 c8_i32_1217
  let c1_i32_1218 : BitVec 32 := 1#32
  ⟨c0_i32_1216, v1066, c1_i32_1218⟩
def k0_mult4 (k0_t19 : Fin k0_t19_loop.trips) : BitVec 32 :=
  let c1536_i32_1261 : BitVec 32 := 1536#32
  let c0_i32_1260 : BitVec 32 := 0#32
  let c0_i32_1216 : BitVec 32 := 0#32
  let c1_i32_1218 : BitVec 32 := 1#32
  let arg19 : BitVec 32 := Scf.iv c0_i32_1216 c1_i32_1218 k0_t19
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  v1093
def k0_off31 (k0_t19 : Fin k0_t19_loop.trips) : Fin 3 → Nat :=
  let c0_i32_1216 : BitVec 32 := 0#32
  let c1_i32_1218 : BitVec 32 := 1#32
  let arg19 : BitVec 32 := Scf.iv c0_i32_1216 c1_i32_1218 k0_t19
  let c0_i32_1262 : BitVec 32 := 0#32
  let v1095 : BitVec 1 := Scalar.cmpi .eq arg19 c0_i32_1262
  let c0_i32_1266 : BitVec 32 := 0#32
  let c7_i32_1263 : BitVec 32 := 7#32
  let v1096 : BitVec 1 := Scalar.cmpi .eq arg19 c7_i32_1263
  let c2_i32_1264 : BitVec 32 := 2#32
  let c1_i32_1265 : BitVec 32 := 1#32
  let v1097 : BitVec 32 := Scalar.select v1096 c2_i32_1264 c1_i32_1265
  let v1098 : BitVec 32 := Scalar.select v1095 c0_i32_1266 v1097
  let v1099 : Index := Scalar.indexCast v1098
  let c0_1267 : Index := 0#32
  let c0_1268 : Index := 0#32
  ![v1099.toNat, 0, 0]
@[reducible] def k0_t20_loop : Scf.Loop 32 :=
  let c0_i32_1269 : BitVec 32 := 0#32
  let c2_i32_1270 : BitVec 32 := 2#32
  let v1102 : BitVec 32 := Scalar.addi c0_i32_1269 c2_i32_1270
  let c1_i32_1271 : BitVec 32 := 1#32
  ⟨c0_i32_1269, v1102, c1_i32_1271⟩
def k0_off32 (k0_t19 : Fin k0_t19_loop.trips) (k0_t20 : Fin k0_t20_loop.trips) (c0_i32_1283 : BitVec 32) : Fin 2 → Nat :=
  let c0_i32_1216 : BitVec 32 := 0#32
  let c1_i32_1218 : BitVec 32 := 1#32
  let arg19 : BitVec 32 := Scf.iv c0_i32_1216 c1_i32_1218 k0_t19
  let c256_i32_1257 : BitVec 32 := 256#32
  let v1089 : BitVec 32 := Scalar.muli arg19 c256_i32_1257
  let v1117 : Index := Scalar.indexCast v1089
  let c0_i32_1269 : BitVec 32 := 0#32
  let c1_i32_1271 : BitVec 32 := 1#32
  let arg20 : BitVec 32 := Scf.iv c0_i32_1269 c1_i32_1271 k0_t20
  let c4_i32_1282 : BitVec 32 := 4#32
  let v1114 : BitVec 32 := Scalar.muli arg20 c4_i32_1282
  let v1115 : BitVec 32 := Scalar.addi v1114 c0_i32_1283
  let c128_i32_1284 : BitVec 32 := 128#32
  let v1116 : BitVec 32 := Scalar.muli v1115 c128_i32_1284
  let v1118 : Index := Scalar.indexCast v1116
  ![v1117.toNat, v1118.toNat]
def k0_off33 (k0_t19 : Fin k0_t19_loop.trips) (k0_t20 : Fin k0_t20_loop.trips) (c0_i32_1283 : BitVec 32) : Fin 3 → Nat :=
  let c0_i32_1269 : BitVec 32 := 0#32
  let c1_i32_1271 : BitVec 32 := 1#32
  let arg20 : BitVec 32 := Scf.iv c0_i32_1269 c1_i32_1271 k0_t20
  let c4_i32_1282 : BitVec 32 := 4#32
  let v1114 : BitVec 32 := Scalar.muli arg20 c4_i32_1282
  let v1115 : BitVec 32 := Scalar.addi v1114 c0_i32_1283
  let v1120 : Index := Scalar.indexCast v1115
  let c1536_i32_1261 : BitVec 32 := 1536#32
  let c0_i32_1260 : BitVec 32 := 0#32
  let c0_i32_1216 : BitVec 32 := 0#32
  let c1_i32_1218 : BitVec 32 := 1#32
  let arg19 : BitVec 32 := Scf.iv c0_i32_1216 c1_i32_1218 k0_t19
  let c256_i32_1258 : BitVec 32 := 256#32
  let v1090 : BitVec 32 := Scalar.muli arg19 c256_i32_1258
  let c128_i32_1259 : BitVec 32 := 128#32
  let v1091 : BitVec 32 := Scalar.subi v1090 c128_i32_1259
  let v1092 : BitVec 32 := Scalar.maxsi c0_i32_1260 v1091
  let v1093 : BitVec 32 := Scalar.minsi c1536_i32_1261 v1092
  let v1094 : BitVec 32 := v1093
  let v1121 : Index := Scalar.indexCast v1094
  let c0_1285 : Index := 0#32
  ![v1120.toNat, v1121.toNat, 0]
def k0_off34 (k0_t20 : Fin k0_t20_loop.trips) (c0_i32_1283 : BitVec 32) : Fin 2 → Nat :=
  let c0_1292 : Index := 0#32
  let c0_i32_1269 : BitVec 32 := 0#32
  let c1_i32_1271 : BitVec 32 := 1#32
  let arg20 : BitVec 32 := Scf.iv c0_i32_1269 c1_i32_1271 k0_t20
  let c4_i32_1282 : BitVec 32 := 4#32
  let v1114 : BitVec 32 := Scalar.muli arg20 c4_i32_1282
  let v1115 : BitVec 32 := Scalar.addi v1114 c0_i32_1283
  let c128_i32_1291 : BitVec 32 := 128#32
  let v1140 : BitVec 32 := Scalar.muli v1115 c128_i32_1291
  let v1141 : Index := Scalar.indexCast v1140
  ![0, v1141.toNat]
def k0_off35 (k0_t19 : Fin k0_t19_loop.trips) : Fin 2 → Nat :=
  let c0_i32_1216 : BitVec 32 := 0#32
  let c1_i32_1218 : BitVec 32 := 1#32
  let arg19 : BitVec 32 := Scf.iv c0_i32_1216 c1_i32_1218 k0_t19
  let c256_i32_1257 : BitVec 32 := 256#32
  let v1089 : BitVec 32 := Scalar.muli arg19 c256_i32_1257
  let v1108 : Index := Scalar.indexCast v1089
  let c0_1280 : Index := 0#32
  ![v1108.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x2048x1024 : Shape := ⟨3, ![4, 2048, 1024]⟩
abbrev S1024x4096 : Shape := ⟨2, ![1024, 4096]⟩
abbrev S4x2048x32x128 : Shape := ⟨4, ![4, 2048, 32, 128]⟩
abbrev S4096x1024 : Shape := ⟨2, ![4096, 1024]⟩
abbrev S4x2048x4096 : Shape := ⟨3, ![4, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x32x2048x2048 : Shape := ⟨4, ![4, 32, 2048, 2048]⟩
abbrev S1x1x2048x2048 : Shape := ⟨4, ![1, 1, 2048, 2048]⟩
abbrev S4x32x2048 : Shape := ⟨3, ![4, 32, 2048]⟩
abbrev S4x32x2048x1 : Shape := ⟨4, ![4, 32, 2048, 1]⟩
abbrev S1x1x2048x1 : Shape := ⟨4, ![1, 1, 2048, 1]⟩
abbrev S4x32x128x2048 : Shape := ⟨4, ![4, 32, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x32x128, .f32⟩
  | .hbm, ⟨3, _⟩ => ⟨S4x2048x32x128, .f32⟩
  | .hbm, ⟨4, _⟩ => ⟨S4096x1024, .f32⟩
  | .hbm, ⟨5, _⟩ => ⟨S4x2048x4096, .f32⟩
  | .hbm, ⟨6, _⟩ => ⟨S4x2048x32x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S4x32x2048x2048, .f32⟩
  | .hbm, ⟨19, _⟩ => ⟨S_, .f32⟩
  | .hbm, ⟨20, _⟩ => ⟨S4x32x2048x2048, .f32⟩
  | .hbm, ⟨21, _⟩ => ⟨S4x32x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S4x32x2048x2048, .i1⟩
  | .hbm, ⟨26, _⟩ => ⟨S4x32x2048x2048, .f32⟩
  | .hbm, ⟨27, _⟩ => ⟨S4x32x2048x2048, .f32⟩
  | .hbm, ⟨28, _⟩ => ⟨S_, .f32⟩
  | .hbm, ⟨29, _⟩ => ⟨S4x32x2048, .f32⟩
  | .hbm, ⟨30, _⟩ => ⟨S4x32x2048x1, .f32⟩
  | .hbm, ⟨31, _⟩ => ⟨S4x32x2048x2048, .f32⟩
  | .hbm, ⟨32, _⟩ => ⟨S4x32x2048x2048, .f32⟩
  | .hbm, ⟨33, _⟩ => ⟨S4x32x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S4x32x2048, .f32⟩
  | .hbm, ⟨39, _⟩ => ⟨S4x32x2048x1, .f32⟩
  | .hbm, ⟨40, _⟩ => ⟨S_, .f32⟩
  | .hbm, ⟨41, _⟩ => ⟨S_, .f32⟩
  | .hbm, ⟨42, _⟩ => ⟨S4x32x2048x1, .i1⟩
  | .hbm, ⟨43, _⟩ => ⟨S4x32x2048x1, .f32⟩
  | .hbm, ⟨44, _⟩ => ⟨S4x32x2048x1, .f32⟩
  | .hbm, ⟨45, _⟩ => ⟨S4x32x2048x2048, .f32⟩
  | .hbm, ⟨46, _⟩ => ⟨S4x32x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S4x32x2048x2048, .i1⟩
  | .hbm, ⟨51, _⟩ => ⟨S4x32x2048x2048, .f32⟩
  | .hbm, ⟨52, _⟩ => ⟨S4x32x2048x2048, .f32⟩
  | .hbm, ⟨53, _⟩ => ⟨S4x32x128x2048, .f32⟩
  | .hbm, ⟨54, _⟩ => ⟨S4x2048x32x128, .f32⟩
  | .hbm, ⟨55, _⟩ => ⟨S4x2048x4096, .f32⟩
  | .hbm, ⟨56, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/- The protocol of the ring: devices, buffers, semaphore cells, what each landing hands over, what each device owes. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx

/-!
# The protocol of the four devices

Device `c` holds one quarter of the columns of `Wq` and of the rows of `Wo`. Every device sends both to its right
neighbour `nxt c` and to its left neighbour `prv c`, and passes on to the right what it received from the left, so that
each device sees all four quarters. This module states who signals and waits on which semaphore, by how much, and what
each landing hands over.

* The barrier cell of `c` expects two signals. The one from `nxt c` hands over the buffer `w_fl` of `nxt c`
  (into which `c` will send), the one from `prv c` the buffer `w_fr` of `prv c`.
* `rl 0`, `rl 1`: the two quarters of `prv c` land in `w_fl[0]`; `rr 0`, `rr 1`: the two of `nxt c` land in `w_fr`;
  `rl 2`: both quarters of `prv (prv c)`, forwarded by `prv c`, land in `w_fl[1]`.
* `sr 0..2`, `sl 0..1`: the departures, each giving the source's share back.
-/

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state of the semaphore rounds, and all of the ghost state: the launch's, the rounds', the counters of the
    local copies. -/
abbrev UB : Type := URounds (GSem nD τ sig) Bool
/-- All of the ghost state. -/
abbrev UU : Type := UR sig nD τ × (UB × Counters)

local notation "𝕄" => MT nD τ sig Unit (Elt F) ℕ UU ℕ

/-- The launch's embedding. -/
abbrev EP : Emb (UR sig nD τ) (MT nD τ sig Unit (Elt F) ℕ UU ℕ) := embL

/-- The rounds' embedding. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

/-- The rounds' part lies within the ghost state. -/
instance ER_landsIn : (ER : Emb UB 𝕄).LandsIn (upEmb : UEmb _ 𝕄) := by unfold ER; infer_instance

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
/-- Right, then left, is here. -/
theorem prv_nxt (c : Dev nD) : prv (nxt c) = c := by revert c; decide
/-- Left, then right, is here. -/
theorem nxt_prv (c : Dev nD) : nxt (prv c) = c := by revert c; decide
/-- The neighbours differ. -/
theorem nxt_ne_prv (c : Dev nD) : nxt c ≠ prv c := by revert c; decide
/-- The neighbours differ. -/
theorem prv_ne_nxt (c : Dev nD) : prv c ≠ nxt c := by revert c; decide

/-- The first barrier signal goes left. -/
theorem dev1_eq (c : Dev nD) : (⟨k0_dev1 c, k0_dev1_lt c⟩ : Dev nD) = prv c := by revert c; decide
/-- The second barrier signal goes right. -/
theorem dev2_eq (c : Dev nD) : (⟨k0_dev2 c, k0_dev2_lt c⟩ : Dev nD) = nxt c := by revert c; decide
/-- Wq goes right. -/
theorem dev3_eq (c : Dev nD) : (⟨k0_dev3 c, k0_dev3_lt c⟩ : Dev nD) = nxt c := by revert c; decide
/-- Wo goes right. -/
theorem dev4_eq (c : Dev nD) : (⟨k0_dev4 c, k0_dev4_lt c⟩ : Dev nD) = nxt c := by revert c; decide
/-- Wq goes left. -/
theorem dev5_eq (c : Dev nD) : (⟨k0_dev5 c, k0_dev5_lt c⟩ : Dev nD) = prv c := by revert c; decide
/-- Wo goes left. -/
theorem dev6_eq (c : Dev nD) : (⟨k0_dev6 c, k0_dev6_lt c⟩ : Dev nD) = prv c := by revert c; decide
/-- The forwarded pair goes right. -/
theorem dev7_eq (c : Dev nD) : (⟨k0_dev7 c, k0_dev7_lt c⟩ : Dev nD) = nxt c := by revert c; decide

/-- Going round by one place. -/
def ring : Dev nD ≃ Dev nD := ⟨nxt, prv, prv_nxt, nxt_prv⟩

/-! ## The buffers -/

/-- The staged blocks of x, Wq, Wo, and the result. -/
abbrev xM : Memref sig .tc .vmem S2048x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev outM : Memref sig .tc .vmem S2048x1024 .f32 := Memref.whole cc0_stg3_0
/-- K and V. -/
abbrev kM : Memref sig .tc .hbm S4x2048x32x128 .f32 := Memref.whole main_arg2
abbrev vM : Memref sig .tc .hbm S4x2048x32x128 .f32 := Memref.whole main_arg3
/-- What arrives from the left, what arrives from the right. -/
abbrev flM : Memref sig .tc .vmem S2x2x1024x1024 .bf16 := Memref.whole cc0_scratch0
abbrev frM : Memref sig .tc .vmem S2x1024x1024 .bf16 := Memref.whole cc0_scratch1
abbrev kscM : Memref sig .tc .vmem S8x2048x128 .bf16 := Memref.whole cc0_scratch2
abbrev vscM : Memref sig .tc .vmem S8x2048x128 .bf16 := Memref.whole cc0_scratch3
abbrev fstM : Memref sig .tc .vmem S8x2048x128 .f32 := Memref.whole cc0_scratch4
abbrev qscM : Memref sig .tc .vmem S2048x1024 .bf16 := Memref.whole cc0_scratch5
abbrev ctxM : Memref sig .tc .vmem S256x1024 .bf16 := Memref.whole cc0_scratch6
abbrev mskM : Memref sig .tc .vmem S3x256x512 .bf16 := Memref.whole cc0_scratch7

/-- The pieces of the two arrival buffers that a landing fills. -/
abbrev fl00 : Memref sig .tc .vmem S1024x1024 .bf16 :=
  (flM.slice (Rect.unit (s := S2x2x1024x1024) ![0, 0, 0, 0] S1x1x1024x1024.size inb_S2x2x1024x1024_S1x1x1024x1024_0_0_0_0) (fun _ => rfl)).squeeze S1024x1024 squeezes_S1x1x1024x1024_S1024x1024
abbrev fl01 : Memref sig .tc .vmem S1024x1024 .bf16 :=
  (flM.slice (Rect.unit (s := S2x2x1024x1024) ![0, 1, 0, 0] S1x1x1024x1024.size inb_S2x2x1024x1024_S1x1x1024x1024_0_1_0_0) (fun _ => rfl)).squeeze S1024x1024 squeezes_S1x1x1024x1024_S1024x1024
abbrev fl0 : Memref sig .tc .vmem S2x1024x1024 .bf16 :=
  (flM.slice (Rect.unit (s := S2x2x1024x1024) ![0, 0, 0, 0] S1x2x1024x1024.size inb_S2x2x1024x1024_S1x2x1024x1024_0_0_0_0) (fun _ => rfl)).squeeze S2x1024x1024 squeezes_S1x2x1024x1024_S2x1024x1024
abbrev fl1 : Memref sig .tc .vmem S2x1024x1024 .bf16 :=
  (flM.slice (Rect.unit (s := S2x2x1024x1024) ![1, 0, 0, 0] S1x2x1024x1024.size inb_S2x2x1024x1024_S1x2x1024x1024_1_0_0_0) (fun _ => rfl)).squeeze S2x1024x1024 squeezes_S1x2x1024x1024_S2x1024x1024
abbrev fr0 : Memref sig .tc .vmem S1024x1024 .bf16 :=
  (frM.slice (Rect.unit (s := S2x1024x1024) ![0, 0, 0] S1x1024x1024.size inb_S2x1024x1024_S1x1024x1024_0_0_0) (fun _ => rfl)).squeeze S1024x1024 squeezes_S1x1024x1024_S1024x1024
abbrev fr1 : Memref sig .tc .vmem S1024x1024 .bf16 :=
  (frM.slice (Rect.unit (s := S2x1024x1024) ![1, 0, 0] S1x1024x1024.size inb_S2x1024x1024_S1x1024x1024_1_0_0) (fun _ => rfl)).squeeze S1024x1024 squeezes_S1x1024x1024_S1024x1024

/-! ## The semaphores -/

/-- The barrier semaphore. -/
abbrev barS : Sem sig := (SemArray.scalar (sig.barrier 0 rfl) : Sems sig S_).sem
/-- Departures to the right, to the left; arrivals from the left, from the right. -/
abbrev srS0 : DmaSem sig := ((cc0_scratch8.slice (Rect.unit (s := S3) ![0] S1.size inb_S3_S1_0)).squeeze S_ squeezes_S1_S_).sem
abbrev srS1 : DmaSem sig := ((cc0_scratch8.slice (Rect.unit (s := S3) ![1] S1.size inb_S3_S1_1)).squeeze S_ squeezes_S1_S_).sem
abbrev srS2 : DmaSem sig := ((cc0_scratch8.slice (Rect.unit (s := S3) ![2] S1.size inb_S3_S1_2)).squeeze S_ squeezes_S1_S_).sem
abbrev slS0 : DmaSem sig := ((cc0_scratch9.slice (Rect.unit (s := S2) ![0] S1.size inb_S2_S1_0)).squeeze S_ squeezes_S1_S_).sem
abbrev slS1 : DmaSem sig := ((cc0_scratch9.slice (Rect.unit (s := S2) ![1] S1.size inb_S2_S1_1)).squeeze S_ squeezes_S1_S_).sem
abbrev rlS0 : DmaSem sig := ((cc0_scratch10.slice (Rect.unit (s := S3) ![0] S1.size inb_S3_S1_0)).squeeze S_ squeezes_S1_S_).sem
abbrev rlS1 : DmaSem sig := ((cc0_scratch10.slice (Rect.unit (s := S3) ![1] S1.size inb_S3_S1_1)).squeeze S_ squeezes_S1_S_).sem
abbrev rlS2 : DmaSem sig := ((cc0_scratch10.slice (Rect.unit (s := S3) ![2] S1.size inb_S3_S1_2)).squeeze S_ squeezes_S1_S_).sem
abbrev rrS0 : DmaSem sig := ((cc0_scratch11.slice (Rect.unit (s := S2) ![0] S1.size inb_S2_S1_0)).squeeze S_ squeezes_S1_S_).sem
abbrev rrS1 : DmaSem sig := ((cc0_scratch11.slice (Rect.unit (s := S2) ![1] S1.size inb_S2_S1_1)).squeeze S_ squeezes_S1_S_).sem
/-- The local copies of K (row 0) and V (row 1), one semaphore a head. -/
abbrev kS0 : DmaSem sig := ((cc0_scratch12.slice (Rect.unit (s := S2x8) ![0, 0] S1x1.size inb_S2x8_S1x1_0_0)).squeeze S_ squeezes_S1x1_S_).sem
abbrev kS1 : DmaSem sig := ((cc0_scratch12.slice (Rect.unit (s := S2x8) ![0, 1] S1x1.size inb_S2x8_S1x1_0_1)).squeeze S_ squeezes_S1x1_S_).sem
abbrev kS2 : DmaSem sig := ((cc0_scratch12.slice (Rect.unit (s := S2x8) ![0, 2] S1x1.size inb_S2x8_S1x1_0_2)).squeeze S_ squeezes_S1x1_S_).sem
abbrev kS3 : DmaSem sig := ((cc0_scratch12.slice (Rect.unit (s := S2x8) ![0, 3] S1x1.size inb_S2x8_S1x1_0_3)).squeeze S_ squeezes_S1x1_S_).sem
abbrev kS4 : DmaSem sig := ((cc0_scratch12.slice (Rect.unit (s := S2x8) ![0, 4] S1x1.size inb_S2x8_S1x1_0_4)).squeeze S_ squeezes_S1x1_S_).sem
abbrev kS5 : DmaSem sig := ((cc0_scratch12.slice (Rect.unit (s := S2x8) ![0, 5] S1x1.size inb_S2x8_S1x1_0_5)).squeeze S_ squeezes_S1x1_S_).sem
abbrev kS6 : DmaSem sig := ((cc0_scratch12.slice (Rect.unit (s := S2x8) ![0, 6] S1x1.size inb_S2x8_S1x1_0_6)).squeeze S_ squeezes_S1x1_S_).sem
abbrev kS7 : DmaSem sig := ((cc0_scratch12.slice (Rect.unit (s := S2x8) ![0, 7] S1x1.size inb_S2x8_S1x1_0_7)).squeeze S_ squeezes_S1x1_S_).sem
abbrev vS0 : DmaSem sig := ((cc0_scratch12.slice (Rect.unit (s := S2x8) ![1, 0] S1x1.size inb_S2x8_S1x1_1_0)).squeeze S_ squeezes_S1x1_S_).sem
abbrev vS1 : DmaSem sig := ((cc0_scratch12.slice (Rect.unit (s := S2x8) ![1, 1] S1x1.size inb_S2x8_S1x1_1_1)).squeeze S_ squeezes_S1x1_S_).sem
abbrev vS2 : DmaSem sig := ((cc0_scratch12.slice (Rect.unit (s := S2x8) ![1, 2] S1x1.size inb_S2x8_S1x1_1_2)).squeeze S_ squeezes_S1x1_S_).sem
abbrev vS3 : DmaSem sig := ((cc0_scratch12.slice (Rect.unit (s := S2x8) ![1, 3] S1x1.size inb_S2x8_S1x1_1_3)).squeeze S_ squeezes_S1x1_S_).sem
abbrev vS4 : DmaSem sig := ((cc0_scratch12.slice (Rect.unit (s := S2x8) ![1, 4] S1x1.size inb_S2x8_S1x1_1_4)).squeeze S_ squeezes_S1x1_S_).sem
abbrev vS5 : DmaSem sig := ((cc0_scratch12.slice (Rect.unit (s := S2x8) ![1, 5] S1x1.size inb_S2x8_S1x1_1_5)).squeeze S_ squeezes_S1x1_S_).sem
abbrev vS6 : DmaSem sig := ((cc0_scratch12.slice (Rect.unit (s := S2x8) ![1, 6] S1x1.size inb_S2x8_S1x1_1_6)).squeeze S_ squeezes_S1x1_S_).sem
abbrev vS7 : DmaSem sig := ((cc0_scratch12.slice (Rect.unit (s := S2x8) ![1, 7] S1x1.size inb_S2x8_S1x1_1_7)).squeeze S_ squeezes_S1x1_S_).sem

/-- The eleven semaphores that other devices raise, or whose raise another device's landing times. -/
abbrev osem : Fin 11 → SemLoc sig := fun
  | 0 => .reg barS | 1 => .dma srS0 | 2 => .dma srS1 | 3 => .dma srS2 | 4 => .dma slS0 | 5 => .dma slS1
  | 6 => .dma rlS0 | 7 => .dma rlS1 | 8 => .dma rlS2 | 9 => .dma rrS0 | 10 => .dma rrS1
/-- The cell of one of the eleven semaphores on a device. -/
abbrev kcell (c : Dev nD) (k : Fin 11) : GSem nD τ sig := ((c : Thread nD τ), osem k)

/-- Which of the eleven a semaphore is. -/
def idx (s : SemLoc sig) : Option (Fin 11) := (List.finRange 11).find? (fun k => decide (osem k = s))

/-- Each of the eleven has its own index. -/
theorem idx_osem : ∀ k : Fin 11, idx (osem k) = some k := by decide

/-- The credit of a quarter, and of a pair of quarters. -/
abbrev N1 : ℕ := fl00.view.dmaCredit
/-- The credit of a pair of quarters. -/
abbrev N2 : ℕ := fl1.view.dmaCredit
/-- A quarter's credit is positive. -/
theorem N1_pos : 0 < N1 := View.dmaCredit_pos _ (by decide)
/-- A pair's credit is positive. -/
theorem N2_pos : 0 < N2 := View.dmaCredit_pos _ (by decide)

/-! ## The contents -/

/-- What each device holds: its block of x, its quarters of Wq and Wo, and its copies of K and V. -/
structure Ins (F : FTy → Type) where
  X : Dev nD → Vec F S2048x1024 .bf16
  WQ : Dev nD → Vec F S1024x1024 .bf16
  WO : Dev nD → Vec F S1024x1024 .bf16
  KE : Dev nD → Vec F S4x2048x32x128 .f32
  VE : Dev nD → Vec F S4x2048x32x128 .f32

variable (I : Ins F)

/-- What `w_fl` of device `c` holds once all has arrived: `[0]` the quarters of `prv c`, `[1]` those of `prv (prv c)`. -/
def wflC (c : Dev nD) : Vec F S2x2x1024x1024 .bf16 := fun i =>
  let d := if (i 0).val = 0 then prv c else prv (prv c)
  if (i 1).val = 0 then I.WQ d (ix2 (i 2) (i 3)) else I.WO d (ix2 (i 2) (i 3))

/-- What `w_fr` of device `c` holds once all has arrived: the quarters of `nxt c`. -/
def wfrC (c : Dev nD) : Vec F S2x1024x1024 .bf16 := fun i =>
  if (i 0).val = 0 then I.WQ (nxt c) (ix2 (i 1) (i 2)) else I.WO (nxt c) (ix2 (i 1) (i 2))

/-- A memref's elements on device `c`, held at share `q` with contents `f`. -/
abbrev pt {sp : Space} {s : Shape} {e : EltTy} (m : Memref sig .tc sp s e) (c : Dev nD) (q : PosShare TreeShare)
    (f : Buf (Elt F) (m.view.loc (c : Thread nD τ))) : sProp 𝕄 :=
  m.view.loc (c : Thread nD τ) ↦[m.view.set]{q} f

/-! ## The schedule -/

/-- What a landing on each of the eleven cells of device `c` hands over. -/
def pay (c : Dev nD) : Fin 11 → Bool → sProp 𝕄 := fun
  | 0, true => iprop((∃ f, pt fl00 (nxt c) fullShare f) ∗ (∃ f, pt fl01 (nxt c) fullShare f) ∗ (∃ f, pt fl1 (nxt c) fullShare f)
      ∗ reached ER (kcell (nxt c) 6) 0 ∗ reached ER (kcell (nxt c) 7) 0 ∗ reached ER (kcell (nxt c) 8) 0)
  | 0, false => iprop((∃ f, pt fr0 (prv c) fullShare f) ∗ (∃ f, pt fr1 (prv c) fullShare f)
      ∗ reached ER (kcell (prv c) 9) 0 ∗ reached ER (kcell (prv c) 10) 0)
  | 1, _ => pt wqM c fullShare.left (I.WQ c)
  | 2, _ => pt woM c fullShare.left (I.WO c)
  | 3, _ => pt fl0 c fullShare.left (wflC I c)
  | 4, _ => pt wqM c fullShare.right.left (I.WQ c)
  | 5, _ => pt woM c fullShare.right.left (I.WO c)
  | 6, _ => pt fl00 c fullShare (wflC I c)
  | 7, _ => pt fl01 c fullShare (wflC I c)
  | 8, _ => pt fl1 c fullShare (wflC I c)
  | 9, _ => pt fr0 c fullShare (wfrC I c)
  | 10, _ => pt fr1 c fullShare (wfrC I c)

set_option synthInstance.maxHeartbeats 400000 in
instance pay_storable (c : Dev nD) (k : Fin 11) (d : Bool) : BI.Storable (upEmb : UEmb _ 𝕄) (pay I c k d) := by
  fin_cases k <;> cases d <;> (dsimp only [pay]; infer_instance)

/-- How much each landing adds. -/
def amt : Fin 11 → ℕ := fun k => if k = 0 then 1 else if k = 3 ∨ k = 8 then N2 else N1

/-- Every landing adds something. -/
theorem amt_pos (k : Fin 11) : 0 < amt k := by
  unfold amt; split
  · exact Nat.one_pos
  · split
    · exact N2_pos
    · exact N1_pos

/-- One round on each cell: two signals on the barrier cell, one landing on each of the others. -/
def Rd : Rounds.Schedule (GSem nD τ sig) Bool 𝕄 where
  duties g r := if r = 0 ∧ g.1.2 = .tc then (match idx g.2 with
    | some k => if k = 0 then Finset.univ else {false}
    | none => ∅) else ∅
  unitless _ := False
  amount g _ _ := match idx g.2 with
    | some k => amt k
    | none => 1
  payload g _ d := match idx g.2 with
    | some k => pay I g.1.1 k d
    | none => iprop(emp)
  amount_pos g _ _ _ := by
    split
    · exact amt_pos _
    · exact Nat.one_pos

/-- What a landing hands over may be kept in an invariant. -/
instance Rd_payload_storable (g : GSem nD τ sig) (r : ℕ) (d : Bool) : BI.Storable (upEmb : UEmb _ 𝕄) ((Rd I).payload g r d) := by
  dsimp only [Rd]
  split <;> infer_instance

section Tables
variable (c : Dev nD)

/-- The barrier cell has two duties. -/
theorem duties_bar : (Rd I).duties (kcell c 0) 0 = Finset.univ := by
  dsimp only [Rd]; rw [if_pos ⟨rfl, rfl⟩]; rw [idx_osem 0]; rfl
/-- Every other cell has one. -/
theorem duties_xfer (k : Fin 11) (hk : k ≠ 0) : (Rd I).duties (kcell c k) 0 = {false} := by
  dsimp only [Rd]; rw [if_pos ⟨rfl, rfl⟩]; rw [idx_osem k]; exact if_neg hk
/-- There is one round only. -/
theorem duties_later (g : GSem nD τ sig) : ∀ r, 1 ≤ r → (Rd I).duties g r = ∅ :=
  fun r hr => by dsimp only [Rd]; rw [if_neg fun h => by omega]
/-- The amount of a cell's duties. -/
theorem amount_eq (k : Fin 11) (r : ℕ) (d : Bool) : (Rd I).amount (kcell c k) r d = amt k := by
  dsimp only [Rd]; rw [idx_osem k]
/-- The payload of a cell's duties. -/
theorem payload_eq (k : Fin 11) (r : ℕ) (d : Bool) : (Rd I).payload (kcell c k) r d = pay I c k d := by
  dsimp only [Rd]; rw [idx_osem k]
/-- The barrier expects two signals. -/
theorem expect_bar : (Rd I).expect (kcell c 0) 0 = 2 := by
  unfold Schedule.expect Schedule.amountOf
  rw [duties_bar, Finset.sum_congr rfl fun d _ => amount_eq I c 0 0 d, Finset.sum_const, Finset.card_univ, Fintype.card_bool]; rfl
/-- Every other cell expects one landing. -/
theorem expect_xfer (k : Fin 11) (hk : k ≠ 0) : (Rd I).expect (kcell c k) 0 = amt k := by
  unfold Schedule.expect Schedule.amountOf; rw [duties_xfer I c k hk, Finset.sum_singleton, amount_eq]
/-- What both signals hand over. -/
theorem rest_bar : bigSep ((Rd I).duties (kcell c 0) 0 \ ∅) (fun d => (Rd I).payload (kcell c 0) 0 d) = iprop(pay I c 0 false ∗ pay I c 0 true) := by
  rw [Finset.sdiff_empty, duties_bar, bigSep_univ_eq_bigSepL [false, true] (by decide) (by decide), bigSepL_cons_cons, bigSepL_singleton,
    payload_eq, payload_eq]
  rfl
/-- What a landing hands over. -/
theorem rest_xfer (k : Fin 11) (hk : k ≠ 0) :
    bigSep ((Rd I).duties (kcell c k) 0 \ ∅) (fun d => (Rd I).payload (kcell c k) 0 d) = pay I c k false := by
  rw [Finset.sdiff_empty, duties_xfer I c k hk, bigSep_singleton, payload_eq]

end Tables

/-! ## What a device owes, and the levels -/

/-- Device `c` owes, innermost first (last paid): the forwarded pair to `nxt c`; its quarters to `prv c`; its quarters to
    `nxt c`; the signal to `nxt c`; the signal to `prv c`. -/
def D1 (c : Dev nD) : CellTallies nD τ sig Unit := tallyAt (kcell (nxt c) 8) () N2
/-- With its quarter of Wo, to the left. -/
def D2 (c : Dev nD) : CellTallies nD τ sig Unit := D1 c + tallyAt (kcell (prv c) 10) () N1
/-- With its quarter of Wq, to the left. -/
def D3 (c : Dev nD) : CellTallies nD τ sig Unit := D2 c + tallyAt (kcell (prv c) 9) () N1
/-- With its quarter of Wo, to the right. -/
def D4 (c : Dev nD) : CellTallies nD τ sig Unit := D3 c + tallyAt (kcell (nxt c) 7) () N1
/-- With its quarter of Wq, to the right. -/
def D5 (c : Dev nD) : CellTallies nD τ sig Unit := D4 c + tallyAt (kcell (nxt c) 6) () N1
/-- With the barrier signal to the right. -/
def D6 (c : Dev nD) : CellTallies nD τ sig Unit := D5 c + tallyAt (kcell (nxt c) 0) () 1
/-- With the barrier signal to the left: all that a device owes. -/
def D7 (c : Dev nD) : CellTallies nD τ sig Unit := D6 c + tallyAt (kcell (prv c) 0) () 1

/-- The tally indices a cell may be waited at. -/
def L (g : GSem nD τ sig) : Finset Unit := if g.1.2 = .tc then {()} else ∅
/-- The level of a semaphore: the barrier 1, the arrivals of the first exchange 2, the forwarded arrival 3, the rest 0. -/
def slev (s : SemLoc sig) : ℕ := match idx s with
  | some k => if k = 0 then 1 else if k = 8 then 3 else if 6 ≤ k then 2 else 0
  | none => 0
/-- The level of a cell. -/
def lv (g : GSem nD τ sig) (_ : Unit) : ℕ := slev g.2

/-- The levels of the eleven semaphores. -/
theorem slev_osem (k : Fin 11) : slev (osem k) = if k = 0 then 1 else if k = 8 then 3 else if 6 ≤ k then 2 else 0 := by
  unfold slev; rw [idx_osem]

/-- Only the devices themselves wait. -/
theorem L_of_ne (g : GSem nD τ sig) (h : g.1.2 ≠ .tc) : L g = ∅ := if_neg h
/-- A device waits on its own cells. -/
theorem L_tc (c : Dev nD) (sm : SemLoc sig) : L ((c : Thread nD τ), sm) = {()} := if_pos rfl

/-- The last debt is on the right neighbour's forwarded arrival. -/
theorem D1_pos {c : Dev nD} {g : GSem nD τ sig} {u : Unit} (h : 0 < D1 c g u) : g = kcell (nxt c) 8 := by
  unfold D1 at h
  rw [tallyAt_apply] at h
  by_contra hn
  rw [if_neg (fun h' => hn h'.1)] at h
  exact Nat.lt_irrefl 0 h

/-- A debt in a sum is in one of its parts. -/
theorem add_pos_cases {O : CellTallies nD τ sig Unit} {g' g : GSem nD τ sig} {n : ℕ} {u : Unit}
    (h : 0 < (O + tallyAt g' () n) g u) : 0 < O g u ∨ g = g' := by
  rw [Pi.add_apply, Finsupp.add_apply, tallyAt_apply] at h
  by_cases hg : g = g'
  · exact .inr hg
  · rw [if_neg (fun h' => hg h'.1), Nat.add_zero] at h; exact .inl h

/-- After its signals a device owes arrivals only, at levels 2 and 3. -/
theorem D5_pos {c : Dev nD} {g : GSem nD τ sig} {u : Unit} (h : 0 < D5 c g u) : g.1.2 = .tc ∧ 1 < lv g u := by
  have key : ∀ (d : Dev nD) (k : Fin 11), 6 ≤ k → (kcell d k).1.2 = .tc ∧ 1 < lv (kcell d k) u := fun d k hk => by
    refine ⟨rfl, ?_⟩
    show 1 < slev (osem k)
    rw [slev_osem]; revert k; decide
  rcases add_pos_cases h with h | rfl
  · rcases add_pos_cases h with h | rfl
    · rcases add_pos_cases h with h | rfl
      · rcases add_pos_cases h with h | rfl
        · rw [D1_pos h]; exact key _ 8 (by decide)
        · exact key _ 10 (by decide)
      · exact key _ 9 (by decide)
    · exact key _ 7 (by decide)
  · exact key _ 6 (by decide)

/-- All a device owes at launch is owed at positive levels. -/
theorem D7_pos {c : Dev nD} {g : GSem nD τ sig} {u : Unit} (h : 0 < D7 c g u) : g.1.2 = .tc ∧ 0 < lv g u := by
  have key : ∀ (d : Dev nD), (kcell d 0).1.2 = .tc ∧ 0 < lv (kcell d 0) u := fun d => by
    refine ⟨rfl, ?_⟩
    show 0 < slev (osem 0)
    rw [slev_osem]; decide
  rcases add_pos_cases h with h | rfl
  · rcases add_pos_cases h with h | rfl
    · exact ⟨(D5_pos h).1, by have := (D5_pos h).2; omega⟩
    · exact key _
  · exact key _

/-- A wait is allowed below everything that is owed. -/
theorem mayWait_of (c : Dev nD) (sm : SemLoc sig) (b : ℕ) (hs : slev sm ≤ b) (O : CellTallies nD τ sig Unit)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

/-- A wait for a staging copy, before the body. -/
theorem mayWait_stage (c : Dev nD) (q : DmaSem sig) (hq : slev (.dma q) = 0) :
    (levAts L lv : sProp 𝕄) ⊢ MayWait (c : Thread nD τ) (.dma q) () (D7 c) :=
  mayWait_of c _ 0 hq.le _ fun g u hg => D7_pos hg
/-- The barrier wait: only arrivals are owed. -/
theorem mayWait_bar (c : Dev nD) : (levAts L lv : sProp 𝕄) ⊢ MayWait (c : Thread nD τ) (.reg barS) () (D5 c) :=
  mayWait_of c _ 1 (by show slev (osem 0) ≤ 1; rw [slev_osem]; decide) _ fun g u hg => D5_pos hg
/-- A wait on any semaphore of level at most 2, the forwarded pair still owed. -/
theorem mayWait_low (c : Dev nD) (q : DmaSem sig) (hq : slev (.dma q) ≤ 2) :
    (levAts L lv : sProp 𝕄) ⊢ MayWait (c : Thread nD τ) (.dma q) () (D1 c) :=
  mayWait_of c _ 2 hq _ fun g u hg => by
    rw [D1_pos hg]
    refine ⟨rfl, ?_⟩
    show 2 < slev (osem 8)
    rw [slev_osem]; decide

end Cert.Proof
-- ==== Proof.State.lean ====
/- The loops' states, and the slices that they read and write. -/
module

public import proofs.«01_k».proof.Proof.Proto
public import Idealize.ShloMosaic.Lib.WritesUnit
public import Idealize.ShloMosaic.Lib.VecWindow
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-! # What each loop of the kernel leaves in the buffer it writes

The functions below give the contents of the scratch buffers after each stage of the attention over one head group:
converted keys or values, projected queries, the context of one block of query rows, and the output. The `_step` lemmas
say that one trip's store carries the state after `n` trips to the state after `n + 1`. -/

/-- The two halves of the second arrival slot. -/
abbrev fl10 : Memref sig .tc .vmem S1024x1024 .bf16 :=
  (flM.slice (Rect.unit (s := S2x2x1024x1024) ![1, 0, 0, 0] S1x1x1024x1024.size inb_S2x2x1024x1024_S1x1x1024x1024_1_0_0_0) (fun _ => rfl)).squeeze S1024x1024 squeezes_S1x1x1024x1024_S1024x1024
/-- The second quarter of the forwarded pair. -/
abbrev fl11 : Memref sig .tc .vmem S1024x1024 .bf16 :=
  (flM.slice (Rect.unit (s := S2x2x1024x1024) ![1, 1, 0, 0] S1x1x1024x1024.size inb_S2x2x1024x1024_S1x1x1024x1024_1_1_0_0) (fun _ => rfl)).squeeze S1024x1024 squeezes_S1x1x1024x1024_S1024x1024

/-- The first index of the key window of query block `n`. -/
def kst (n : ℕ) : ℕ := min 1536 (256 * n - 128)

/-- The mask the query block `n` uses. -/
def midx (n : ℕ) : ℕ := if n = 0 then 0 else if n = 7 then 2 else 1

/-- A window of keys ends within the sequence. -/
theorem kst_le (n : ℕ) : kst n ≤ 1536 := Nat.min_le_left _ _

/-- There are three masks. -/
theorem midx_lt (n : ℕ) : midx n < 3 := by unfold midx; split <;> [skip; split] <;> omega

/-- Head `h` of a buffer of eight heads. -/
def plane {e : EltTy} (f : Vec F S8x2048x128 e) (h : Fin 8) : Vec F S1x2048x128 e := fun j => f (ix3 h (j 1) (j 2))

/-- Eight heads converted one by one. -/
def convAll (f : Vec F S8x2048x128 .f32) : Vec F S8x2048x128 .bf16 :=
  fun i => k0_pay30 (plane f (i 0)) (ix3 0 (i 1) (i 2))

/-- The first `n` heads converted, the others as they were. -/
def convSt (f : Vec F S8x2048x128 .f32) (g : Vec F S8x2048x128 .bf16) : ℕ → Vec F S8x2048x128 .bf16
  | 0 => g
  | n + 1 => fun i => if (i 0).val < n + 1 then convAll f i else g i

/-- The rounding loop's state at an entry: done below head `n`, as before from there on. -/
theorem convSt_apply (f : Vec F S8x2048x128 .f32) (g : Vec F S8x2048x128 .bf16) (n : ℕ) (i) :
    convSt f g n i = if (i 0).val < n then convAll f i else g i := by
  cases n
  · exact (if_neg (Nat.not_lt_zero _)).symm
  · rfl

/-- Rows `256 n …` of a matrix of 2048 rows. -/
def rowsOf {e : EltTy} (X : Vec F S2048x1024 e) (n : Fin 8) : Vec F S256x1024 e :=
  fun j => X (ix2 ⟨256 * n.val + (j 0).val, by have := n.isLt; have : (j 0).val < 256 := (j 0).isLt; omega⟩ (j 1))

/-- The block of 256 rows holding row `i`. -/
def blk (i : Fin 2048) : Fin 8 := ⟨i.val / 256, by have := i.isLt; omega⟩

/-- The place of row `i` in its block. -/
def inBlk (i : Fin 2048) : Fin 256 := ⟨i.val % 256, Nat.mod_lt _ (by decide)⟩

/-- The queries, projected block by block. -/
def qAll (X : Vec F S2048x1024 .bf16) (W : Vec F S1024x1024 .bf16) : Vec F S2048x1024 .bf16 :=
  fun i => k0_pay31 (rowsOf X (blk (i 0))) W (ix2 (inBlk (i 0)) (i 1))

/-- The first `n` blocks of rows from `N`, the others from `g`. -/
def rowSt {e : EltTy} (N g : Vec F S2048x1024 e) : ℕ → Vec F S2048x1024 e
  | 0 => g
  | n + 1 => fun i => if (i 0).val < 256 * (n + 1) then N i else g i

/-- A row-block loop's state at an entry: done below row block `n`, as before from there on. -/
theorem rowSt_apply {e : EltTy} (N g : Vec F S2048x1024 e) (n : ℕ) (i) :
    rowSt N g n i = if (i 0).val < 256 * n then N i else g i := by
  cases n
  · exact (if_neg (Nat.not_lt_zero _)).symm
  · rfl

/-- The queries of block `n`, head `h`. -/
def qTile (Q : Vec F S2048x1024 .bf16) (n h : Fin 8) : Vec F S256x128 .bf16 :=
  fun j => Q (ix2 ⟨256 * n.val + (j 0).val, by have := n.isLt; have : (j 0).val < 256 := (j 0).isLt; omega⟩
    ⟨128 * h.val + (j 1).val, by have := h.isLt; have : (j 1).val < 128 := (j 1).isLt; omega⟩)

/-- The keys (or values) of head `h` in the window of query block `n`. -/
def kTile (K : Vec F S8x2048x128 .bf16) (n h : Fin 8) : Vec F S1x512x128 .bf16 :=
  fun j => K (ix3 h ⟨kst n + (j 1).val, by have := kst_le n; have : (j 1).val < 512 := (j 1).isLt; omega⟩ (j 2))

/-- The mask of query block `n`. -/
def mTile (M : Vec F S3x256x512 .bf16) (n : Fin 8) : Vec F S1x256x512 .bf16 :=
  fun j => M (ix3 ⟨midx n, midx_lt n⟩ (j 1) (j 2))

/-- The head holding column `i`. -/
def hd (i : Fin 1024) : Fin 8 := ⟨i.val / 128, by have := i.isLt; omega⟩

/-- The place of column `i` in its head. -/
def inHd (i : Fin 1024) : Fin 128 := ⟨i.val % 128, Nat.mod_lt _ (by decide)⟩

/-- The context rows of query block `n`: one tile per head. -/
def ctxBlk (o : FVec F S512x128 .bf16) (M : Vec F S3x256x512 .bf16) (Q : Vec F S2048x1024 .bf16) (K V : Vec F S8x2048x128 .bf16) (n : Fin 8) :
    Vec F S256x1024 .bf16 :=
  fun i => k0_pay1 o (k0_pay33 (mTile M n)) (qTile Q n (hd (i 1))) (kTile K n (hd (i 1))) (kTile V n (hd (i 1)))
    (ix2 (i 0) (inHd (i 1)))

/-- The first `512 n` columns from `N`, the others from `g`. -/
def colSt (N g : Vec F S256x1024 .bf16) : ℕ → Vec F S256x1024 .bf16
  | 0 => g
  | n + 1 => fun i => if (i 1).val < 512 * (n + 1) then N i else g i

/-- The context loop's state at an entry: done in the first `n` groups of four heads, as before from there on. -/
theorem colSt_apply (N g : Vec F S256x1024 .bf16) (n : ℕ) (i) :
    colSt N g n i = if (i 1).val < 512 * n then N i else g i := by
  cases n
  · exact (if_neg (Nat.not_lt_zero _)).symm
  · rfl

/-- The output of the first head group: context times the output projection. -/
def outFst (o : FVec F S512x128 .bf16) (M : Vec F S3x256x512 .bf16) (Q : Vec F S2048x1024 .bf16) (K V : Vec F S8x2048x128 .bf16)
    (W : Vec F S1024x1024 .bf16) : Vec F S2048x1024 .f32 :=
  fun i => k0_pay36 (ctxBlk o M Q K V (blk (i 0))) W (ix2 (inBlk (i 0)) (i 1))

/-- The output after a later head group: what stood there plus context times the output projection. -/
def outAcc (o : FVec F S512x128 .bf16) (M : Vec F S3x256x512 .bf16) (Q : Vec F S2048x1024 .bf16) (K V : Vec F S8x2048x128 .bf16)
    (W : Vec F S1024x1024 .bf16) (g : Vec F S2048x1024 .f32) : Vec F S2048x1024 .f32 :=
  fun i => k0_pay43 (ctxBlk o M Q K V (blk (i 0))) W (rowsOf g (blk (i 0))) (ix2 (inBlk (i 0)) (i 1))

/-- The three masks: leftmost, middle and rightmost query blocks. -/
def masks (m0 m1 m2 : FVec F S1x256x512 .bf16) : Vec F S3x256x512 .bf16 :=
  fun i => if (i 0).val = 0 then m0 (ix3 0 (i 1) (i 2)) else if (i 0).val = 1 then m1 (ix3 0 (i 1) (i 2)) else m2 (ix3 0 (i 1) (i 2))

/-- After eight heads all are rounded. -/
theorem convSt_eight (f : Vec F S8x2048x128 .f32) (g) : convSt f g 8 = convAll f := by
  funext i; exact if_pos (show (i 0).val < 8 from (i 0).isLt)

/-- After eight row blocks all rows are done. -/
theorem rowSt_eight {e : EltTy} (N g : Vec F S2048x1024 e) : rowSt N g 8 = N := by
  funext i; exact if_pos (show (i 0).val < 256 * 8 from (i 0).isLt)

/-- After two groups all columns are done. -/
theorem colSt_two (N g : Vec F S256x1024 .bf16) : colSt N g 2 = N := by
  funext i; exact if_pos (show (i 1).val < 512 * 2 from (i 1).isLt)

/-- Reading after one head-sized block was written at head `k`. -/
theorem read_plane {κ : Kind} {sp : Space} {e : EltTy} {Val : EltTy → Type} (v : View sig κ sp S8x2048x128 e)
    (f : v.ty.Contents Val) {off : Fin 3 → ℕ} {inb} (w : S1x2048x128.Idx → Val e) (k : ℕ) (h : off = ![k, 0, 0])
    (y : S8x2048x128.Idx) :
    v.read Val (v.writes Val f [⟨Rect.unit (s := S8x2048x128) off S1x2048x128.size inb, w⟩]) y
      = if (y 0).val = k then w (ix3 0 (y 1) (y 2)) else v.read Val f y := by
  by_cases hy : (y 0).val = k
  · rw [if_pos hy]
    refine (View.read_writes_cons_unit_of_mem v f inb w [] y (ix3 0 (y 1) (y 2)) h ?_)
    intro a
    fin_cases a
    · show (y 0).val = k + 0; omega
    · show (y 1).val = 0 + (y 1).val; omega
    · show (y 2).val = 0 + (y 2).val; omega
  · rw [if_neg hy]
    refine (View.read_writes_cons_unit_of_not_mem v f inb w [] y h (0 : Fin 3) ?_).trans (by rw [View.writes_nil])
    show (y 0).val < k ∨ k + 1 ≤ (y 0).val
    omega

/-- Reading after one block of 256 whole rows was written at block `k`. -/
theorem read_rows {κ : Kind} {sp : Space} {e : EltTy} {Val : EltTy → Type} (v : View sig κ sp S2048x1024 e)
    (f : v.ty.Contents Val) {off : Fin 2 → ℕ} {inb} (w : S256x1024.Idx → Val e) (k : ℕ) (h : off = ![256 * k, 0])
    (y : S2048x1024.Idx) :
    v.read Val (v.writes Val f [⟨Rect.unit (s := S2048x1024) off S256x1024.size inb, w⟩]) y
      = if (y 0).val / 256 = k then w (ix2 (inBlk (y 0)) (y 1)) else v.read Val f y := by
  by_cases hy : (y 0).val / 256 = k
  · rw [if_pos hy]
    refine (View.read_writes_cons_unit_of_mem v f inb w [] y (ix2 (inBlk (y 0)) (y 1)) h ?_)
    intro a
    fin_cases a
    · show (y 0).val = 256 * k + (y 0).val % 256; omega
    · show (y 1).val = 0 + (y 1).val; omega
  · rw [if_neg hy]
    refine (View.read_writes_cons_unit_of_not_mem v f inb w [] y h (0 : Fin 2) ?_).trans (by rw [View.writes_nil])
    show (y 0).val < 256 * k ∨ 256 * k + 256 ≤ (y 0).val
    omega

/-- What a load of one head reads. -/
theorem readAt_plane (f : Vec F S8x2048x128 .f32) {off : Fin 3 → ℕ} {inb} (k : Fin 8) (h : off = ![k.val, 0, 0]) :
    View.readAt (Elt F) fstM.view (Rect.unit (s := S8x2048x128) off S1x2048x128.size inb).toLoadRect f = plane f k := by
  subst h
  funext j
  show f _ = f _
  congr 1
  funext a
  fin_cases a
  · exact Fin.ext (show k.val + 1 * (j 0).val = k.val by have : (j 0).val < 1 := (j 0).isLt; omega)
  · exact Fin.ext (show 0 + 1 * (j 1).val = (j 1).val by omega)
  · exact Fin.ext (show 0 + 1 * (j 2).val = (j 2).val by omega)

/-- One trip of a conversion loop into the key buffer. -/
theorem kconv_step (f : Vec F S8x2048x128 .f32) (g : Vec F S8x2048x128 .bf16) {off : Fin 3 → ℕ} {inb} {inb'} (k : ℕ)
    (hk : k < 8) (h : off = ![k, 0, 0]) :
    convSt f g (k + 1) = kscM.view.writes (Elt F) (convSt f g k) [⟨Rect.unit (s := S8x2048x128) off S1x2048x128.size inb,
      k0_pay30 (View.readAt (Elt F) fstM.view (Rect.unit (s := S8x2048x128) off S1x2048x128.size inb').toLoadRect f)⟩] := by
  rw [readAt_plane f ⟨k, hk⟩ h]
  funext y
  have e := read_plane (Val := Elt F) kscM.view (convSt f g k) (inb := inb) (k0_pay30 (plane f ⟨k, hk⟩)) k h y
  rw [View.read_whole] at e
  refine Eq.trans ?_ e.symm
  rw [View.read_whole]
  rw [convSt_apply, convSt_apply]
  by_cases h1 : (y 0).val = k
  · rw [if_pos (by omega), if_pos h1]
    have : y 0 = (⟨k, hk⟩ : Fin 8) := Fin.ext h1
    unfold convAll
    rw [this]
  · rw [if_neg h1]
    by_cases h2 : (y 0).val < k
    · rw [if_pos (by omega), if_pos h2]
    · rw [if_neg (by omega), if_neg h2]

/-- One trip of a conversion loop into the value buffer. -/
theorem vconv_step (f : Vec F S8x2048x128 .f32) (g : Vec F S8x2048x128 .bf16) {off : Fin 3 → ℕ} {inb} {inb'} (k : ℕ)
    (hk : k < 8) (h : off = ![k, 0, 0]) :
    convSt f g (k + 1) = vscM.view.writes (Elt F) (convSt f g k) [⟨Rect.unit (s := S8x2048x128) off S1x2048x128.size inb,
      k0_pay30 (View.readAt (Elt F) fstM.view (Rect.unit (s := S8x2048x128) off S1x2048x128.size inb').toLoadRect f)⟩] := by
  rw [readAt_plane f ⟨k, hk⟩ h]
  funext y
  have e := read_plane (Val := Elt F) vscM.view (convSt f g k) (inb := inb) (k0_pay30 (plane f ⟨k, hk⟩)) k h y
  rw [View.read_whole] at e
  refine Eq.trans ?_ e.symm
  rw [View.read_whole]
  rw [convSt_apply, convSt_apply]
  by_cases h1 : (y 0).val = k
  · rw [if_pos (by omega), if_pos h1]
    have : y 0 = (⟨k, hk⟩ : Fin 8) := Fin.ext h1
    unfold convAll
    rw [this]
  · rw [if_neg h1]
    by_cases h2 : (y 0).val < k
    · rw [if_pos (by omega), if_pos h2]
    · rw [if_neg (by omega), if_neg h2]

/-- What a load of one block of rows of the inputs reads. -/
theorem readAt_rows_x (X : Vec F S2048x1024 .bf16) {off : Fin 2 → ℕ} {inb} (k : Fin 8) (h : off = ![256 * k.val, 0]) :
    View.readAt (Elt F) xM.view (Rect.unit (s := S2048x1024) off S256x1024.size inb).toLoadRect X = rowsOf X k := by
  subst h
  funext j
  show X _ = X _
  congr 1
  funext a
  fin_cases a
  · exact Fin.ext (show 256 * k.val + 1 * (j 0).val = 256 * k.val + (j 0).val by omega)
  · exact Fin.ext (show 0 + 1 * (j 1).val = (j 1).val by omega)

/-- What a load of one block of rows of the output reads. -/
theorem readAt_rows_out (X : Vec F S2048x1024 .f32) {off : Fin 2 → ℕ} {inb} (k : Fin 8) (h : off = ![256 * k.val, 0]) :
    View.readAt (Elt F) outM.view (Rect.unit (s := S2048x1024) off S256x1024.size inb).toLoadRect X = rowsOf X k := by
  subst h
  funext j
  show X _ = X _
  congr 1
  funext a
  fin_cases a
  · exact Fin.ext (show 256 * k.val + 1 * (j 0).val = 256 * k.val + (j 0).val by omega)
  · exact Fin.ext (show 0 + 1 * (j 1).val = (j 1).val by omega)

/-- What a load of one head's queries reads. -/
theorem readAt_q (Q : Vec F S2048x1024 .bf16) {off : Fin 2 → ℕ} {inb} (n h : Fin 8)
    (e : off = ![256 * n.val, 128 * h.val]) :
    View.readAt (Elt F) qscM.view (Rect.unit (s := S2048x1024) off S256x128.size inb).toLoadRect Q = qTile Q n h := by
  subst e
  funext j
  show Q _ = Q _
  congr 1
  funext a
  fin_cases a
  · exact Fin.ext (show 256 * n.val + 1 * (j 0).val = 256 * n.val + (j 0).val by omega)
  · exact Fin.ext (show 128 * h.val + 1 * (j 1).val = 128 * h.val + (j 1).val by omega)

/-- What a load of one head's key window reads. -/
theorem readAt_k (K : Vec F S8x2048x128 .bf16) {off : Fin 3 → ℕ} {inb} (n h : Fin 8) (e : off = ![h.val, kst n, 0]) :
    View.readAt (Elt F) kscM.view (Rect.unit (s := S8x2048x128) off S1x512x128.size inb).toLoadRect K = kTile K n h := by
  subst e
  funext j
  show K _ = K _
  congr 1
  funext a
  fin_cases a
  · exact Fin.ext (show h.val + 1 * (j 0).val = h.val by have : (j 0).val < 1 := (j 0).isLt; omega)
  · exact Fin.ext (show kst n + 1 * (j 1).val = kst n + (j 1).val by omega)
  · exact Fin.ext (show 0 + 1 * (j 2).val = (j 2).val by omega)

/-- What a load of one head's value window reads. -/
theorem readAt_v (K : Vec F S8x2048x128 .bf16) {off : Fin 3 → ℕ} {inb} (n h : Fin 8) (e : off = ![h.val, kst n, 0]) :
    View.readAt (Elt F) vscM.view (Rect.unit (s := S8x2048x128) off S1x512x128.size inb).toLoadRect K = kTile K n h :=
  readAt_k K (inb := inb) n h e

/-- What a load of a query block's mask reads. -/
theorem readAt_m (M : Vec F S3x256x512 .bf16) {off : Fin 3 → ℕ} {inb} (n : Fin 8) (e : off = ![midx n, 0, 0]) :
    View.readAt (Elt F) mskM.view (Rect.unit (s := S3x256x512) off S1x256x512.size inb).toLoadRect M = mTile M n := by
  subst e
  funext j
  show M _ = M _
  congr 1
  funext a
  fin_cases a
  · exact Fin.ext (show midx n + 1 * (j 0).val = midx n by have : (j 0).val < 1 := (j 0).isLt; omega)
  · exact Fin.ext (show 0 + 1 * (j 1).val = (j 1).val by omega)
  · exact Fin.ext (show 0 + 1 * (j 2).val = (j 2).val by omega)

/-- One more row block is done. -/
theorem row_step {e : EltTy} (N g : Vec F S2048x1024 e) (k : ℕ) (y : S2048x1024.Idx) (w : Elt F e) (hw : (y 0).val / 256 = k → w = N y) :
    rowSt N g (k + 1) y = if (y 0).val / 256 = k then w else rowSt N g k y := by
  rw [rowSt_apply, rowSt_apply]
  by_cases h1 : (y 0).val / 256 = k
  · rw [if_pos (by omega), if_pos h1, hw h1]
  · rw [if_neg h1]
    by_cases h2 : (y 0).val < 256 * k
    · rw [if_pos (by omega), if_pos h2]
    · rw [if_neg (by omega), if_neg h2]

/-- One trip of a query projection. -/
theorem q_step (X : Vec F S2048x1024 .bf16) (W : Vec F S1024x1024 .bf16) (g : Vec F S2048x1024 .bf16) {off : Fin 2 → ℕ}
    {inb} {inb'} (k : ℕ) (hk : k < 8) (h : off = ![256 * k, 0]) :
    rowSt (qAll X W) g (k + 1) = qscM.view.writes (Elt F) (rowSt (qAll X W) g k)
      [⟨Rect.unit (s := S2048x1024) off S256x1024.size inb,
        k0_pay31 (View.readAt (Elt F) xM.view (Rect.unit (s := S2048x1024) off S256x1024.size inb').toLoadRect X) W⟩] := by
  rw [readAt_rows_x X ⟨k, hk⟩ h]
  funext y
  have e := read_rows (Val := Elt F) qscM.view (rowSt (qAll X W) g k) (inb := inb) (k0_pay31 (rowsOf X ⟨k, hk⟩) W) k h y
  rw [View.read_whole] at e
  refine Eq.trans ?_ e.symm
  rw [View.read_whole]
  refine row_step _ _ _ _ _ fun h1 => ?_
  have : blk (y 0) = (⟨k, hk⟩ : Fin 8) := Fin.ext h1
  unfold qAll
  rw [this]

/-- One trip of the first head group's output loop. -/
theorem outFst_step (o : FVec F S512x128 .bf16) (M : Vec F S3x256x512 .bf16) (Q : Vec F S2048x1024 .bf16) (K V : Vec F S8x2048x128 .bf16)
    (W : Vec F S1024x1024 .bf16) (g : Vec F S2048x1024 .f32) {off : Fin 2 → ℕ} {inb} (k : ℕ) (hk : k < 8) (h : off = ![256 * k, 0]) :
    rowSt (outFst o M Q K V W) g (k + 1) = outM.view.writes (Elt F) (rowSt (outFst o M Q K V W) g k)
      [⟨Rect.unit (s := S2048x1024) off S256x1024.size inb, k0_pay36 (ctxBlk o M Q K V ⟨k, hk⟩) W⟩] := by
  funext y
  have e := read_rows (Val := Elt F) outM.view (rowSt (outFst o M Q K V W) g k) (inb := inb) (k0_pay36 (ctxBlk o M Q K V ⟨k, hk⟩) W) k h y
  rw [View.read_whole] at e
  refine Eq.trans ?_ e.symm
  rw [View.read_whole]
  refine row_step _ _ _ _ _ fun h1 => ?_
  have : blk (y 0) = (⟨k, hk⟩ : Fin 8) := Fin.ext h1
  unfold outFst
  rw [this]

/-- A block of rows not yet reached is as it was. -/
theorem rowsOf_rowSt {e : EltTy} (N g : Vec F S2048x1024 e) (k : Fin 8) : rowsOf (rowSt N g k.val) k = rowsOf g k := by
  funext j
  exact (rowSt_apply _ _ _ _).trans (if_neg (show ¬ 256 * k.val + (j 0).val < 256 * k.val by omega))

/-- One trip of a later head group's output loop. -/
theorem outAcc_step (o : FVec F S512x128 .bf16) (M : Vec F S3x256x512 .bf16) (Q : Vec F S2048x1024 .bf16) (K V : Vec F S8x2048x128 .bf16)
    (W : Vec F S1024x1024 .bf16) (g : Vec F S2048x1024 .f32) {off : Fin 2 → ℕ} {inb} {inb'} (k : ℕ) (hk : k < 8) (h : off = ![256 * k, 0]) :
    rowSt (outAcc o M Q K V W g) g (k + 1) = outM.view.writes (Elt F) (rowSt (outAcc o M Q K V W g) g k)
      [⟨Rect.unit (s := S2048x1024) off S256x1024.size inb, k0_pay43 (ctxBlk o M Q K V ⟨k, hk⟩) W
        (View.readAt (Elt F) outM.view (Rect.unit (s := S2048x1024) off S256x1024.size inb').toLoadRect (rowSt (outAcc o M Q K V W g) g k))⟩] := by
  rw [readAt_rows_out _ ⟨k, hk⟩ h, rowsOf_rowSt _ g ⟨k, hk⟩]
  funext y
  have e := read_rows (Val := Elt F) outM.view (rowSt (outAcc o M Q K V W g) g k) (inb := inb)
    (k0_pay43 (ctxBlk o M Q K V ⟨k, hk⟩) W (rowsOf g ⟨k, hk⟩)) k h y
  rw [View.read_whole] at e
  refine Eq.trans ?_ e.symm
  rw [View.read_whole]
  refine row_step _ _ _ _ _ fun h1 => ?_
  have : blk (y 0) = (⟨k, hk⟩ : Fin 8) := Fin.ext h1
  unfold outAcc
  rw [this]

/-- Reading after one tile of 128 columns was written over what the list `L` left. -/
theorem read_tile {κ : Kind} {sp : Space} {e : EltTy} {Val : EltTy → Type} (v : View sig κ sp S256x1024 e)
    (f : v.ty.Contents Val) {off : Fin 2 → ℕ} {inb} (w : S256x128.Idx → Val e) (L) (k : ℕ) (h : off = ![0, 128 * k])
    (y : S256x1024.Idx) :
    v.read Val (v.writes Val f (⟨Rect.unit (s := S256x1024) off S256x128.size inb, w⟩ :: L)) y
      = if (y 1).val / 128 = k then w (ix2 (y 0) (inHd (y 1))) else v.read Val (v.writes Val f L) y := by
  by_cases hy : (y 1).val / 128 = k
  · rw [if_pos hy]
    refine (View.read_writes_cons_unit_of_mem v f inb w L y (ix2 (y 0) (inHd (y 1))) h ?_)
    intro a
    fin_cases a
    · show (y 0).val = 0 + (y 0).val; omega
    · show (y 1).val = 128 * k + (y 1).val % 128; omega
  · rw [if_neg hy]
    refine (View.read_writes_cons_unit_of_not_mem v f inb w L y h (1 : Fin 2) ?_)
    show (y 1).val < 128 * k ∨ 128 * k + 128 ≤ (y 1).val
    omega

/-- One trip of a head loop: four tiles of the context. -/
theorem ctx_step (N g : Vec F S256x1024 .bf16) {off0 off1 off2 off3 : Fin 2 → ℕ} {inb0 inb1 inb2 inb3} (k : ℕ)
    (w0 w1 w2 w3 : S256x128.Idx → Elt F .bf16)
    (h0 : off0 = ![0, 512 * k + 128 * 0]) (h1 : off1 = ![0, 512 * k + 128 * 1]) (h2 : off2 = ![0, 512 * k + 128 * 2])
    (h3 : off3 = ![0, 512 * k + 128 * 3])
    (e0 : ∀ y : S256x1024.Idx, (y 1).val / 128 = 4 * k + 0 → w0 (ix2 (y 0) (inHd (y 1))) = N y)
    (e1 : ∀ y : S256x1024.Idx, (y 1).val / 128 = 4 * k + 1 → w1 (ix2 (y 0) (inHd (y 1))) = N y)
    (e2 : ∀ y : S256x1024.Idx, (y 1).val / 128 = 4 * k + 2 → w2 (ix2 (y 0) (inHd (y 1))) = N y)
    (e3 : ∀ y : S256x1024.Idx, (y 1).val / 128 = 4 * k + 3 → w3 (ix2 (y 0) (inHd (y 1))) = N y) :
    colSt N g (k + 1) = ctxM.view.writes (Elt F) (colSt N g k)
      [⟨Rect.unit (s := S256x1024) off3 S256x128.size inb3, w3⟩, ⟨Rect.unit (s := S256x1024) off2 S256x128.size inb2, w2⟩,
       ⟨Rect.unit (s := S256x1024) off1 S256x128.size inb1, w1⟩, ⟨Rect.unit (s := S256x1024) off0 S256x128.size inb0, w0⟩] := by
  have g0 : off0 = ![0, 128 * (4 * k + 0)] := h0.trans (by congr 2; omega)
  have g1 : off1 = ![0, 128 * (4 * k + 1)] := h1.trans (by congr 2; omega)
  have g2 : off2 = ![0, 128 * (4 * k + 2)] := h2.trans (by congr 2; omega)
  have g3 : off3 = ![0, 128 * (4 * k + 3)] := h3.trans (by congr 2; omega)
  funext y
  have e := read_tile (Val := Elt F) ctxM.view (colSt N g k) (inb := inb3) w3
    [⟨Rect.unit (s := S256x1024) off2 S256x128.size inb2, w2⟩,
       ⟨Rect.unit (s := S256x1024) off1 S256x128.size inb1, w1⟩, ⟨Rect.unit (s := S256x1024) off0 S256x128.size inb0, w0⟩] (4 * k + 3) g3 y
  rw [read_tile (Val := Elt F) ctxM.view (colSt N g k) (inb := inb2) w2 _ (4 * k + 2) g2 y,
    read_tile (Val := Elt F) ctxM.view (colSt N g k) (inb := inb1) w1 _ (4 * k + 1) g1 y,
    read_tile (Val := Elt F) ctxM.view (colSt N g k) (inb := inb0) w0 _ (4 * k + 0) g0 y, View.writes_nil, View.read_whole, View.read_whole] at e
  refine Eq.trans ?_ e.symm
  rw [colSt_apply, colSt_apply]
  by_cases c3 : (y 1).val / 128 = 4 * k + 3
  · rw [if_pos c3, if_pos (by omega), e3 y c3]
  rw [if_neg c3]
  by_cases c2 : (y 1).val / 128 = 4 * k + 2
  · rw [if_pos c2, if_pos (by omega), e2 y c2]
  rw [if_neg c2]
  by_cases c1 : (y 1).val / 128 = 4 * k + 1
  · rw [if_pos c1, if_pos (by omega), e1 y c1]
  rw [if_neg c1]
  by_cases c0 : (y 1).val / 128 = 4 * k + 0
  · rw [if_pos c0, if_pos (by omega), e0 y c0]
  rw [if_neg c0]
  by_cases c : (y 1).val < 512 * k
  · rw [if_pos c, if_pos (by omega)]
  · rw [if_neg c, if_neg (by omega)]

/-- One head's tile of the context is where the block's context has it. -/
theorem ctx_tile (o : FVec F S512x128 .bf16) (M : Vec F S3x256x512 .bf16) (Q : Vec F S2048x1024 .bf16)
    (K V : Vec F S8x2048x128 .bf16) (n h : Fin 8) (m : FVec F S256x512 .bf16) (q k v) (hm : m = k0_pay33 (mTile M n))
    (hq : q = qTile Q n h) (hk : k = kTile K n h) (hv : v = kTile V n h) (y : S256x1024.Idx) (hy : (y 1).val / 128 = h.val) :
    k0_pay1 o m q k v (ix2 (y 0) (inHd (y 1))) = ctxBlk o M Q K V n y := by
  subst hm hq hk hv
  have : hd (y 1) = h := Fin.ext hy
  unfold ctxBlk
  rw [this]

/-- A cast to the same shape changes nothing. -/
theorem castSame {s : Shape} {α : Type} (x : s.Idx → α) (h : s.ShapeCasts s) : shapeCast s x h = x := by
  funext j
  exact shapeCast_apply x h j j rfl

/-- The later head groups' projection is the first one's. -/
theorem pay38_eq (x : Vec F S256x1024 .bf16) (w : Vec F S1024x1024 .bf16) : k0_pay31 x w = k0_pay38 x w := by
  unfold k0_pay31 k0_pay38
  rw [castSame w]

end Cert.Proof
-- ==== Proof.Tiles.lean ====
/- The kernel's stored tiles and payloads, entry by entry. -/
module

public import proofs.«01_k».proof.Proof.State
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- Ideal float arrays. -/
abbrev IF (s : Shape) (φ : FTy) := FVec Idealize.ShloMosaic.Ideal s φ

/-- A row block times a projection, as the first product computes it: the sum over 1024 columns. -/
theorem pay36_at (a : IF S256x1024 .bf16) (W : IF S1024x1024 .bf16) (i : Fin 256) (j : Fin 1024) :
    k0_pay36 (F := Idealize.ShloMosaic.Ideal) a W (ValueIdx.ix2 i j) = ∑ k : Fin 1024, a (ValueIdx.ix2 i k) * W (ValueIdx.ix2 k j) := by
  unfold k0_pay36
  simp only [pointwise, ← ix2_eq_valueIdx, zero_add]

/-- A later product with a projection: what was accumulated before plus the sum over 1024 columns. -/
theorem pay43_at (a : IF S256x1024 .bf16) (W : IF S1024x1024 .bf16) (g : IF S256x1024 .f32) (i : Fin 256) (j : Fin 1024) :
    k0_pay43 (F := Idealize.ShloMosaic.Ideal) a W g (ValueIdx.ix2 i j) =
      g (ValueIdx.ix2 i j) + ∑ k : Fin 1024, a (ValueIdx.ix2 i k) * W (ValueIdx.ix2 k j) := by
  unfold k0_pay43
  simp only [pointwise, ← ix2_eq_valueIdx, zero_add]

/-- The projected queries of a row block, at an entry: the sum over 1024 columns. -/
theorem pay31_at (a : IF S256x1024 .bf16) (W : IF S1024x1024 .bf16) (i : Fin 256) (j : Fin 1024) :
    k0_pay31 (F := Idealize.ShloMosaic.Ideal) a W (ValueIdx.ix2 i j) = ∑ k : Fin 1024, a (ValueIdx.ix2 i k) * W (ValueIdx.ix2 k j) := by
  unfold k0_pay31
  simp only [pointwise, ← ix2_eq_valueIdx, zero_add]

/-- A head plane of keys or values rounded: the entry itself. -/
theorem pay30_at (a : IF S1x2048x128 .f32) (i : Fin 2048) (j : Fin 128) :
    k0_pay30 (F := Idealize.ShloMosaic.Ideal) a (ValueIdx.ix3 0 i j) = a (ValueIdx.ix3 0 i j) := by
  unfold k0_pay30
  simp only [pointwise, ← ix3_eq_valueIdx]

/-- A stored plane of the mask read back: the entry itself. -/
theorem pay33_at (a : IF S1x256x512 .bf16) (i : Fin 256) (j : Fin 512) :
    k0_pay33 (F := Idealize.ShloMosaic.Ideal) a (ValueIdx.ix2 i j) = a (ValueIdx.ix3 0 i j) := by
  unfold k0_pay33
  simp only [pointwise, ← ix3_eq_valueIdx, ← ix2_eq_valueIdx]

/-- One tile of context: the weighted values over the window times the reciprocal of the weights' sum. -/
theorem pay1_at (o : IF S512x128 .bf16) (M : IF S256x512 .bf16) (q : IF S256x128 .bf16) (k v : IF S1x512x128 .bf16) (i : Fin 256) (j : Fin 128) :
    k0_pay1 (F := Idealize.ShloMosaic.Ideal) o M q k v (ValueIdx.ix2 i j) =
      (∑ x : Fin 512, Ideal.exp (∑ e : Fin 128, q (ValueIdx.ix2 i e) * k (ValueIdx.ix3 0 x e) + M (ValueIdx.ix2 i x)) * v (ValueIdx.ix3 0 x j)) *
      Ideal.div 1 (∑ x : Fin 512, Ideal.exp (∑ e : Fin 128, q (ValueIdx.ix2 i e) * k (ValueIdx.ix3 0 x e) + M (ValueIdx.ix2 i x)) * o (ValueIdx.ix2 x 0)) := by
  unfold k0_pay1
  simp only [pointwise, ← ix3_eq_valueIdx, ← ix2_eq_valueIdx, zero_add]
  refine congrArg (_ * ·) (congrArg (Ideal.div 1) (Finset.sum_congr rfl fun x _ => ?_))
  exact congrArg (fun r : Fin 256 => Ideal.exp (∑ e : Fin 128, q (ix2 r e) * k (ix3 0 x e) + M (ix2 r x)) * o (ix2 x 0))
    (Fin.ext (Nat.zero_add _) : (⟨0 + i.val, by omega⟩ : Fin 256) = i)

/-- Row `a` may look at key `b`. -/
def inW (a b : ℕ) : Prop := a ≤ b + 128 ∧ b ≤ a + 128

/-- Whether a key lies in the window of a query can be decided. -/
instance (a b : ℕ) : Decidable (inW a b) := by unfold inW; infer_instance

/-- The word comparison behind every mask: the distance of two positions is at most 128. -/
theorem cmp_inW (a b : ℕ) (ha : a < 4096) (hb : b < 4096) :
    IntOp.cmpi .sle (IntOp.absi (IntOp.subi (BitVec.ofNat 32 a) (BitVec.ofNat 32 b))) 128#32 = if inW a b then 1#1 else 0#1 := by
  have e : ∀ n : ℕ, n < 4096 → (BitVec.ofNat 32 n).toNat = n := fun n hn => by simp; omega
  have key : (IntOp.absi (IntOp.subi (BitVec.ofNat 32 a) (BitVec.ofNat 32 b))) = BitVec.ofNat 32 ((a - b) + (b - a)) := by
    unfold IntOp.absi IntOp.subi
    rcases Nat.le_total b a with h | h
    · have : BitVec.ofNat 32 a - BitVec.ofNat 32 b = BitVec.ofNat 32 (a - b) := by
        apply BitVec.eq_of_toNat_eq; rw [BitVec.toNat_sub]; simp only [e a ha, e b hb]; rw [e _ (by omega)]; omega
      rw [this, if_neg, Nat.sub_eq_zero_of_le h, Nat.add_zero]
      rw [BitVec.msb_eq_decide, e _ (by omega)]; simp; omega
    · have : BitVec.ofNat 32 a - BitVec.ofNat 32 b = - BitVec.ofNat 32 (b - a) := by
        apply BitVec.eq_of_toNat_eq; rw [BitVec.toNat_sub, BitVec.toNat_neg]; simp only [e a ha, e b hb]; rw [e _ (by omega)]; omega
      rw [this, Nat.sub_eq_zero_of_le h, Nat.zero_add]
      rcases Nat.eq_or_lt_of_le h with rfl | h'
      · rw [Nat.sub_self]; rfl
      · rw [if_pos, BitVec.neg_neg]
        rw [BitVec.msb_eq_decide, BitVec.toNat_neg, e _ (by omega)]; simp; omega
  rw [key]
  unfold IntOp.cmpi
  have : (BitVec.ofNat 32 ((a - b) + (b - a))).sle 128#32 = decide (inW a b) := by
    have e1 : (BitVec.ofNat 32 ((a - b) + (b - a))).toInt = (((a - b) + (b - a) : ℕ) : ℤ) := by
      rw [BitVec.toInt_eq_toNat_of_lt (by rw [e _ (by omega)]; omega), e _ (by omega)]
    rw [BitVec.sle, e1]
    have e2 : (128#32).toInt = 128 := rfl
    rw [e2]; unfold inW
    apply decide_eq_decide.mpr; omega
  simp only [this]
  by_cases hh : inW a b <;> simp [hh]

/-- A mask's value: nothing added where the row may look, minus infinity elsewhere. -/
theorem sel_inW (a b a' b' : ℕ) (h : a + a' < 4096) (h' : b + b' < 4096) :
    Scalar.select (IntOp.cmpi .sle (IntOp.absi (IntOp.subi (IntOp.addi (BitVec.ofNat 32 a) (BitVec.ofNat 32 a'))
      (IntOp.addi (BitVec.ofNat 32 b) (BitVec.ofNat 32 b')))) 128#32) (0 : EReal)
      (Named.named (F := Idealize.ShloMosaic.Ideal) (φ := .f32) κ "mask" 4048155338#32) = if inW (a + a') (b + b') then 0 else ⊥ := by
  unfold IntOp.addi
  rw [← BitVec.ofNat_add, ← BitVec.ofNat_add, cmp_inW _ _ h h']
  have hm : (Named.named (F := Idealize.ShloMosaic.Ideal) (φ := .f32) κ "mask" 4048155338#32) = (⊥ : EReal) := rfl
  rw [hm]
  by_cases hh : inW (a + a') (b + b') <;> simp [hh, Scalar.select]

/-- The mask of the first row block, at an entry: zero in the window of its query, minus infinity outside. -/
theorem pay25_at (i : Fin 256) (j : Fin 512) :
    k0_pay25 (F := Idealize.ShloMosaic.Ideal) (ValueIdx.ix3 0 i j) = if inW (0 + i.val) (0 + j.val) then 0 else ⊥ := by
  unfold k0_pay25
  simp only [pointwise, ← ix3_eq_valueIdx, ← ix2_eq_valueIdx, List.foldl_cons, List.foldl_nil, Nat.zero_mul, Nat.zero_add]
  have h := sel_inW 0 0 i.val j.val (by omega) (by omega)
  simp only [Nat.zero_add] at h
  exact h

/-- The mask of a middle row block, at an entry: zero in the window of its query, minus infinity outside. -/
theorem pay26_at (i : Fin 256) (j : Fin 512) :
    k0_pay26 (F := Idealize.ShloMosaic.Ideal) (ValueIdx.ix3 0 i j) = if inW (256 + i.val) (128 + j.val) then 0 else ⊥ := by
  unfold k0_pay26
  simp only [pointwise, ← ix3_eq_valueIdx, ← ix2_eq_valueIdx, List.foldl_cons, List.foldl_nil, Nat.zero_mul, Nat.zero_add]
  exact sel_inW 256 128 i.val j.val (by omega) (by omega)

/-- The mask of the last row block, at an entry: zero in the window of its query, minus infinity outside. -/
theorem pay28_at (i : Fin 256) (j : Fin 512) :
    k0_pay28 (F := Idealize.ShloMosaic.Ideal) k0_pay27 (iota .tc S256x512 32 [1] iota_S256x512_d1_w32) 1536#32 (ValueIdx.ix3 0 i j) =
      if inW (1792 + i.val) (1536 + j.val) then 0 else ⊥ := by
  unfold k0_pay28 k0_pay27
  simp only [pointwise, ← ix3_eq_valueIdx, ← ix2_eq_valueIdx, List.foldl_cons, List.foldl_nil, Nat.zero_mul, Nat.zero_add]
  exact sel_inW 1792 1536 i.val j.val (by omega) (by omega)

/-- The column of ones: one at every entry. -/
theorem pay29_at (i) : k0_pay29 (F := Idealize.ShloMosaic.Ideal) i = (1 : EReal) := by
  unfold k0_pay29
  simp only [pointwise]

end Cert.Proof
-- ==== Proof.Soft.lean ====
/- The softmax over a window of real scores: with the largest score subtracted or not, it is the same quotient. -/
module

public import proofs.«01_k».proof.Proof.Tiles
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- The unnormalised weight of key `j` for row `i` with scores `t`. -/
def wt (t : Fin 2048 → ℝ) (i j : Fin 2048) : ℝ := if inW i j then Real.exp (t j) else 0

/-- The sum of row `i`'s weights. -/
def wsum (t : Fin 2048 → ℝ) (i : Fin 2048) : ℝ := ∑ j, wt t i j

/-- The weighted mean of `V` for row `i`: each key in the window with its share of the weights. -/
def soft (t : Fin 2048 → ℝ) (i : Fin 2048) (V : Fin 2048 → EReal) : EReal := ∑ j, V j * ((wt t i j / wsum t i : ℝ) : EReal)

/-- A weight is not negative. -/
theorem wt_nonneg (t : Fin 2048 → ℝ) (i j : Fin 2048) : 0 ≤ wt t i j := by
  unfold wt; split
  · exact (Real.exp_pos _).le
  · exact le_rfl

/-- The weights of a row have a positive sum. -/
theorem wsum_pos (t : Fin 2048 → ℝ) (i : Fin 2048) : 0 < wsum t i := by
  refine Finset.sum_pos' (fun j _ => wt_nonneg t i j) ⟨i, Finset.mem_univ _, ?_⟩
  unfold wt; rw [if_pos (by unfold inW; omega)]; exact Real.exp_pos _

/-- A nonnegative real factor goes into a sum. -/
theorem sum_mul_coe {ι : Type} (s : Finset ι) (f : ι → EReal) (c : ℝ) (hc : 0 ≤ c) : (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals is a real. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The exponential of a real number. -/
theorem exp_coe (r : ℝ) : Ideal.exp (r : EReal) = ((Real.exp r : ℝ) : EReal) := rfl

/-- The exponential of minus infinity is zero. -/
theorem exp_bot : Ideal.exp (⊥ : EReal) = 0 := rfl

/-- The quotient of real numbers, where the divisor is not zero. -/
theorem div_real (x y : ℝ) (hy : y ≠ 0) : Ideal.div (x : EReal) (y : EReal) = ((x / y : ℝ) : EReal) := by
  rw [Ideal.div_coe hy, ← EReal.coe_mul, mul_one_div]

/-- The weights as the kernel has them: the exponential of the score with the mask added. -/
theorem exp_mask (t : Fin 2048 → ℝ) (i j : Fin 2048) :
    Ideal.exp ((t j : EReal) + (if inW i j then 0 else ⊥)) = ((wt t i j : ℝ) : EReal) := by
  unfold wt
  by_cases h : inW i j
  · rw [if_pos h, if_pos h, add_zero, exp_coe]
  · rw [if_neg h, if_neg h, EReal.add_bot, exp_bot, EReal.coe_zero]

/-- Key `x` of the window of the row block `n`. -/
def winKey (n : Fin 8) (x : Fin 512) : Fin 2048 := ⟨kst n + x.val, by have := kst_le n; omega⟩

/-- A sum over a row's window is the sum over all keys, when the keys out of reach count nothing. -/
theorem sum_win (i : Fin 2048) (g : Fin 2048 → EReal) (hg : ∀ j : Fin 2048, ¬ inW i j → g j = 0) :
    ∑ x : Fin 512, g (winKey (blk i) x) = ∑ j : Fin 2048, g j := by
  refine Finset.sum_of_injOn (winKey (blk i)) ?_ (fun _ _ => Finset.mem_coe.mpr (Finset.mem_univ _)) ?_ (fun _ _ => rfl)
  · intro a _ b _ h
    have := congrArg Fin.val h
    simp only [winKey] at this
    exact Fin.ext (by omega)
  · intro j _ hj
    refine hg j fun hw => hj ?_
    have hi := i.isLt
    have hjl := j.isLt
    have h1 : kst (blk i) ≤ j.val ∧ j.val < kst (blk i) + 512 := by
      unfold inW at hw; simp only [kst, blk]; omega
    exact ⟨⟨j.val - kst (blk i), by omega⟩, Finset.mem_coe.mpr (Finset.mem_univ _), Fin.ext (by simp only [winKey]; omega)⟩

/-- The kernel's tile: the windowed weighted sum times the reciprocal of the windowed sum of weights. -/
theorem kernel_soft (t : Fin 2048 → ℝ) (i : Fin 2048) (V : Fin 2048 → EReal) :
    (∑ x : Fin 512, Ideal.exp ((t (winKey (blk i) x) : EReal) + (if inW i (winKey (blk i) x) then 0 else ⊥)) * V (winKey (blk i) x)) *
      Ideal.div 1 (∑ x : Fin 512, Ideal.exp ((t (winKey (blk i) x) : EReal) + (if inW i (winKey (blk i) x) then 0 else ⊥)) * 1) = soft t i V := by
  have h0 : ∀ j : Fin 2048, ¬ inW i j → ((wt t i j : ℝ) : EReal) = 0 := fun j h => by unfold wt; rw [if_neg h, EReal.coe_zero]
  have e1 : (∑ x : Fin 512, Ideal.exp ((t (winKey (blk i) x) : EReal) + (if inW i (winKey (blk i) x) then 0 else ⊥)) * V (winKey (blk i) x)) =
      ∑ j : Fin 2048, ((wt t i j : ℝ) : EReal) * V j := by
    rw [← sum_win i (fun j => ((wt t i j : ℝ) : EReal) * V j) (fun j h => by simp only [h0 j h, zero_mul])]
    exact Finset.sum_congr rfl fun x _ => by rw [exp_mask]
  have e2 : (∑ x : Fin 512, Ideal.exp ((t (winKey (blk i) x) : EReal) + (if inW i (winKey (blk i) x) then 0 else ⊥)) * 1) = ((wsum t i : ℝ) : EReal) := by
    rw [wsum, ← sum_coe, ← sum_win i (fun j => ((wt t i j : ℝ) : EReal)) (fun j h => h0 j h)]
    exact Finset.sum_congr rfl fun x _ => by rw [exp_mask, mul_one]
  have hp := wsum_pos t i
  rw [e1, e2, ← EReal.coe_one, div_real _ _ hp.ne', sum_mul_coe _ _ _ (by positivity)]
  refine Finset.sum_congr rfl fun j _ => ?_
  rw [mul_comm (((wt t i j : ℝ) : EReal)) (V j), mul_assoc, ← EReal.coe_mul, mul_one_div]

/-- The reference's row: the scores with minus infinity out of reach, less a real, exponentiated and divided by their sum. -/
theorem reference_soft (t : Fin 2048 → ℝ) (i : Fin 2048) (V : Fin 2048 → EReal) (μ : ℝ) :
    ∑ j : Fin 2048, V j * Ideal.div (Ideal.exp ((if inW i j then (t j : EReal) else ⊥) - (μ : EReal)))
      (∑ k : Fin 2048, Ideal.exp ((if inW i k then (t k : EReal) else ⊥) - (μ : EReal))) = soft t i V := by
  have e : ∀ j : Fin 2048, Ideal.exp ((if inW i j then (t j : EReal) else ⊥) - (μ : EReal)) = ((wt t i j * Real.exp (-μ) : ℝ) : EReal) := by
    intro j
    unfold wt
    by_cases h : inW i j
    · rw [if_pos h, if_pos h, ← EReal.coe_sub, exp_coe, sub_eq_add_neg, Real.exp_add]
    · rw [if_neg h, if_neg h, EReal.bot_sub, exp_bot, zero_mul, EReal.coe_zero]
  have s : (∑ k : Fin 2048, Ideal.exp ((if inW i k then (t k : EReal) else ⊥) - (μ : EReal))) = ((wsum t i * Real.exp (-μ) : ℝ) : EReal) := by
    rw [wsum, Finset.sum_mul, ← sum_coe]; exact Finset.sum_congr rfl fun j _ => e j
  have hp := wsum_pos t i
  have hx := Real.exp_pos (-μ)
  unfold soft
  refine Finset.sum_congr rfl fun j _ => ?_
  rw [s, e j, div_real _ _ (mul_pos hp hx).ne', mul_div_mul_right _ _ hx.ne']

/-- The greatest of a row's masked scores is a real. -/
theorem max_real (t : Fin 2048 → ℝ) (i : Fin 2048) :
    ∃ μ : ℝ, (Finset.univ : Finset (Fin 2048)).fold max (⊥ : EReal) (fun j : Fin 2048 => if inW i j then (t j : EReal) else ⊥) = (μ : EReal) := by
  have h : (Finset.univ : Finset (Fin 2048)).fold max (⊥ : EReal) (fun j : Fin 2048 => if inW i j then (t j : EReal) else ⊥) =
      Finset.univ.sup (fun j : Fin 2048 => if inW i j then (t j : EReal) else ⊥) := rfl
  rw [h]
  have lo : ((t i : ℝ) : EReal) ≤ Finset.univ.sup (fun j : Fin 2048 => if inW i j then (t j : EReal) else ⊥) := by
    have := Finset.le_sup (f := fun j : Fin 2048 => if inW i j then (t j : EReal) else ⊥) (Finset.mem_univ i)
    rwa [if_pos (by unfold inW; omega)] at this
  have hi : Finset.univ.sup (fun j : Fin 2048 => if inW i j then (t j : EReal) else ⊥) < ⊤ := by
    rw [Finset.sup_lt_iff (by exact bot_lt_top)]
    intro j _
    split
    · exact EReal.coe_lt_top _
    · exact bot_lt_top
  exact ⟨_, (EReal.coe_toReal hi.ne (ne_of_gt (lt_of_lt_of_le (EReal.bot_lt_coe _) lo))).symm⟩

end Cert.Proof
-- ==== Proof.Finite.lean ====
/- What the precondition says: the queries, Wq and the keys are real numbers. -/
module

public import proofs.«01_k».proof.Defs
public import proofs.«01_k».proof.Proof.Soft
public import Idealize.ShloMosaic.Lib.ReduceAll
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- The shapes of the precondition's function, read of one device's blocks, fit. -/
theorem preFactsK : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S4x2048x32x128 := by decide
  reducesTo_S4x2048x32x128_S_d0_1_2_3 := by decide

/-- The shapes of the precondition's function, read of the whole arrays, fit. -/
theorem preFactsR : Cert.Pre_finite_ReferenceIdeal.Facts where
  bcast_S_S4x2048x1024 := by decide
  reducesTo_S4x2048x1024_S_d0_1_2 := by decide
  h_S_ := by decide
  bcast_S_S1024x4096 := by decide
  reducesTo_S1024x4096_S_d0_1 := by decide
  bcast_S_S4x2048x32x128 := by decide
  reducesTo_S4x2048x32x128_S_d0_1_2_3 := by decide

/-- A value whose magnitude is less than infinity is a real. -/
theorem real_of_lt (a : EReal) (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  induction a using EReal.rec with
  | bot => simp [Ideal.cmp] at h
  | top => simp [Ideal.cmp] at h
  | coe r => exact ⟨r, rfl⟩

/-- A conjunction that is one has both parts one. -/
theorem and_one {x y : BitVec 1} (h : IntOp.andi x y = 1#1) : x = 1#1 ∧ y = 1#1 := by revert x y; decide

/-- Under the precondition the entries of the device's rows of x, of its columns of Wq and of the keys are reals. -/
theorem reals_of_pre (a0 : IF S1x2048x1024 .f32) (a1 : IF S1024x1024 .f32) (a2 a3 : IF S4x2048x32x128 .f32) (a4 : IF S1024x1024 .f32)
    (h : @Cert.Pre_finite_KernelIdeal.fn preFactsK Idealize.ShloMosaic.Ideal _ a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun i => i.elim0)
  obtain ⟨h1, h2⟩ := and_one h0
  obtain ⟨h3, h4⟩ := and_one h1
  haveI : Subsingleton S_.Idx := ⟨fun a b => funext fun i => i.elim0⟩
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

/-- The scale's float is a real. -/
theorem scale_real : ∃ s : ℝ, Ideal.ofBits .f32 0x3DB504F3#32 = (s : EReal) := by
  simp [Ideal.ofBits, Ideal.ieee]
  exact ⟨_, rfl⟩

end Cert.Proof
-- ==== Proof.Views.lean ====
/- The arrival buffers piece by piece. -/
module

public import proofs.«01_k».proof.Proof.State

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-! # The arrival buffers piece by piece

    Which elements of an arrival buffer each landing fills, what those elements are read as, and how the pieces and the
    shares of the pieces come apart and together. -/

/-! ## Where the pieces lie -/

/-- The place of a quarter's element in `w_fl`. -/
theorem fl_emb_quarter (a b : Fin 2) {off : Fin 4 → ℕ} {inb} (h : off = ![a.val, b.val, 0, 0]) (y : S1024x1024.Idx) :
    ((flM.slice (Rect.unit (s := S2x2x1024x1024) off S1x1x1024x1024.size inb) (fun _ => rfl)).squeeze S1024x1024
      squeezes_S1x1x1024x1024_S1024x1024).view.emb y = ix4 a b (y 0) (y 1) := by
  subst h
  have e : Shape.reshapeEquiv (s := S1x1x1024x1024) (s' := S1024x1024) (by decide) y = ix4 0 0 (y 0) (y 1) :=
    Shape.reshapeEquiv_eq_of_rowMajor _ (by
      refine (Shape.rowMajor_val_four _).trans (Eq.trans ?_ (Shape.rowMajor_val_two _).symm)
      show ((0 * 1 + 0) * 1024 + (y 0).val) * 1024 + (y 1).val = (y 0).val * 1024 + (y 1).val
      omega)
  show (Rect.unit (s := S2x2x1024x1024) _ S1x1x1024x1024.size inb).emb (Shape.reshapeEquiv _ y) = _
  refine (congrArg _ e).trans ?_
  funext i
  fin_cases i
  · exact Fin.ext (show a.val + 1 * 0 = a.val by omega)
  · exact Fin.ext (show b.val + 1 * 0 = b.val by omega)
  · exact Fin.ext (show 0 + 1 * (y 0).val = (y 0).val by omega)
  · exact Fin.ext (show 0 + 1 * (y 1).val = (y 1).val by omega)

/-- The place of a pair's element in `w_fl`. -/
theorem fl_emb_pair (a : Fin 2) {off : Fin 4 → ℕ} {inb} (h : off = ![a.val, 0, 0, 0]) (y : S2x1024x1024.Idx) :
    ((flM.slice (Rect.unit (s := S2x2x1024x1024) off S1x2x1024x1024.size inb) (fun _ => rfl)).squeeze S2x1024x1024
      squeezes_S1x2x1024x1024_S2x1024x1024).view.emb y = ix4 a (y 0) (y 1) (y 2) := by
  subst h
  have e : Shape.reshapeEquiv (s := S1x2x1024x1024) (s' := S2x1024x1024) (by decide) y = ix4 0 (y 0) (y 1) (y 2) :=
    Shape.reshapeEquiv_eq_of_rowMajor _ (by
      refine (Shape.rowMajor_val_four _).trans (Eq.trans ?_ (Shape.rowMajor_val_three _).symm)
      show ((0 * 2 + (y 0).val) * 1024 + (y 1).val) * 1024 + (y 2).val = ((y 0).val * 1024 + (y 1).val) * 1024 + (y 2).val
      omega)
  show (Rect.unit (s := S2x2x1024x1024) _ S1x2x1024x1024.size inb).emb (Shape.reshapeEquiv _ y) = _
  refine (congrArg _ e).trans ?_
  funext i
  fin_cases i
  · exact Fin.ext (show a.val + 1 * 0 = a.val by omega)
  · exact Fin.ext (show 0 + 1 * (y 0).val = (y 0).val by omega)
  · exact Fin.ext (show 0 + 1 * (y 1).val = (y 1).val by omega)
  · exact Fin.ext (show 0 + 1 * (y 2).val = (y 2).val by omega)

/-- The place of a quarter's element in `w_fr`. -/
theorem fr_emb_quarter (a : Fin 2) {off : Fin 3 → ℕ} {inb} (h : off = ![a.val, 0, 0]) (y : S1024x1024.Idx) :
    ((frM.slice (Rect.unit (s := S2x1024x1024) off S1x1024x1024.size inb) (fun _ => rfl)).squeeze S1024x1024
      squeezes_S1x1024x1024_S1024x1024).view.emb y = ix3 a (y 0) (y 1) := by
  subst h
  have e : Shape.reshapeEquiv (s := S1x1024x1024) (s' := S1024x1024) (by decide) y = ix3 0 (y 0) (y 1) :=
    Shape.reshapeEquiv_eq_of_rowMajor _ (by
      refine (Shape.rowMajor_val_three _).trans (Eq.trans ?_ (Shape.rowMajor_val_two _).symm)
      show (0 * 1024 + (y 0).val) * 1024 + (y 1).val = (y 0).val * 1024 + (y 1).val
      omega)
  show (Rect.unit (s := S2x1024x1024) _ S1x1024x1024.size inb).emb (Shape.reshapeEquiv _ y) = _
  refine (congrArg _ e).trans ?_
  funext i
  fin_cases i
  · exact Fin.ext (show a.val + 1 * 0 = a.val by omega)
  · exact Fin.ext (show 0 + 1 * (y 0).val = (y 0).val by omega)
  · exact Fin.ext (show 0 + 1 * (y 1).val = (y 1).val by omega)

/-- Which elements of `w_fl` a quarter has. -/
theorem mem_fl_quarter (a b : Fin 2) {off : Fin 4 → ℕ} {inb} (h : off = ![a.val, b.val, 0, 0]) (i : S2x2x1024x1024.Idx) :
    i ∈ ((flM.slice (Rect.unit (s := S2x2x1024x1024) off S1x1x1024x1024.size inb) (fun _ => rfl)).squeeze S1024x1024
      squeezes_S1x1x1024x1024_S1024x1024).view.set ↔ i 0 = a ∧ i 1 = b := by
  constructor
  · intro hi
    obtain ⟨y, -, rfl⟩ := Finset.mem_map.mp hi
    rw [fl_emb_quarter a b h y]; constructor <;> rfl
  · rintro ⟨rfl, rfl⟩
    refine Finset.mem_map.mpr ⟨ix2 (i 2) (i 3), Finset.mem_univ _, ?_⟩
    rw [fl_emb_quarter (i 0) (i 1) h]; exact (eq_ix4 i).symm

/-- Which elements of `w_fl` a pair has. -/
theorem mem_fl_pair (a : Fin 2) {off : Fin 4 → ℕ} {inb} (h : off = ![a.val, 0, 0, 0]) (i : S2x2x1024x1024.Idx) :
    i ∈ ((flM.slice (Rect.unit (s := S2x2x1024x1024) off S1x2x1024x1024.size inb) (fun _ => rfl)).squeeze S2x1024x1024
      squeezes_S1x2x1024x1024_S2x1024x1024).view.set ↔ i 0 = a := by
  constructor
  · intro hi
    obtain ⟨y, -, rfl⟩ := Finset.mem_map.mp hi
    rw [fl_emb_pair a h y]
  · rintro rfl
    refine Finset.mem_map.mpr ⟨ix3 (i 1) (i 2) (i 3), Finset.mem_univ _, ?_⟩
    rw [fl_emb_pair (i 0) h]; exact (eq_ix4 i).symm

/-- Which elements of `w_fr` a quarter has. -/
theorem mem_fr_quarter (a : Fin 2) {off : Fin 3 → ℕ} {inb} (h : off = ![a.val, 0, 0]) (i : S2x1024x1024.Idx) :
    i ∈ ((frM.slice (Rect.unit (s := S2x1024x1024) off S1x1024x1024.size inb) (fun _ => rfl)).squeeze S1024x1024
      squeezes_S1x1024x1024_S1024x1024).view.set ↔ i 0 = a := by
  constructor
  · intro hi
    obtain ⟨y, -, rfl⟩ := Finset.mem_map.mp hi
    rw [fr_emb_quarter a h y]
  · rintro rfl
    refine Finset.mem_map.mpr ⟨ix2 (i 1) (i 2), Finset.mem_univ _, ?_⟩
    rw [fr_emb_quarter (i 0) h]; exact (eq_ix3 i).symm

/-- The elements of `fl00`. -/
theorem mem_fl00 (i : S2x2x1024x1024.Idx) : i ∈ fl00.view.set ↔ i 0 = (0 : Fin 2) ∧ i 1 = (0 : Fin 2) := mem_fl_quarter 0 0 rfl i
/-- The place of an element of `fl00`. -/
theorem emb_fl00 (y : S1024x1024.Idx) : fl00.view.emb y = ix4 0 0 (y 0) (y 1) := fl_emb_quarter 0 0 rfl y
/-- The elements of `fl01`. -/
theorem mem_fl01 (i : S2x2x1024x1024.Idx) : i ∈ fl01.view.set ↔ i 0 = (0 : Fin 2) ∧ i 1 = (1 : Fin 2) := mem_fl_quarter 0 1 rfl i
/-- The place of an element of `fl01`. -/
theorem emb_fl01 (y : S1024x1024.Idx) : fl01.view.emb y = ix4 0 1 (y 0) (y 1) := fl_emb_quarter 0 1 rfl y
/-- The elements of `fl10`. -/
theorem mem_fl10 (i : S2x2x1024x1024.Idx) : i ∈ fl10.view.set ↔ i 0 = (1 : Fin 2) ∧ i 1 = (0 : Fin 2) := mem_fl_quarter 1 0 rfl i
/-- The place of an element of `fl10`. -/
theorem emb_fl10 (y : S1024x1024.Idx) : fl10.view.emb y = ix4 1 0 (y 0) (y 1) := fl_emb_quarter 1 0 rfl y
/-- The elements of `fl11`. -/
theorem mem_fl11 (i : S2x2x1024x1024.Idx) : i ∈ fl11.view.set ↔ i 0 = (1 : Fin 2) ∧ i 1 = (1 : Fin 2) := mem_fl_quarter 1 1 rfl i
/-- The place of an element of `fl11`. -/
theorem emb_fl11 (y : S1024x1024.Idx) : fl11.view.emb y = ix4 1 1 (y 0) (y 1) := fl_emb_quarter 1 1 rfl y
/-- The elements of `fl0`. -/
theorem mem_fl0 (i : S2x2x1024x1024.Idx) : i ∈ fl0.view.set ↔ i 0 = (0 : Fin 2) := mem_fl_pair 0 rfl i
/-- The place of an element of `fl0`. -/
theorem emb_fl0 (y : S2x1024x1024.Idx) : fl0.view.emb y = ix4 0 (y 0) (y 1) (y 2) := fl_emb_pair 0 rfl y
/-- The elements of `fl1`. -/
theorem mem_fl1 (i : S2x2x1024x1024.Idx) : i ∈ fl1.view.set ↔ i 0 = (1 : Fin 2) := mem_fl_pair 1 rfl i
/-- The place of an element of `fl1`. -/
theorem emb_fl1 (y : S2x1024x1024.Idx) : fl1.view.emb y = ix4 1 (y 0) (y 1) (y 2) := fl_emb_pair 1 rfl y
/-- The elements of `fr0`. -/
theorem mem_fr0 (i : S2x1024x1024.Idx) : i ∈ fr0.view.set ↔ i 0 = (0 : Fin 2) := mem_fr_quarter 0 rfl i
/-- The place of an element of `fr0`. -/
theorem emb_fr0 (y : S1024x1024.Idx) : fr0.view.emb y = ix3 0 (y 0) (y 1) := fr_emb_quarter 0 rfl y
/-- The elements of `fr1`. -/
theorem mem_fr1 (i : S2x1024x1024.Idx) : i ∈ fr1.view.set ↔ i 0 = (1 : Fin 2) := mem_fr_quarter 1 rfl i
/-- The place of an element of `fr1`. -/
theorem emb_fr1 (y : S1024x1024.Idx) : fr1.view.emb y = ix3 1 (y 0) (y 1) := fr_emb_quarter 1 rfl y

/-- One of two. -/
theorem two_cases (a : Fin 2) : a = 0 ∨ a = 1 := by revert a; decide

/-! ## What they are read as -/

variable (I : Ins F)

/-- `w_fl` at an element, once all has arrived. -/
theorem wflC_ix (c : Dev nD) (a b : Fin 2) (r s : Fin 1024) : wflC I c (ix4 a b r s)
    = if b.val = 0 then I.WQ (if a.val = 0 then prv c else prv (prv c)) (ix2 r s)
      else I.WO (if a.val = 0 then prv c else prv (prv c)) (ix2 r s) := rfl
/-- `w_fr` at an element, once all has arrived. -/
theorem wfrC_ix (c : Dev nD) (a : Fin 2) (r s : Fin 1024) : wfrC I c (ix3 a r s)
    = if a.val = 0 then I.WQ (nxt c) (ix2 r s) else I.WO (nxt c) (ix2 r s) := rfl
/-- An index is its two places. -/
theorem eta2 (y : S1024x1024.Idx) (f : S1024x1024.Idx → Elt F .bf16) : f (ix2 (y 0) (y 1)) = f y := congrArg f (eq_ix2 y).symm

/-- The first arrival from the left is the left neighbour's Wq. -/
theorem read_fl00 (c : Dev nD) : fl00.view.read (Elt F) (wflC I c) = I.WQ (prv c) := by
  funext y
  show wflC I c (fl00.view.emb y) = _
  refine (congrArg (wflC I c) (emb_fl00 y)).trans ((wflC_ix I c 0 0 _ _).trans ?_)
  rw [if_pos (show (0 : Fin 2).val = 0 from rfl)]
  exact eta2 y _
/-- The second arrival from the left is the left neighbour's Wo. -/
theorem read_fl01 (c : Dev nD) : fl01.view.read (Elt F) (wflC I c) = I.WO (prv c) := by
  funext y
  show wflC I c (fl01.view.emb y) = _
  refine (congrArg (wflC I c) (emb_fl01 y)).trans ((wflC_ix I c 0 1 _ _).trans ?_)
  rw [if_neg (show ¬ (1 : Fin 2).val = 0 from Nat.one_ne_zero), if_pos (show (0 : Fin 2).val = 0 from rfl)]
  exact eta2 y _
/-- The forwarded pair begins with Wq of the device two places on. -/
theorem read_fl10 (c : Dev nD) : fl10.view.read (Elt F) (wflC I c) = I.WQ (prv (prv c)) := by
  funext y
  show wflC I c (fl10.view.emb y) = _
  refine (congrArg (wflC I c) (emb_fl10 y)).trans ((wflC_ix I c 1 0 _ _).trans ?_)
  rw [if_pos (show (0 : Fin 2).val = 0 from rfl), if_neg (show ¬ (1 : Fin 2).val = 0 from Nat.one_ne_zero)]
  exact eta2 y _
/-- The forwarded pair ends with Wo of the device two places on. -/
theorem read_fl11 (c : Dev nD) : fl11.view.read (Elt F) (wflC I c) = I.WO (prv (prv c)) := by
  funext y
  show wflC I c (fl11.view.emb y) = _
  refine (congrArg (wflC I c) (emb_fl11 y)).trans ((wflC_ix I c 1 1 _ _).trans ?_)
  rw [if_neg (show ¬ (1 : Fin 2).val = 0 from Nat.one_ne_zero)]
  exact eta2 y _
/-- The first arrival from the right is the right neighbour's Wq. -/
theorem read_fr0 (c : Dev nD) : fr0.view.read (Elt F) (wfrC I c) = I.WQ (nxt c) := by
  funext y
  show wfrC I c (fr0.view.emb y) = _
  refine (congrArg (wfrC I c) (emb_fr0 y)).trans ((wfrC_ix I c 0 _ _).trans ?_)
  rw [if_pos (show (0 : Fin 2).val = 0 from rfl)]
  exact eta2 y _
/-- The second arrival from the right is the right neighbour's Wo. -/
theorem read_fr1 (c : Dev nD) : fr1.view.read (Elt F) (wfrC I c) = I.WO (nxt c) := by
  funext y
  show wfrC I c (fr1.view.emb y) = _
  refine (congrArg (wfrC I c) (emb_fr1 y)).trans ((wfrC_ix I c 1 _ _).trans ?_)
  rw [if_neg (show ¬ (1 : Fin 2).val = 0 from Nat.one_ne_zero)]
  exact eta2 y _
/-- The forwarded pair read at an element. -/
theorem read_fl1_at (f : Vec F S2x2x1024x1024 .bf16) (y : S2x1024x1024.Idx) :
    fl1.view.read (Elt F) f y = f (ix4 1 (y 0) (y 1) (y 2)) := congrArg f (emb_fl1 y)
/-- The first pair read at an element. -/
theorem read_fl0_at (f : Vec F S2x2x1024x1024 .bf16) (y : S2x1024x1024.Idx) :
    fl0.view.read (Elt F) f y = f (ix4 0 (y 0) (y 1) (y 2)) := congrArg f (emb_fl0 y)
/-- What is forwarded is what the left neighbour got first. -/
theorem wfl_forward (c : Dev nD) (b : Fin 2) (r s : Fin 1024) : wflC I c (ix4 1 b r s) = wflC I (prv c) (ix4 0 b r s) := by
  rw [wflC_ix, wflC_ix, if_neg (show ¬ (1 : Fin 2).val = 0 from Nat.one_ne_zero), if_pos (show (0 : Fin 2).val = 0 from rfl)]
/-- What the forwarded pair is read as where it left is what it is read as where it lands. -/
theorem read_fl1 (c : Dev nD) : fl1.view.read (Elt F) (wflC I c) = fl0.view.read (Elt F) (wflC I (prv c)) :=
  funext fun y => (read_fl1_at (wflC I c) y).trans ((wfl_forward I c (y 0) (y 1) (y 2)).trans (read_fl0_at (wflC I (prv c)) y).symm)

/-- A window rewritten whole by what `g` is read as there is held at `g`. -/
theorem pt_write {sp : Space} {s : Shape} {e : EltTy} (m : Memref sig .tc sp s e) (c : Dev nD) (q : PosShare TreeShare)
    (f g : Buf (Elt F) (m.view.loc (c : Thread nD τ))) (w : s.Idx → Elt F e) (h : m.view.read (Elt F) g = w) :
    pt m c q (m.view.write (Elt F) f w Finset.univ) = pt m c q g := by
  refine pointsTo_congr fun i hi => ?_
  obtain ⟨y, -, rfl⟩ := Finset.mem_map.mp hi
  rw [View.write_emb_of_mem _ _ (Finset.mem_univ y), ← h, View.read_apply, cast_cast, cast_eq]

/-! ## Taking the buffers apart, and putting them together -/

/-- The first pair is its two quarters. -/
theorem fl0_set : fl0.view.set = fl00.view.set ∪ fl01.view.set := by
  ext i; rw [Finset.mem_union, mem_fl0, mem_fl00, mem_fl01]
  have := two_cases (show Fin 2 from i 1)
  tauto
/-- The forwarded pair is its two quarters. -/
theorem fl1_set : fl1.view.set = fl10.view.set ∪ fl11.view.set := by
  ext i; rw [Finset.mem_union, mem_fl1, mem_fl10, mem_fl11]
  have := two_cases (show Fin 2 from i 1)
  tauto
/-- `w_fl` is two pairs. -/
theorem fl_set : flM.view.set = fl0.view.set ∪ fl1.view.set := by
  ext i; rw [Finset.mem_union, mem_fl0, mem_fl1, View.set_whole]
  have := two_cases (show Fin 2 from i 0); simp only [Finset.mem_univ, true_iff]; exact this
/-- `w_fr` is two quarters. -/
theorem fr_set : frM.view.set = fr0.view.set ∪ fr1.view.set := by
  ext i; rw [Finset.mem_union, mem_fr0, mem_fr1, View.set_whole]
  have := two_cases (show Fin 2 from i 0); simp only [Finset.mem_univ, true_iff]; exact this
/-- The first pair's quarters are disjoint. -/
theorem fl0_disj : Disjoint fl00.view.set fl01.view.set := Finset.disjoint_left.mpr fun i h h' => by
  rw [mem_fl00] at h; rw [mem_fl01] at h'; exact absurd (show (0 : Fin 2) = 1 from h.2.symm.trans h'.2) (by decide)
/-- The forwarded pair's quarters are disjoint. -/
theorem fl1_disj : Disjoint fl10.view.set fl11.view.set := Finset.disjoint_left.mpr fun i h h' => by
  rw [mem_fl10] at h; rw [mem_fl11] at h'; exact absurd (show (0 : Fin 2) = 1 from h.2.symm.trans h'.2) (by decide)
/-- The two pairs are disjoint. -/
theorem fl_disj : Disjoint fl0.view.set fl1.view.set := Finset.disjoint_left.mpr fun i h h' => by
  rw [mem_fl0] at h; rw [mem_fl1] at h'; exact absurd (show (0 : Fin 2) = 1 from h.symm.trans h') (by decide)
/-- The two quarters of `w_fr` are disjoint. -/
theorem fr_disj : Disjoint fr0.view.set fr1.view.set := Finset.disjoint_left.mpr fun i h h' => by
  rw [mem_fr0] at h; rw [mem_fr1] at h'; exact absurd (show (0 : Fin 2) = 1 from h.symm.trans h') (by decide)

/-- Holding the first pair is holding its quarters. -/
theorem pt_fl0 (c : Dev nD) (q : PosShare TreeShare) (f : Vec F S2x2x1024x1024 .bf16) :
    (pt fl0 c q f : sProp 𝕄) ⊣⊢ iprop(pt fl00 c q f ∗ pt fl01 c q f) := by
  have e : (pt fl0 c q f : sProp 𝕄) = (flM.view.loc (c : Thread nD τ) ↦[fl00.view.set ∪ fl01.view.set]{q} f) := by
    rw [← fl0_set]
  rw [e]; exact pointsTo_union fl0_disj
/-- Holding the forwarded pair is holding its quarters. -/
theorem pt_fl1 (c : Dev nD) (q : PosShare TreeShare) (f : Vec F S2x2x1024x1024 .bf16) :
    (pt fl1 c q f : sProp 𝕄) ⊣⊢ iprop(pt fl10 c q f ∗ pt fl11 c q f) := by
  have e : (pt fl1 c q f : sProp 𝕄) = (flM.view.loc (c : Thread nD τ) ↦[fl10.view.set ∪ fl11.view.set]{q} f) := by
    rw [← fl1_set]
  rw [e]; exact pointsTo_union fl1_disj
/-- Holding `w_fl` is holding its pairs. -/
theorem pt_fl (c : Dev nD) (q : PosShare TreeShare) (f : Vec F S2x2x1024x1024 .bf16) :
    (pt flM c q f : sProp 𝕄) ⊣⊢ iprop(pt fl0 c q f ∗ pt fl1 c q f) := by
  have e : (pt flM c q f : sProp 𝕄) = (flM.view.loc (c : Thread nD τ) ↦[fl0.view.set ∪ fl1.view.set]{q} f) := by
    rw [← fl_set]
  rw [e]; exact pointsTo_union fl_disj
/-- Holding `w_fr` is holding its quarters. -/
theorem pt_fr (c : Dev nD) (q : PosShare TreeShare) (f : Vec F S2x1024x1024 .bf16) :
    (pt frM c q f : sProp 𝕄) ⊣⊢ iprop(pt fr0 c q f ∗ pt fr1 c q f) := by
  have e : (pt frM c q f : sProp 𝕄) = (frM.view.loc (c : Thread nD τ) ↦[fr0.view.set ∪ fr1.view.set]{q} f) := by
    rw [← fr_set]
  rw [e]; exact pointsTo_union fr_disj

/-- A full holding, in the two halves of the share. -/
theorem pt_halves {sp : Space} {s : Shape} {e : EltTy} (m : Memref sig .tc sp s e) (c : Dev nD) (q : PosShare TreeShare)
    (f : Buf (Elt F) (m.view.loc (c : Thread nD τ))) : (pt m c q f : sProp 𝕄) ⊣⊢ iprop(pt m c q.left f ∗ pt m c q.right f) :=
  pointsTo_share (PosShare.mem_left_op_right q)

end Cert.Proof
-- ==== Proof.Vals.lean ====
/- What the buffers hold: keys, queries, masks, context, output. -/
module

public import proofs.«01_k».proof.Proof.Views

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

variable (I : Ins F)

/-! ## Staged keys and values -/

/-- The keys (or values) of batch `d`'s head group `g`, one plane per head. -/
def stage (K : Vec F S4x2048x32x128 .f32) (d g : Fin 4) : Vec F S8x2048x128 .f32 :=
  fun i => K (ix4 d (i 1) ⟨8 * g.val + (i 0).val, by have := g.isLt; have : (i 0).val < 8 := (i 0).isLt; omega⟩ (i 2))

/-- One plane of the staging buffer. -/
theorem fst_emb (a : Fin 8) {off : Fin 3 → ℕ} {inb} (h : off = ![a.val, 0, 0]) (y : S2048x128.Idx) :
    ((fstM.slice (Rect.unit (s := S8x2048x128) off S1x2048x128.size inb) (fun _ => rfl)).squeeze S2048x128
      squeezes_S1x2048x128_S2048x128).view.emb y = ix3 a (y 0) (y 1) := by
  subst h
  have e : Shape.reshapeEquiv (s := S1x2048x128) (s' := S2048x128) (by decide) y = ix3 0 (y 0) (y 1) :=
    Shape.reshapeEquiv_eq_of_rowMajor _ (by
      refine (Shape.rowMajor_val_three _).trans (Eq.trans ?_ (Shape.rowMajor_val_two _).symm)
      show (0 * 2048 + (y 0).val) * 128 + (y 1).val = (y 0).val * 128 + (y 1).val
      omega)
  show (Rect.unit (s := S8x2048x128) _ S1x2048x128.size inb).emb (Shape.reshapeEquiv _ y) = _
  refine (congrArg _ e).trans ?_
  funext i
  fin_cases i
  · exact Fin.ext (show a.val + 1 * 0 = a.val by omega)
  · exact Fin.ext (show 0 + 1 * (y 0).val = (y 0).val by omega)
  · exact Fin.ext (show 0 + 1 * (y 1).val = (y 1).val by omega)

/-- The staging buffer after one plane was written. -/
theorem fst_write (a : ℕ) (ha : a < 8) {inb} (f : Vec F S8x2048x128 .f32)
    (w : S2048x128.Idx → Elt F .f32) (i : S8x2048x128.Idx) :
    View.write (Elt F) ((fstM.slice (Rect.unit (s := S8x2048x128) ![a, 0, 0] S1x2048x128.size inb) (fun _ => rfl)).squeeze S2048x128
      squeezes_S1x2048x128_S2048x128).view f w Finset.univ i = if (i 0).val = a then w (ix2 (i 1) (i 2)) else f i := by
  by_cases hi : (i 0).val = a
  · rw [if_pos hi]
    have e : i = ((fstM.slice (Rect.unit (s := S8x2048x128) ![a, 0, 0] S1x2048x128.size inb) (fun _ => rfl)).squeeze S2048x128
      squeezes_S1x2048x128_S2048x128).view.emb (ix2 (i 1) (i 2)) := by
      rw [fst_emb ⟨a, ha⟩ rfl]
      exact (eq_ix3 i).trans (congrArg (fun t : Fin 8 => ix3 t (i 1) (i 2)) (Fin.ext hi))
    exact (congrArg _ e).trans (View.write_emb_of_mem _ _ (Finset.mem_univ _))
  · rw [if_neg hi]
    refine View.write_of_not_mem _ _ _ ?_
    intro hm
    obtain ⟨y, -, hy⟩ := Finset.mem_map.mp hm
    rw [fst_emb ⟨a, ha⟩ rfl] at hy
    exact hi (by rw [← hy])

/-- One head of one batch of the keys, as a copy reads it. -/
theorem k_emb (d : Fin 4) (g : Fin 32) {off : Fin 4 → ℕ} {inb} (h : off = ![d.val, 0, g.val, 0]) (y : S2048x128.Idx) :
    ((kM.slice (Rect.unit (s := S4x2048x32x128) off S1x2048x1x128.size inb) (fun _ => rfl)).squeeze S2048x128
      squeezes_S1x2048x1x128_S2048x128).view.emb y = ix4 d (y 0) g (y 1) := by
  subst h
  have e : Shape.reshapeEquiv (s := S1x2048x1x128) (s' := S2048x128) (by decide) y = ix4 0 (y 0) 0 (y 1) :=
    Shape.reshapeEquiv_eq_of_rowMajor _ (by
      refine (Shape.rowMajor_val_four _).trans (Eq.trans ?_ (Shape.rowMajor_val_two _).symm)
      show ((0 * 2048 + (y 0).val) * 1 + 0) * 128 + (y 1).val = (y 0).val * 128 + (y 1).val
      omega)
  show (Rect.unit (s := S4x2048x32x128) _ S1x2048x1x128.size inb).emb (Shape.reshapeEquiv _ y) = _
  refine (congrArg _ e).trans ?_
  funext i
  fin_cases i
  · exact Fin.ext (show d.val + 1 * 0 = d.val by omega)
  · exact Fin.ext (show 0 + 1 * (y 0).val = (y 0).val by omega)
  · exact Fin.ext (show g.val + 1 * 0 = g.val by omega)
  · exact Fin.ext (show 0 + 1 * (y 1).val = (y 1).val by omega)

/-- What a copy out of the keys carries. -/
theorem k_read (K : Vec F S4x2048x32x128 .f32) (d : Fin 4) (g : Fin 32) {off : Fin 4 → ℕ} {inb} (h : off = ![d.val, 0, g.val, 0]) (y : S2048x128.Idx) :
    View.read (Elt F) ((kM.slice (Rect.unit (s := S4x2048x32x128) off S1x2048x1x128.size inb) (fun _ => rfl)).squeeze S2048x128
      squeezes_S1x2048x1x128_S2048x128).view K y = K (ix4 d (y 0) g (y 1)) :=
  congrArg K (k_emb d g h y)

/-- What a copy out of the values carries. -/
theorem v_read (K : Vec F S4x2048x32x128 .f32) (d : Fin 4) (g : Fin 32) {off : Fin 4 → ℕ} {inb} (h : off = ![d.val, 0, g.val, 0]) (y : S2048x128.Idx) :
    View.read (Elt F) ((vM.slice (Rect.unit (s := S4x2048x32x128) off S1x2048x1x128.size inb) (fun _ => rfl)).squeeze S2048x128
      squeezes_S1x2048x1x128_S2048x128).view K y = K (ix4 d (y 0) g (y 1)) :=
  k_read (inb := inb) K d g h y

/-- Eight planes written, one after the other. -/
theorem fst_eight (w : Fin 8 → S2048x128.Idx → Elt F .f32) (f : Vec F S8x2048x128 .f32)
    {i0 i1 i2 i3 i4 i5 i6 i7} {p0 p1 p2 p3 p4 p5 p6 p7} :
    View.write (Elt F) ((fstM.slice (Rect.unit (s := S8x2048x128) ![7, 0, 0] S1x2048x128.size i7) p7).squeeze S2048x128 squeezes_S1x2048x128_S2048x128).view
    (View.write (Elt F) ((fstM.slice (Rect.unit (s := S8x2048x128) ![6, 0, 0] S1x2048x128.size i6) p6).squeeze S2048x128 squeezes_S1x2048x128_S2048x128).view
    (View.write (Elt F) ((fstM.slice (Rect.unit (s := S8x2048x128) ![5, 0, 0] S1x2048x128.size i5) p5).squeeze S2048x128 squeezes_S1x2048x128_S2048x128).view
    (View.write (Elt F) ((fstM.slice (Rect.unit (s := S8x2048x128) ![4, 0, 0] S1x2048x128.size i4) p4).squeeze S2048x128 squeezes_S1x2048x128_S2048x128).view
    (View.write (Elt F) ((fstM.slice (Rect.unit (s := S8x2048x128) ![3, 0, 0] S1x2048x128.size i3) p3).squeeze S2048x128 squeezes_S1x2048x128_S2048x128).view
    (View.write (Elt F) ((fstM.slice (Rect.unit (s := S8x2048x128) ![2, 0, 0] S1x2048x128.size i2) p2).squeeze S2048x128 squeezes_S1x2048x128_S2048x128).view
    (View.write (Elt F) ((fstM.slice (Rect.unit (s := S8x2048x128) ![1, 0, 0] S1x2048x128.size i1) p1).squeeze S2048x128 squeezes_S1x2048x128_S2048x128).view
    (View.write (Elt F) ((fstM.slice (Rect.unit (s := S8x2048x128) ![0, 0, 0] S1x2048x128.size i0) p0).squeeze S2048x128 squeezes_S1x2048x128_S2048x128).view
      f (w 0) Finset.univ) (w 1) Finset.univ) (w 2) Finset.univ) (w 3) Finset.univ) (w 4) Finset.univ) (w 5) Finset.univ)
      (w 6) Finset.univ) (w 7) Finset.univ
    = fun i => w (i 0) (ix2 (i 1) (i 2)) := by
  funext i
  have h0 : ∀ a : Fin 8, ¬ a.val = 7 → ¬ a.val = 6 → ¬ a.val = 5 → ¬ a.val = 4 → ¬ a.val = 3 → ¬ a.val = 2 → ¬ a.val = 1 → ¬ a.val = 0 → False := by
    intro a; have := a.isLt; omega
  have hw : ∀ (a : Fin 8), (i 0).val = a.val → w a (ix2 (i 1) (i 2)) = w (i 0) (ix2 (i 1) (i 2)) := fun a h =>
    congrArg (fun t => w t (ix2 (i 1) (i 2))) (Fin.ext h.symm)
  rw [fst_write 7 (by decide), fst_write 6 (by decide), fst_write 5 (by decide), fst_write 4 (by decide), fst_write 3 (by decide),
    fst_write 2 (by decide), fst_write 1 (by decide), fst_write 0 (by decide)]
  split_ifs with h7 h6 h5 h4 h3 h2 h1 hz
  · exact hw 7 h7
  · exact hw 6 h6
  · exact hw 5 h5
  · exact hw 4 h4
  · exact hw 3 h3
  · exact hw 2 h2
  · exact hw 1 h1
  · exact hw 0 hz
  · exact (h0 _ h7 h6 h5 h4 h3 h2 h1 hz).elim

/-- What copies out of the keys stage for one head group. -/
theorem stage_k (K : Vec F S4x2048x32x128 .f32) (d g : Fin 4) (w : Fin 8 → S2048x128.Idx → Elt F .f32)
    (h : ∀ (r : Fin 8) (g' : Fin 32), g'.val = 8 * g.val + r.val → ∀ y, w r y = K (ix4 d (y 0) g' (y 1))) :
    (fun i => w (i 0) (ix2 (i 1) (i 2)) : S8x2048x128.Idx → Elt F .f32) = stage K d g := by
  funext i
  exact h (i 0) ⟨8 * g.val + (i 0).val, by have := g.isLt; have : (i 0).val < 8 := (i 0).isLt; omega⟩ rfl _

/-- The staging buffer after eight copies out of the keys. -/
theorem staged_k (K : Vec F S4x2048x32x128 .f32) (d g : Fin 4) (off : BitVec 32 → Fin 4 → ℕ)
    (h : ∀ r : Fin 8, off (BitVec.ofNat 32 r.val) = ![d.val, 0, 8 * g.val + r.val, 0]) (f : Vec F S8x2048x128 .f32)
    {i0 i1 i2 i3 i4 i5 i6 i7 p0 p1 p2 p3 p4 p5 p6 p7 j0 j1 j2 j3 j4 j5 j6 j7 q0 q1 q2 q3 q4 q5 q6 q7} :
    View.write (Elt F) ((fstM.slice (Rect.unit (s := S8x2048x128) ![7, 0, 0] S1x2048x128.size i7) p7).squeeze S2048x128 squeezes_S1x2048x128_S2048x128).view
      (View.write (Elt F) ((fstM.slice (Rect.unit (s := S8x2048x128) ![6, 0, 0] S1x2048x128.size i6) p6).squeeze S2048x128 squeezes_S1x2048x128_S2048x128).view
      (View.write (Elt F) ((fstM.slice (Rect.unit (s := S8x2048x128) ![5, 0, 0] S1x2048x128.size i5) p5).squeeze S2048x128 squeezes_S1x2048x128_S2048x128).view
      (View.write (Elt F) ((fstM.slice (Rect.unit (s := S8x2048x128) ![4, 0, 0] S1x2048x128.size i4) p4).squeeze S2048x128 squeezes_S1x2048x128_S2048x128).view
      (View.write (Elt F) ((fstM.slice (Rect.unit (s := S8x2048x128) ![3, 0, 0] S1x2048x128.size i3) p3).squeeze S2048x128 squeezes_S1x2048x128_S2048x128).view
      (View.write (Elt F) ((fstM.slice (Rect.unit (s := S8x2048x128) ![2, 0, 0] S1x2048x128.size i2) p2).squeeze S2048x128 squeezes_S1x2048x128_S2048x128).view
      (View.write (Elt F) ((fstM.slice (Rect.unit (s := S8x2048x128) ![1, 0, 0] S1x2048x128.size i1) p1).squeeze S2048x128 squeezes_S1x2048x128_S2048x128).view
      (View.write (Elt F) ((fstM.slice (Rect.unit (s := S8x2048x128) ![0, 0, 0] S1x2048x128.size i0) p0).squeeze S2048x128 squeezes_S1x2048x128_S2048x128).view
      (f) (ReadAs.same.apply (View.read (Elt F) ((kM.slice (Rect.unit (s := S4x2048x32x128) (off (BitVec.ofNat 32 0)) S1x2048x1x128.size j0) q0).squeeze S2048x128 squeezes_S1x2048x1x128_S2048x128).view K)) Finset.univ) (ReadAs.same.apply (View.read (Elt F) ((kM.slice (Rect.unit (s := S4x2048x32x128) (off (BitVec.ofNat 32 1)) S1x2048x1x128.size j1) q1).squeeze S2048x128 squeezes_S1x2048x1x128_S2048x128).view K)) Finset.univ) (ReadAs.same.apply (View.read (Elt F) ((kM.slice (Rect.unit (s := S4x2048x32x128) (off (BitVec.ofNat 32 2)) S1x2048x1x128.size j2) q2).squeeze S2048x128 squeezes_S1x2048x1x128_S2048x128).view K)) Finset.univ) (ReadAs.same.apply (View.read (Elt F) ((kM.slice (Rect.unit (s := S4x2048x32x128) (off (BitVec.ofNat 32 3)) S1x2048x1x128.size j3) q3).squeeze S2048x128 squeezes_S1x2048x1x128_S2048x128).view K)) Finset.univ) (ReadAs.same.apply (View.read (Elt F) ((kM.slice (Rect.unit (s := S4x2048x32x128) (off (BitVec.ofNat 32 4)) S1x2048x1x128.size j4) q4).squeeze S2048x128 squeezes_S1x2048x1x128_S2048x128).view K)) Finset.univ) (ReadAs.same.apply (View.read (Elt F) ((kM.slice (Rect.unit (s := S4x2048x32x128) (off (BitVec.ofNat 32 5)) S1x2048x1x128.size j5) q5).squeeze S2048x128 squeezes_S1x2048x1x128_S2048x128).view K)) Finset.univ) (ReadAs.same.apply (View.read (Elt F) ((kM.slice (Rect.unit (s := S4x2048x32x128) (off (BitVec.ofNat 32 6)) S1x2048x1x128.size j6) q6).squeeze S2048x128 squeezes_S1x2048x1x128_S2048x128).view K)) Finset.univ) (ReadAs.same.apply (View.read (Elt F) ((kM.slice (Rect.unit (s := S4x2048x32x128) (off (BitVec.ofNat 32 7)) S1x2048x1x128.size j7) q7).squeeze S2048x128 squeezes_S1x2048x1x128_S2048x128).view K)) Finset.univ
    = stage K d g := by
  have inb : ∀ r : Fin 8, ∀ a, off (BitVec.ofNat 32 r.val) a + S1x2048x1x128.size a ≤ S4x2048x32x128.size a := by
    intro r a
    rw [h r]
    have := g.isLt
    have := d.isLt
    fin_cases a
    · show d.val + 1 ≤ 4; omega
    · show 0 + 2048 ≤ 2048; omega
    · show 8 * g.val + r.val + 1 ≤ 32; omega
    · show 0 + 128 ≤ 128; omega
  have hw : ∀ (r : Fin 8) (g' : Fin 32), g'.val = 8 * g.val + r.val → ∀ y, View.read (Elt F) ((kM.slice (Rect.unit (s := S4x2048x32x128) (off (BitVec.ofNat 32 r.val)) S1x2048x1x128.size
      (inb r)) (fun _ => rfl)).squeeze S2048x128 squeezes_S1x2048x1x128_S2048x128).view K y = K (ix4 d (y 0) g' (y 1)) :=
    fun r g' hg y => k_read K d g' ((h r).trans (by rw [hg])) y
  exact (fst_eight (fun r => View.read (Elt F) ((kM.slice (Rect.unit (s := S4x2048x32x128) (off (BitVec.ofNat 32 r.val)) S1x2048x1x128.size
    (inb r)) (fun _ => rfl)).squeeze S2048x128 squeezes_S1x2048x1x128_S2048x128).view K) f).trans
    (stage_k K d g (fun r => View.read (Elt F) ((kM.slice (Rect.unit (s := S4x2048x32x128) (off (BitVec.ofNat 32 r.val)) S1x2048x1x128.size
    (inb r)) (fun _ => rfl)).squeeze S2048x128 squeezes_S1x2048x1x128_S2048x128).view K) hw)

/-- The staging buffer after eight copies out of the values. -/
theorem staged_v (K : Vec F S4x2048x32x128 .f32) (d g : Fin 4) (off : BitVec 32 → Fin 4 → ℕ)
    (h : ∀ r : Fin 8, off (BitVec.ofNat 32 r.val) = ![d.val, 0, 8 * g.val + r.val, 0]) (f : Vec F S8x2048x128 .f32)
    {i0 i1 i2 i3 i4 i5 i6 i7 p0 p1 p2 p3 p4 p5 p6 p7 j0 j1 j2 j3 j4 j5 j6 j7 q0 q1 q2 q3 q4 q5 q6 q7} :
    View.write (Elt F) ((fstM.slice (Rect.unit (s := S8x2048x128) ![7, 0, 0] S1x2048x128.size i7) p7).squeeze S2048x128 squeezes_S1x2048x128_S2048x128).view
      (View.write (Elt F) ((fstM.slice (Rect.unit (s := S8x2048x128) ![6, 0, 0] S1x2048x128.size i6) p6).squeeze S2048x128 squeezes_S1x2048x128_S2048x128).view
      (View.write (Elt F) ((fstM.slice (Rect.unit (s := S8x2048x128) ![5, 0, 0] S1x2048x128.size i5) p5).squeeze S2048x128 squeezes_S1x2048x128_S2048x128).view
      (View.write (Elt F) ((fstM.slice (Rect.unit (s := S8x2048x128) ![4, 0, 0] S1x2048x128.size i4) p4).squeeze S2048x128 squeezes_S1x2048x128_S2048x128).view
      (View.write (Elt F) ((fstM.slice (Rect.unit (s := S8x2048x128) ![3, 0, 0] S1x2048x128.size i3) p3).squeeze S2048x128 squeezes_S1x2048x128_S2048x128).view
      (View.write (Elt F) ((fstM.slice (Rect.unit (s := S8x2048x128) ![2, 0, 0] S1x2048x128.size i2) p2).squeeze S2048x128 squeezes_S1x2048x128_S2048x128).view
      (View.write (Elt F) ((fstM.slice (Rect.unit (s := S8x2048x128) ![1, 0, 0] S1x2048x128.size i1) p1).squeeze S2048x128 squeezes_S1x2048x128_S2048x128).view
      (View.write (Elt F) ((fstM.slice (Rect.unit (s := S8x2048x128) ![0, 0, 0] S1x2048x128.size i0) p0).squeeze S2048x128 squeezes_S1x2048x128_S2048x128).view
      (f) (ReadAs.same.apply (View.read (Elt F) ((vM.slice (Rect.unit (s := S4x2048x32x128) (off (BitVec.ofNat 32 0)) S1x2048x1x128.size j0) q0).squeeze S2048x128 squeezes_S1x2048x1x128_S2048x128).view K)) Finset.univ) (ReadAs.same.apply (View.read (Elt F) ((vM.slice (Rect.unit (s := S4x2048x32x128) (off (BitVec.ofNat 32 1)) S1x2048x1x128.size j1) q1).squeeze S2048x128 squeezes_S1x2048x1x128_S2048x128).view K)) Finset.univ) (ReadAs.same.apply (View.read (Elt F) ((vM.slice (Rect.unit (s := S4x2048x32x128) (off (BitVec.ofNat 32 2)) S1x2048x1x128.size j2) q2).squeeze S2048x128 squeezes_S1x2048x1x128_S2048x128).view K)) Finset.univ) (ReadAs.same.apply (View.read (Elt F) ((vM.slice (Rect.unit (s := S4x2048x32x128) (off (BitVec.ofNat 32 3)) S1x2048x1x128.size j3) q3).squeeze S2048x128 squeezes_S1x2048x1x128_S2048x128).view K)) Finset.univ) (ReadAs.same.apply (View.read (Elt F) ((vM.slice (Rect.unit (s := S4x2048x32x128) (off (BitVec.ofNat 32 4)) S1x2048x1x128.size j4) q4).squeeze S2048x128 squeezes_S1x2048x1x128_S2048x128).view K)) Finset.univ) (ReadAs.same.apply (View.read (Elt F) ((vM.slice (Rect.unit (s := S4x2048x32x128) (off (BitVec.ofNat 32 5)) S1x2048x1x128.size j5) q5).squeeze S2048x128 squeezes_S1x2048x1x128_S2048x128).view K)) Finset.univ) (ReadAs.same.apply (View.read (Elt F) ((vM.slice (Rect.unit (s := S4x2048x32x128) (off (BitVec.ofNat 32 6)) S1x2048x1x128.size j6) q6).squeeze S2048x128 squeezes_S1x2048x1x128_S2048x128).view K)) Finset.univ) (ReadAs.same.apply (View.read (Elt F) ((vM.slice (Rect.unit (s := S4x2048x32x128) (off (BitVec.ofNat 32 7)) S1x2048x1x128.size j7) q7).squeeze S2048x128 squeezes_S1x2048x1x128_S2048x128).view K)) Finset.univ
    = stage K d g := by
  have inb : ∀ r : Fin 8, ∀ a, off (BitVec.ofNat 32 r.val) a + S1x2048x1x128.size a ≤ S4x2048x32x128.size a := by
    intro r a
    rw [h r]
    have := g.isLt
    have := d.isLt
    fin_cases a
    · show d.val + 1 ≤ 4; omega
    · show 0 + 2048 ≤ 2048; omega
    · show 8 * g.val + r.val + 1 ≤ 32; omega
    · show 0 + 128 ≤ 128; omega
  have hw : ∀ (r : Fin 8) (g' : Fin 32), g'.val = 8 * g.val + r.val → ∀ y, View.read (Elt F) ((vM.slice (Rect.unit (s := S4x2048x32x128) (off (BitVec.ofNat 32 r.val)) S1x2048x1x128.size
      (inb r)) (fun _ => rfl)).squeeze S2048x128 squeezes_S1x2048x1x128_S2048x128).view K y = K (ix4 d (y 0) g' (y 1)) :=
    fun r g' hg y => v_read K d g' ((h r).trans (by rw [hg])) y
  exact (fst_eight (fun r => View.read (Elt F) ((vM.slice (Rect.unit (s := S4x2048x32x128) (off (BitVec.ofNat 32 r.val)) S1x2048x1x128.size
    (inb r)) (fun _ => rfl)).squeeze S2048x128 squeezes_S1x2048x1x128_S2048x128).view K) f).trans
    (stage_k K d g (fun r => View.read (Elt F) ((vM.slice (Rect.unit (s := S4x2048x32x128) (off (BitVec.ofNat 32 r.val)) S1x2048x1x128.size
    (inb r)) (fun _ => rfl)).squeeze S2048x128 squeezes_S1x2048x1x128_S2048x128).view K) hw)

/-! ## The output -/

/-- The three masks the kernel makes. -/
def maskAll : Vec F S3x256x512 .bf16 :=
  masks k0_pay25 k0_pay26 (k0_pay28 k0_pay27 (iota .tc S256x512 32 [1] iota_S256x512_d1_w32) 1536#32)

/-- Reading the mask buffer after a store of one mask at place `k`. -/
theorem read_mask (f : mskM.view.ty.Contents (Elt F)) (k : ℕ) {inb} (w : S1x256x512.Idx → Elt F .bf16) (Ps) (y : S3x256x512.Idx) :
    mskM.view.read (Elt F) (mskM.view.writes (Elt F) f (⟨Rect.unit (s := S3x256x512) ![k, 0, 0] S1x256x512.size inb, w⟩ :: Ps)) y
      = if (y 0).val = k then w (ix3 0 (y 1) (y 2)) else mskM.view.read (Elt F) (mskM.view.writes (Elt F) f Ps) y := by
  by_cases hy : (y 0).val = k
  · rw [if_pos hy]
    refine (View.read_writes_cons_unit_of_mem mskM.view f inb w Ps y (ix3 0 (y 1) (y 2)) rfl ?_)
    intro a
    fin_cases a
    · show (y 0).val = k + 0; omega
    · show (y 1).val = 0 + (y 1).val; omega
    · show (y 2).val = 0 + (y 2).val; omega
  · rw [if_neg hy]
    refine (View.read_writes_cons_unit_of_not_mem mskM.view f inb w Ps y rfl (0 : Fin 3) ?_)
    show (y 0).val < k ∨ k + 1 ≤ (y 0).val
    omega

/-- The mask buffer after its three stores. -/
theorem masks_written (m0 m1 m2 : FVec F S1x256x512 .bf16) {i0 i1 i2} :
    mskM.view.writes (Elt F) mskM.view.junk [⟨Rect.unit (s := S3x256x512) ![2, 0, 0] S1x256x512.size i2, m2⟩,
      ⟨Rect.unit (s := S3x256x512) ![1, 0, 0] S1x256x512.size i1, m1⟩, ⟨Rect.unit (s := S3x256x512) ![0, 0, 0] S1x256x512.size i0, m0⟩]
    = masks m0 m1 m2 := by
  funext y
  have hy : (y 0).val < 3 := (y 0).isLt
  refine Eq.trans (congrFun (View.read_whole (Val := Elt F) cc0_scratch7 _).symm y) ?_
  refine (read_mask _ 2 m2 _ y).trans ?_
  unfold masks
  by_cases h2 : (y 0).val = 2
  · rw [if_pos h2, if_neg (by omega), if_neg (by omega)]
  · rw [if_neg h2]
    refine (read_mask _ 1 m1 _ y).trans ?_
    by_cases h1 : (y 0).val = 1
    · rw [if_pos h1, if_neg (by omega), if_pos h1]
    · rw [if_neg h1]
      refine (read_mask _ 0 m0 _ y).trans ?_
      rw [if_pos (by omega), if_pos (by omega)]

/-- The attention of device `c`'s rows over the first head group, its own. -/
def head0 (c : Dev nD) : Vec F S2048x1024 .f32 :=
  outFst k0_pay29 maskAll (qAll (I.X c) (I.WQ c)) (convAll (stage (I.KE c) c c)) (convAll (stage (I.VE c) c c)) (I.WO c)

/-- The attention over head group `d`, added to `o`. -/
def headAdd (c d : Dev nD) (o : Vec F S2048x1024 .f32) : Vec F S2048x1024 .f32 :=
  outAcc k0_pay29 maskAll (qAll (I.X c) (I.WQ d)) (convAll (stage (I.KE c) c d)) (convAll (stage (I.VE c) c d)) (I.WO d) o

/-- What device `c` leaves in its output. -/
def outOf (c : Dev nD) : Vec F S2048x1024 .f32 :=
  headAdd I c (prv (prv c)) (headAdd I c (nxt c) (headAdd I c (prv c) (head0 I c)))

/-- The output after the first head group. -/
theorem head0_of (c : Dev nD) {M fk fv W WO gq gk gv go T1 T2 T3 T4 o} (h : o = rowSt (outFst k0_pay29 M (rowSt (qAll (I.X c) W) gq T2) (convSt fk gk T1) (convSt fv gv T3) WO) go T4)
    (hM : M = maskAll) (hW : W = I.WQ c) (hWO : WO = I.WO c) (hk : fk = stage (I.KE c) c c) (hv : fv = stage (I.VE c) c c) (t1 : T1 = 8) (t2 : T2 = 8) (t3 : T3 = 8) (t4 : T4 = 8) :
    o = head0 I c := by
  subst t1 t2 t3 t4 hM hk hv hW hWO
  rw [h, rowSt_eight, rowSt_eight, convSt_eight, convSt_eight]; rfl

/-- The output after a later head group. -/
theorem headAdd_of (c d : Dev nD) {M fk fv W WO gq gk gv go go' T1 T2 T3 T4 o} (h : o = rowSt (outAcc k0_pay29 M (rowSt (qAll (I.X c) W) gq T2) (convSt fk gk T1) (convSt fv gv T3) WO go') go T4)
    (hM : M = maskAll) (hW : W = I.WQ d) (hWO : WO = I.WO d) (hk : fk = stage (I.KE c) c d) (hv : fv = stage (I.VE c) c d) (t1 : T1 = 8) (t2 : T2 = 8) (t3 : T3 = 8) (t4 : T4 = 8) :
    o = headAdd I c d go' := by
  subst t1 t2 t3 t4 hM hk hv hW hWO
  rw [h, rowSt_eight, rowSt_eight, convSt_eight, convSt_eight]; rfl

end Cert.Proof
-- ==== Proof.KernelAt.lean ====
/- The kernel's output, entry by entry: a sum over the four head groups of softmax attention times Wo. -/
module

public import proofs.«01_k».proof.Proof.Soft
public import proofs.«01_k».proof.Proof.Vals
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- Column `e` of head `h` among a device's eight heads. -/
def colOf (h : Fin 8) (e : Fin 128) : Fin 1024 := ⟨128 * h.val + e.val, by omega⟩

/-- A row is its place in its row block. -/
theorem blk_row (i : Fin 2048) (p) : (⟨256 * (blk i).val + (inBlk i).val, p⟩ : Fin 2048) = i := Fin.ext (Nat.div_add_mod i.val 256)

/-- The rows of a row block, at an entry. -/
theorem rowsOf_at {e : EltTy} (X : Vec Idealize.ShloMosaic.Ideal S2048x1024 e) (i : Fin 2048) (k : Fin 1024) :
    rowsOf X (blk i) (ValueIdx.ix2 (inBlk i) k) = X (ValueIdx.ix2 i k) :=
  congrArg (fun r => X (ValueIdx.ix2 r k)) (blk_row i _)

/-- The projected queries, at an entry: the sum over 1024 columns. -/
theorem qAll_at (X : IF S2048x1024 .bf16) (W : IF S1024x1024 .bf16) (i : Fin 2048) (j : Fin 1024) :
    qAll (F := Idealize.ShloMosaic.Ideal) X W (ValueIdx.ix2 i j) = ∑ k : Fin 1024, X (ValueIdx.ix2 i k) * W (ValueIdx.ix2 k j) := by
  show k0_pay31 (F := Idealize.ShloMosaic.Ideal) (rowsOf X (blk i)) W (ValueIdx.ix2 (inBlk i) j) = _
  rw [pay31_at]
  exact Finset.sum_congr rfl fun k _ => congrArg (· * _) (rowsOf_at (e := .bf16) X i k)

/-- All head planes rounded: the entries themselves. -/
theorem convAll_at (f : IF S8x2048x128 .f32) (a : Fin 8) (b : Fin 2048) (e : Fin 128) :
    convAll (F := Idealize.ShloMosaic.Ideal) f (ValueIdx.ix3 a b e) = f (ValueIdx.ix3 a b e) :=
  (pay30_at (plane (F := Idealize.ShloMosaic.Ideal) (e := .f32) f a) b e).trans rfl

/-- The queries of one head in one row block, at an entry. -/
theorem qTile_at (Q : IF S2048x1024 .bf16) (i : Fin 2048) (h : Fin 8) (e : Fin 128) :
    qTile (F := Idealize.ShloMosaic.Ideal) Q (blk i) h (ValueIdx.ix2 (inBlk i) e) = Q (ValueIdx.ix2 i (colOf h e)) :=
  congrArg (fun r => Q (ValueIdx.ix2 r (colOf h e))) (blk_row i _)

/-- The window of keys or values of one head in one row block, at an entry. -/
theorem kTile_at (f : IF S8x2048x128 .f32) (n h : Fin 8) (x : Fin 512) (e : Fin 128) :
    kTile (F := Idealize.ShloMosaic.Ideal) (convAll f) n h (ValueIdx.ix3 0 x e) = f (ValueIdx.ix3 h (winKey n x) e) :=
  convAll_at f h (winKey n x) e

/-- The mask that a row block uses, at an entry. -/
theorem mask_at (i : Fin 2048) (x : Fin 512) :
    k0_pay33 (F := Idealize.ShloMosaic.Ideal) (mTile maskAll (blk i)) (ValueIdx.ix2 (inBlk i) x) = if inW i (winKey (blk i) x) then 0 else ⊥ := by
  rw [pay33_at]
  have hi := i.isLt
  show masks _ _ _ (ValueIdx.ix3 ⟨midx (blk i), _⟩ (inBlk i) x) = _
  have cong : ∀ {a b a' b' : ℕ}, (inW a b ↔ inW a' b') → (if inW a b then (0 : EReal) else ⊥) = if inW a' b' then 0 else ⊥ :=
    fun {a b a' b'} h => by
      by_cases h' : inW a b
      · rw [if_pos h', if_pos (h.mp h')]
      · rw [if_neg h', if_neg fun q => h' (h.mpr q)]
  unfold masks
  rcases Nat.eq_zero_or_pos (blk i).val with h0 | h0
  · rw [if_pos (show midx (blk i) = 0 by unfold midx; rw [if_pos h0])]
    refine (pay25_at (inBlk i) x).trans (cong ?_)
    simp only [blk] at h0
    simp only [inW, winKey, kst, blk, inBlk]; omega
  · rcases Nat.lt_or_ge (blk i).val 7 with h7 | h7
    · have hm : midx (blk i) = 1 := by unfold midx; rw [if_neg (by omega), if_neg (by omega)]
      rw [if_neg (show ¬ midx (blk i) = 0 by omega), if_pos (show midx (blk i) = 1 from hm)]
      refine (pay26_at (inBlk i) x).trans (cong ?_)
      simp only [blk] at h0 h7
      simp only [inW, winKey, kst, blk, inBlk]; omega
    · have hb : (blk i).val = 7 := by have := (blk i).isLt; omega
      have hm : midx (blk i) = 2 := by unfold midx; rw [if_neg (by omega), if_pos hb]
      rw [if_neg (show ¬ midx (blk i) = 0 by omega), if_neg (show ¬ midx (blk i) = 1 by omega)]
      refine (pay28_at (inBlk i) x).trans (cong ?_)
      simp only [blk] at h0 hb
      simp only [inW, winKey, kst, blk, inBlk]; omega

/-- A device's context at row `i` and column `col`: the softmax of the head's scores over the window, applied to the head's values. -/
theorem ctx_at (X : IF S2048x1024 .bf16) (W : IF S1024x1024 .bf16) (K V : IF S8x2048x128 .f32) (x : Fin 2048 → Fin 1024 → ℝ)
    (w : Fin 1024 → Fin 1024 → ℝ) (κ' : Fin 8 → Fin 2048 → Fin 128 → ℝ) (hX : ∀ i k, X (ValueIdx.ix2 i k) = ((x i k : ℝ) : EReal))
    (hW : ∀ k j, W (ValueIdx.ix2 k j) = ((w k j : ℝ) : EReal)) (hK : ∀ h j e, K (ValueIdx.ix3 h j e) = ((κ' h j e : ℝ) : EReal))
    (i : Fin 2048) (col : Fin 1024) :
    ctxBlk (F := Idealize.ShloMosaic.Ideal) k0_pay29 maskAll (qAll X W) (convAll K) (convAll V) (blk i) (ValueIdx.ix2 (inBlk i) col) =
      soft (fun j => ∑ e : Fin 128, (∑ k : Fin 1024, x i k * w k (colOf (hd col) e)) * κ' (hd col) j e) i
        (fun j => V (ValueIdx.ix3 (hd col) j (inHd col))) := by
  have hs : ∀ j : Fin 2048, ∑ e : Fin 128, (∑ k : Fin 1024, X (ValueIdx.ix2 i k) * W (ValueIdx.ix2 k (colOf (hd col) e))) * K (ValueIdx.ix3 (hd col) j e) =
      (((∑ e : Fin 128, (∑ k : Fin 1024, x i k * w k (colOf (hd col) e)) * κ' (hd col) j e : ℝ)) : EReal) := by
    intro j
    rw [← sum_coe]
    refine Finset.sum_congr rfl fun e _ => ?_
    rw [EReal.coe_mul, ← sum_coe, hK]
    refine congrArg (· * _) (Finset.sum_congr rfl fun k _ => ?_)
    rw [hX, hW, EReal.coe_mul]
  rw [← kernel_soft]
  show k0_pay1 (F := Idealize.ShloMosaic.Ideal) k0_pay29 (k0_pay33 (mTile maskAll (blk i))) (qTile (qAll X W) (blk i) (hd col))
    (kTile (convAll K) (blk i) (hd col)) (kTile (convAll V) (blk i) (hd col)) (ValueIdx.ix2 (inBlk i) (inHd col)) = _
  rw [pay1_at]
  have ht : ∀ x' : Fin 512, ∑ e : Fin 128, qTile (F := Idealize.ShloMosaic.Ideal) (qAll X W) (blk i) (hd col) (ValueIdx.ix2 (inBlk i) e) *
      kTile (F := Idealize.ShloMosaic.Ideal) (convAll K) (blk i) (hd col) (ValueIdx.ix3 0 x' e) =
      (((∑ e : Fin 128, (∑ k : Fin 1024, x i k * w k (colOf (hd col) e)) * κ' (hd col) (winKey (blk i) x') e : ℝ)) : EReal) := by
    intro x'
    rw [← hs]
    refine Finset.sum_congr rfl fun e _ => ?_
    rw [qTile_at, qAll_at, kTile_at]
  simp only [ht]
  simp only [mask_at, kTile_at, pay29_at]

/-- What one group of eight heads adds to the output at row `i`, column `o`. -/
def part (C : Fin 1024 → EReal) (WO : IF S1024x1024 .bf16) (o : Fin 1024) : EReal := ∑ k : Fin 1024, C k * WO (ValueIdx.ix2 k o)

/-- What the first head group leaves in the output, at an entry. -/
theorem outFst_at (M : Vec Idealize.ShloMosaic.Ideal S3x256x512 .bf16) (Q : IF S2048x1024 .bf16) (K V : IF S8x2048x128 .bf16) (W : IF S1024x1024 .bf16) (i : Fin 2048) (o : Fin 1024) :
    outFst (F := Idealize.ShloMosaic.Ideal) k0_pay29 M Q K V W (ValueIdx.ix2 i o) =
      part (fun k => ctxBlk (F := Idealize.ShloMosaic.Ideal) k0_pay29 M Q K V (blk i) (ValueIdx.ix2 (inBlk i) k)) W o :=
  pay36_at _ W (inBlk i) o

/-- What a later head group leaves in the output, at an entry: what was there plus its part. -/
theorem outAcc_at (M : Vec Idealize.ShloMosaic.Ideal S3x256x512 .bf16) (Q : IF S2048x1024 .bf16) (K V : IF S8x2048x128 .bf16) (W : IF S1024x1024 .bf16) (g : IF S2048x1024 .f32)
    (i : Fin 2048) (o : Fin 1024) :
    outAcc (F := Idealize.ShloMosaic.Ideal) k0_pay29 M Q K V W g (ValueIdx.ix2 i o) = g (ValueIdx.ix2 i o) +
      part (fun k => ctxBlk (F := Idealize.ShloMosaic.Ideal) k0_pay29 M Q K V (blk i) (ValueIdx.ix2 (inBlk i) k)) W o :=
  (pay43_at _ W _ (inBlk i) o).trans (congrArg (· + _) (rowsOf_at (e := .f32) g i o))

/-- The scores of row `i` with the keys of head `h` of device `d`'s eight, for queries `x` scaled beforehand. -/
def score (x : Fin 2048 → Fin 1024 → ℝ) (w : Fin 1024 → Fin 1024 → ℝ) (κ' : Fin 2048 → Fin 128 → ℝ) (h : Fin 8) (i j : Fin 2048) : ℝ :=
  ∑ e : Fin 128, (∑ k : Fin 1024, x i k * w k (colOf h e)) * κ' j e

/-- Head `h` of device `d`'s eight among all heads. -/
def headOf (d : Dev nD) (h : Fin 8) : Fin 32 := ⟨8 * d.val + h.val, by have : d.val < 4 := d.isLt; omega⟩

/-- The ring's order of the four groups gives their sum. -/
theorem ring_order (P : Fin 4 → EReal) (c : Fin 4) : P c + P (prv c) + P (nxt c) + P (prv (prv c)) = ∑ d : Fin 4, P d := by
  rw [Fin.sum_univ_four]
  fin_cases c
  · show P 0 + P 3 + P 1 + P 2 = _; abel
  · show P 1 + P 0 + P 2 + P 3 = _; abel
  · show P 2 + P 1 + P 3 + P 0 = _; abel
  · show P 3 + P 2 + P 0 + P 1 = _; abel

/-- Device `c`'s output at row `i`, column `o`: the four groups of heads in the order in which the ring brings their projections. -/
theorem outOf_at (I : Ins Idealize.ShloMosaic.Ideal) (x : Dev nD → Fin 2048 → Fin 1024 → ℝ) (w : Dev nD → Fin 1024 → Fin 1024 → ℝ)
    (κ' : Dev nD → Fin 4 → Fin 2048 → Fin 32 → Fin 128 → ℝ) (hX : ∀ c i k, (I.X c : IF S2048x1024 .bf16) (ValueIdx.ix2 i k) = ((x c i k : ℝ) : EReal))
    (hW : ∀ c k j, (I.WQ c : IF S1024x1024 .bf16) (ValueIdx.ix2 k j) = ((w c k j : ℝ) : EReal))
    (hK : ∀ c b j h e, (I.KE c : IF S4x2048x32x128 .f32) (ValueIdx.ix4 b j h e) = ((κ' c b j h e : ℝ) : EReal)) (c : Dev nD) (i : Fin 2048) (o : Fin 1024) :
    outOf (F := Idealize.ShloMosaic.Ideal) I c (ValueIdx.ix2 i o) =
      ∑ d : Fin 4, part (fun col => soft (score (x c) (w d) (fun j e => κ' c c j (headOf d (hd col)) e) (hd col) i) i
        (fun j => (I.VE c : IF S4x2048x32x128 .f32) (ValueIdx.ix4 c j (headOf d (hd col)) (inHd col)))) (I.WO d) o := by
  have hc : ∀ d : Dev nD, part (fun k => ctxBlk (F := Idealize.ShloMosaic.Ideal) k0_pay29 maskAll (qAll (I.X c) (I.WQ d)) (convAll (stage (I.KE c) c d))
      (convAll (stage (I.VE c) c d)) (blk i) (ValueIdx.ix2 (inBlk i) k)) (I.WO d) o =
      part (fun col => soft (score (x c) (w d) (fun j e => κ' c c j (headOf d (hd col)) e) (hd col) i) i
        (fun j => (I.VE c : IF S4x2048x32x128 .f32) (ValueIdx.ix4 c j (headOf d (hd col)) (inHd col)))) (I.WO d) o := by
    intro d
    refine congrArg (fun C => part C (I.WO d) o) (funext fun col => ?_)
    exact ctx_at (I.X c) (I.WQ d) (stage (I.KE c) c d) (stage (I.VE c) c d) (x c) (w d) (fun h j e => κ' c c j (headOf d h) e) (hX c) (hW d)
      (fun h j e => hK c c j (headOf d h) e) i col
  show outAcc (F := Idealize.ShloMosaic.Ideal) _ _ _ _ _ _ _ (ValueIdx.ix2 i o) = _
  rw [outAcc_at, hc]
  unfold headAdd
  rw [outAcc_at, hc, outAcc_at, hc]
  unfold head0
  rw [outFst_at, hc]
  exact ring_order (fun d : Dev nD => part (fun col => soft (score (x c) (w d) (fun j e => κ' c c j (headOf d (hd col)) e) (hd col) i) i
        (fun j => (I.VE c : IF S4x2048x32x128 .f32) (ValueIdx.ix4 c j (headOf d (hd col)) (inHd col)))) (I.WO d) o) c

end Cert.Proof
-- ==== Proof.RefAt.lean ====
/- The reference's result in stages, and each stage entry by entry. -/
module

public import proofs.«01_k».proof.Proof.Soft
public import proofs.«01_k».proof.Proof.Gen.ReferenceIdeal.Run
public import Idealize.ShloMosaic.Lib.Pointwise
public import Idealize.ShloMosaic.Lib.Pointwise.IndexBridge

@[expose] public section

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- An ideal f32 array. -/
abbrev R (s : Shape) := FVec Idealize.ShloMosaic.Ideal s .f32

/-- The mask: row and key at most 128 apart. -/
def rMask : IVec S2048x2048 1 := cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))

/-- The queries by head. -/
def rQ (x : R S4x2048x1024) (w : R S1024x4096) : R S4x2048x32x128 :=
  shapeCast _ (Host.dotGeneral dot_S4x2048x1024_S1024x4096_S4x2048x4096_2_0_01_1_n_n none x w) shapeCasts_S4x2048x4096_S4x2048x32x128

/-- The scaled scores, minus infinity where the mask is off. -/
def rS (q k : R S4x2048x32x128) : R S4x32x2048x2048 :=
  select (broadcastInDim S4x32x2048x2048 ![0, 1, 2, 3] bcast_S1x1x2048x2048_S4x32x2048x2048_0_1_2_3 (broadcastInDim S1x1x2048x2048 ![2, 3] bcast_S2048x2048_S1x1x2048x2048_2_3 rMask))
    (mulf (Host.dotGeneral dot_S4x2048x32x128_S4x2048x32x128_S4x32x2048x2048_3_3_1_1_02_02 none q k) (broadcastInDim S4x32x2048x2048 ![] bcast_S_S4x32x2048x2048 (constant S_ .f32 0x3DB504F3#32)))
    (broadcastInDim S4x32x2048x2048 ![] bcast_S_S4x32x2048x2048 (id (constant S_ .f32 0xFF800000#32)))

/-- Each row's greatest score. -/
def rM (s : R S4x32x2048x2048) : R S4x32x2048 :=
  Host.reduce FloatOps.maximumf s (constant S_ .f32 0xFF800000#32) reducesTo_S4x32x2048x2048_S4x32x2048_d3 h_S_

/-- The exponentials of the scores less their row's greatest. -/
def rW (s : R S4x32x2048x2048) : R S4x32x2048x2048 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 (rM s))))

/-- Which rows have a key. -/
def rKeep : IVec S2048 1 := Host.reduce IntOp.ori rMask (constantI S_ 1 0#1) reducesTo_S2048x2048_S2048_d1 h_S_

/-- The sums of exponentials. -/
def rD (w : R S4x32x2048x2048) : R S4x32x2048 :=
  Host.reduceAdd w (constant S_ .f32 0x00000000#32) reducesTo_S4x32x2048x2048_S4x32x2048_d3 h_S_

/-- The divisors: the sums, one for a row without a key. -/
def rE (d : R S4x32x2048) : R S4x32x2048x1 :=
  select (broadcastInDim S4x32x2048x1 ![0, 1, 2, 3] bcast_S1x1x2048x1_S4x32x2048x1_0_1_2_3 (broadcastInDim S1x1x2048x1 ![2] bcast_S2048_S1x1x2048x1_2 rKeep))
    (broadcastInDim S4x32x2048x1 ![0, 1, 2] bcast_S4x32x2048_S4x32x2048x1_0_1_2 d)
    (broadcastInDim S4x32x2048x1 ![] bcast_S_S4x32x2048x1 (id (constant S_ .f32 0x3F800000#32)))

/-- The weights. -/
def rP (w : R S4x32x2048x2048) (d : R S4x32x2048x1) : R S4x32x2048x2048 :=
  select (broadcastInDim S4x32x2048x2048 ![0, 1, 2, 3] bcast_S1x1x2048x1_S4x32x2048x2048_0_1_2_3 (broadcastInDim S1x1x2048x1 ![2] bcast_S2048_S1x1x2048x1_2 rKeep))
    (Host.divf w (broadcastInDim S4x32x2048x2048 ![0, 1, 2, 3] bcast_S4x32x2048x1_S4x32x2048x2048_0_1_2_3 d))
    (broadcastInDim S4x32x2048x2048 ![] bcast_S_S4x32x2048x2048 (id (constant S_ .f32 0x00000000#32)))

/-- The weights from the scores. -/
def rA (s : R S4x32x2048x2048) : R S4x32x2048x2048 := rP (rW s) (rE (rD (rW s)))

/-- The context, head after head. -/
def rC (v : R S4x2048x32x128) (p : R S4x32x2048x2048) : R S4x2048x4096 :=
  shapeCast _ (transpose S4x2048x32x128 [0, 3, 1, 2] (Host.dotGeneral dot_S4x2048x32x128_S4x32x2048x2048_S4x32x128x2048_1_3_3_2_02_01 none v p) transposes_S4x32x128x2048_S4x2048x32x128_0_3_1_2) shapeCasts_S4x2048x32x128_S4x2048x4096

/-- The result. -/
def rO (x : R S4x2048x1024) (w : R S1024x4096) (k v : R S4x2048x32x128) (o : R S4096x1024) : R S4x2048x1024 :=
  Host.dotGeneral dot_S4x2048x4096_S4096x1024_S4x2048x1024_2_0_01_1_n_n none (rC v (rA (rS (rQ x w) k))) o

/-- The reference's result is its stages one after the other. -/
theorem res_eq (m : (ℓ : Loc nD τ sig) → Buf (Elt Idealize.ShloMosaic.Ideal) ℓ) (c : Dev nD) :
    Cert.ReferenceIdeal.Value.res_main_v34 m c = rO (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The window mask at an entry. -/
theorem rMask_at (i j : Fin 2048) : rMask (ix2 i j) = if inW i j then 1#1 else 0#1 := by
  unfold rMask
  simp only [pointwise]
  exact cmp_inW i.val j.val (by omega) (by omega)

/-- The projected queries at an entry. -/
theorem rQ_at (x : R S4x2048x1024) (w : R S1024x4096) (b : Fin 4) (i : Fin 2048) (h : Fin 32) (e : Fin 128) :
    rQ x w (ix4 b i h e) = ∑ k : Fin 1024, x (ix3 b i k) * w (ix2 k ⟨h.val * 128 + e.val, by omega⟩) := by
  unfold rQ
  simp only [pointwise]
  rw [zero_add]

/-- The bits of minus infinity. -/
theorem neg_inf : Ideal.ofBits .f32 0xFF800000#32 = ⊥ := by simp [Ideal.ofBits, Ideal.ieee]

/-- The masked scores at an entry. -/
theorem rS_at (q k : R S4x2048x32x128) (b : Fin 4) (h : Fin 32) (i j : Fin 2048) :
    rS q k (ix4 b h i j) = if inW i j then (∑ e : Fin 128, q (ix4 b i h e) * k (ix4 b j h e)) * Ideal.ofBits .f32 0x3DB504F3#32 else ⊥ := by
  unfold rS
  simp only [pointwise]
  rw [zero_add]
  show Scalar.select (rMask (ix2 i j)) _ (Ideal.ofBits .f32 0xFF800000#32) = _
  rw [rMask_at, neg_inf]
  by_cases hh : inW i j
  · rw [if_pos hh, if_pos hh]; rfl
  · rw [if_neg hh, if_neg hh]; rfl

/-- The largest score of a row. -/
theorem rM_at (s : R S4x32x2048x2048) (b : Fin 4) (h : Fin 32) (i : Fin 2048) :
    rM s (ix3 b h i) = (Finset.univ : Finset (Fin 2048)).fold max (⊥ : EReal) (fun j => s (ix4 b h i j)) := by
  unfold rM
  simp only [pointwise]
  rw [neg_inf]

/-- Every row has a key. -/
theorem rKeep_at (i : Fin 2048) : rKeep (ix1 i) = 1#1 := by
  unfold rKeep
  simp only [pointwise]
  have ho : ∀ y : BitVec 1, IntOp.ori 1#1 y = 1#1 := by decide
  rw [← Finset.insert_erase (Finset.mem_univ i), Finset.fold_insert (Finset.notMem_erase _ _), rMask_at, if_pos (by unfold inW; omega), ho]

/-- The weights, at an entry. -/
theorem rW_at (s : R S4x32x2048x2048) (b : Fin 4) (h : Fin 32) (i j : Fin 2048) :
    rW s (ix4 b h i j) = Ideal.exp (s (ix4 b h i j) - rM s (ix3 b h i)) := by
  unfold rW
  simp only [pointwise]
  rfl

/-- The sum of the weights of a row. -/
theorem rD_at (w : R S4x32x2048x2048) (b : Fin 4) (h : Fin 32) (i : Fin 2048) :
    rD w (ix3 b h i) = ∑ k, w (ix4 b h i k) := by
  unfold rD
  simp only [pointwise]
  rw [zero_add]

/-- That sum, as a column. -/
theorem rE_at (d : R S4x32x2048) (b : Fin 4) (h : Fin 32) (i : Fin 2048) : rE d (ix4 b h i 0) = d (ix3 b h i) := by
  unfold rE
  simp only [pointwise]
  show Scalar.select (rKeep (ix1 i)) (d (ix3 b h i)) _ = _
  rw [rKeep_at]; rfl

/-- A weight over the sum of its row. -/
theorem rP_at (w : R S4x32x2048x2048) (d : R S4x32x2048x1) (b : Fin 4) (h : Fin 32) (i j : Fin 2048) :
    rP w d (ix4 b h i j) = Ideal.div (w (ix4 b h i j)) (d (ix4 b h i 0)) := by
  unfold rP
  simp only [pointwise]
  show Scalar.select (rKeep (ix1 i)) (Ideal.div (w (ix4 b h i j)) (d (ix4 b h i 0))) _ = _
  rw [rKeep_at]; rfl

/-- The attention weights at an entry, from the scores. -/
theorem rA_at (s : R S4x32x2048x2048) (b : Fin 4) (h : Fin 32) (i j : Fin 2048) :
    rA s (ix4 b h i j) = Ideal.div (Ideal.exp (s (ix4 b h i j) - rM s (ix3 b h i))) (∑ k, Ideal.exp (s (ix4 b h i k) - rM s (ix3 b h i))) := by
  unfold rA
  rw [rP_at, rE_at, rD_at, rW_at]
  exact congrArg _ (Finset.sum_congr rfl fun k _ => rW_at s b h i k)

/-- The weighted sum of the values, at an entry. -/
theorem rC_at (v : R S4x2048x32x128) (p : R S4x32x2048x2048) (b : Fin 4) (i : Fin 2048) (h : Fin 32) (e : Fin 128) :
    rC v p (ix3 b i ⟨128 * h.val + e.val, by omega⟩) = ∑ j : Fin 2048, v (ix4 b j h e) * p (ix4 b h i j) := by
  unfold rC
  simp only [pointwise]
  rw [zero_add]

/-- The reference's result at an entry: a sum over all columns of all heads. -/
theorem rO_at (x : R S4x2048x1024) (w : R S1024x4096) (k v : R S4x2048x32x128) (o : R S4096x1024) (b : Fin 4) (i : Fin 2048) (j : Fin 1024) :
    rO x w k v o (ix3 b i j) = ∑ c : Fin 4096, rC v (rA (rS (rQ x w) k)) (ix3 b i c) * o (ix2 c j) := by
  unfold rO
  simp only [pointwise]
  rw [zero_add]

/-- The reference's score, as a real: the head's query times its key, scaled. -/
def rScore (x : Fin 4 → Fin 2048 → Fin 1024 → ℝ) (w : Fin 1024 → Fin 4096 → ℝ) (κ : Fin 4 → Fin 2048 → Fin 32 → Fin 128 → ℝ) (sc : ℝ) (b : Fin 4) (h : Fin 32) (i j : Fin 2048) : ℝ :=
  (∑ e : Fin 128, (∑ k : Fin 1024, x b i k * w k ⟨h.val * 128 + e.val, by omega⟩) * κ b j h e) * sc

/-- The reference's context at an index: the softmax of the head's scores applied to its values. -/
theorem rC_soft (x : R S4x2048x1024) (w : R S1024x4096) (k v : R S4x2048x32x128) (x' : Fin 4 → Fin 2048 → Fin 1024 → ℝ) (w' : Fin 1024 → Fin 4096 → ℝ)
    (k' : Fin 4 → Fin 2048 → Fin 32 → Fin 128 → ℝ) (sc : ℝ) (hx : ∀ b i j, x (ix3 b i j) = ((x' b i j : ℝ) : EReal)) (hw : ∀ i j, w (ix2 i j) = ((w' i j : ℝ) : EReal))
    (hk : ∀ b j h e, k (ix4 b j h e) = ((k' b j h e : ℝ) : EReal)) (hsc : Ideal.ofBits .f32 0x3DB504F3#32 = (sc : EReal))
    (b : Fin 4) (i : Fin 2048) (h : Fin 32) (e : Fin 128) :
    rC v (rA (rS (rQ x w) k)) (ix3 b i ⟨128 * h.val + e.val, by omega⟩) = soft (rScore x' w' k' sc b h i) i (fun j => v (ix4 b j h e)) := by
  have hs : ∀ j, rS (rQ x w) k (ix4 b h i j) = if inW i j then ((rScore x' w' k' sc b h i j : ℝ) : EReal) else ⊥ := by
    intro j
    rw [rS_at]
    refine congrArg (fun z => if inW i j then z else ⊥) ?_
    rw [rScore, EReal.coe_mul, hsc, ← sum_coe]
    refine congrArg (· * _) (Finset.sum_congr rfl fun e' _ => ?_)
    rw [rQ_at, hk, EReal.coe_mul, ← sum_coe]
    refine congrArg (· * _) (Finset.sum_congr rfl fun k'' _ => ?_)
    rw [hx, hw, EReal.coe_mul]
  obtain ⟨μ, hμ⟩ := max_real (rScore x' w' k' sc b h i) i
  have hm : rM (rS (rQ x w) k) (ix3 b h i) = (μ : EReal) := by
    rw [rM_at, ← hμ]
    exact congrArg (fun f => (Finset.univ : Finset (Fin 2048)).fold max (⊥ : EReal) f) (funext hs)
  rw [rC_at, ← reference_soft _ i _ μ]
  refine Finset.sum_congr rfl fun j _ => congrArg (v (ix4 b j h e) * ·) ?_
  rw [rA_at, hm]
  simp only [hs]

end Cert.Proof.Ref
-- ==== Proof.Loops1.lean ====
/- The loops of the first head group. -/
module

public import proofs.«01_k».proof.Proof.State

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-! # The loops of the kernel

Each definition states what one counted loop of the kernel keeps: the buffers it reads, and the buffer it writes as a
function of the trips done. -/

/-- The invariant of a counted loop of the kernel on device `c`. -/
abbrev LoopAt (c : Dev nD) {n : ℕ} (lp : Scf.Loop n) (ok : lp.OK) (body : Fin lp.trips → Unit → Prog (TpuEff nD τ sig (Elt F) Λ₀ .tc) Unit) :=
  Idealize.ShloMosaic.LoopInv (M := MT nD τ sig Unit (Elt F) ℕ UU ℕ) Idealize.ShloMosaic.frame (wpE defs₀ Variants.none (c : Thread nD τ) none) Set.univ
    lp.lb lp.ub lp.st ok () body

/-- A load of a whole square matrix reads what its view reads. -/
theorem readAt_square {κ : Kind} {sp : Space} {Val : EltTy → Type} {e : EltTy} (v : View sig κ sp S1024x1024 e) (f : v.ty.Contents Val) {inb} :
    v.readAt Val (Rect.unit (s := S1024x1024) ![0, 0] S1024x1024.size inb).toLoadRect f = v.read Val f := by
  have h : (![0, 0] : Fin 2 → ℕ) = fun _ => 0 := by funext a; fin_cases a <;> rfl
  funext y
  show v.read Val f _ = v.read Val f y
  congr 1
  funext a
  fin_cases a
  · exact Fin.ext (show 0 + 1 * (y 0).val = (y 0).val by omega)
  · exact Fin.ext (show 0 + 1 * (y 1).val = (y 1).val by omega)

/-- A load of the whole context block after both trips of the head loop. -/
theorem readAt_ctx (N g : Vec F S256x1024 .bf16) (n : ℕ) (hn : n = 2) {inb} :
    View.readAt (Elt F) ctxM.view (Rect.unit (s := S256x1024) ![0, 0] S256x1024.size inb).toLoadRect (colSt N g n) = N := by
  subst hn
  rw [colSt_two]
  funext y
  show N _ = N y
  congr 1
  funext a
  fin_cases a
  · exact Fin.ext (show 0 + 1 * (y 0).val = (y 0).val by omega)
  · exact Fin.ext (show 0 + 1 * (y 1).val = (y 1).val by omega)

set_option warn.classDefReducibility false in
/-- Conversion of the keys, head by head. -/
@[sl_loop] def inv_t1 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (f : Vec F S8x2048x128 .f32)
    (g : Vec F S8x2048x128 .bf16) :
    LoopAt c k0_t1_loop k0_t1_ok (k0_t1_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2) where
  inv k _ := iprop(∃ h : Vec F S8x2048x128 .bf16, ⌜h = convSt f g k⌝ ∗ pt fstM c fullShare f ∗ pt kscM c fullShare h)
  step k _ := by
    have hk : k.val < 8 := Nat.lt_of_lt_of_le k.isLt k0_t1_abs.2.1
    have e := kconv_step f g (inb := k0_off2_inb k) (inb' := k0_off2_inb k) k.val hk (k0_off2_eq k)
    unfold k0_t1_body
    iintro ⟨%h, %e', Hf, Hg⟩
    subst e'
    sl_exec
    sl_step
    iexists (convSt f g (k.val + 1))
    isplitr
    · ipureintro; rfl
    rw [e]
    sl_close

set_option warn.classDefReducibility false in
/-- Conversion of the values, head by head. -/
@[sl_loop] def inv_t3 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v163 : BitVec 32) (f : Vec F S8x2048x128 .f32)
    (g : Vec F S8x2048x128 .bf16) :
    LoopAt c k0_t3_loop k0_t3_ok (k0_t3_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v163) where
  inv k _ := iprop(∃ h : Vec F S8x2048x128 .bf16, ⌜h = convSt f g k⌝ ∗ pt fstM c fullShare f ∗ pt vscM c fullShare h)
  step k _ := by
    have hk : k.val < 8 := Nat.lt_of_lt_of_le k.isLt k0_t3_abs.2.1
    have e := vconv_step f g (inb := k0_off4_inb k) (inb' := k0_off4_inb k) k.val hk (k0_off4_eq k)
    unfold k0_t3_body
    iintro ⟨%h, %e', Hf, Hg⟩
    subst e'
    sl_exec
    sl_step
    iexists (convSt f g (k.val + 1))
    isplitr
    · ipureintro; rfl
    rw [e]
    sl_close

set_option warn.classDefReducibility false in
/-- The query projection, 256 rows a trip. -/
@[sl_loop] def inv_t2 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (q : PosShare TreeShare) (X : Vec F S2048x1024 .bf16)
    (W : Buf (Elt F) (wqM.view.loc (c : Thread nD τ))) (g : Vec F S2048x1024 .bf16) :
    LoopAt c k0_t2_loop k0_t2_ok (k0_t2_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2) where
  inv k _ := iprop(∃ h : Vec F S2048x1024 .bf16, ⌜h = rowSt (qAll X (wqM.view.read (Elt F) W)) g k⌝ ∗ pt xM c fullShare X ∗ pt wqM c q W ∗ pt qscM c fullShare h)
  step k _ := by
    have hk : k.val < 8 := Nat.lt_of_lt_of_le k.isLt k0_t2_abs.2.1
    have e := q_step X (View.readAt (Elt F) wqM.view (Rect.unit (s := S1024x1024) ![0, 0] S1024x1024.size inb_S1024x1024_S1024x1024_0_0).toLoadRect W) g
      (inb := k0_off3_inb k) (inb' := k0_off3_inb k) k.val hk (k0_off3_eq k)
    rw [← readAt_square wqM.view W (inb := inb_S1024x1024_S1024x1024_0_0)]
    unfold k0_t2_body
    iintro ⟨%h, %e', Hx, Hw, Hg⟩
    subst e'
    sl_exec
    sl_step
    iexists (rowSt (qAll X (View.readAt (Elt F) wqM.view (Rect.unit (s := S1024x1024) ![0, 0] S1024x1024.size inb_S1024x1024_S1024x1024_0_0).toLoadRect W)) g (k.val + 1))
    isplitr
    · ipureintro; rfl
    rw [e]
    sl_close

/-- Where the loop reads a head's window of keys or values: head `4 k + r`, from the window's first row. -/
theorem off8_eq : ∀ (n : Fin k0_t4_loop.trips) (k : Fin k0_t5_loop.trips) (r : Fin 4),
    k0_off8 n k (BitVec.ofNat 32 r.val) = ![4 * k.val + r.val, kst n.val, 0] := by decide +kernel

set_option warn.classDefReducibility false in
/-- The context of one query block, four heads a trip. -/
@[sl_loop] def inv_t5 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v7 : BitVec 32) (v160 : FVec F S512x128 .bf16) (v163 : BitVec 32) (k0_t4 : Fin k0_t4_loop.trips) (v1089 v1094 : BitVec 32)
    (M : Vec F S3x256x512 .bf16)
    (Q : Vec F S2048x1024 .bf16) (K V : Vec F S8x2048x128 .bf16) (g : Vec F S256x1024 .bf16) :
    LoopAt c k0_t5_loop k0_t5_ok (k0_t5_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v7 v160 v163 k0_t4 v1089 v1094
      (View.readAt (Elt F) mskM.view (Rect.unit (s := S3x256x512) (k0_off6 k0_t4) S1x256x512.size (k0_off6_inb k0_t4)).toLoadRect M)) where
  inv k _ := iprop(∃ h : Vec F S256x1024 .bf16, ⌜h = colSt (ctxBlk v160 M Q K V ⟨k0_t4.val, Nat.lt_of_lt_of_le k0_t4.isLt k0_t4_abs.2.1⟩) g k⌝ ∗ pt qscM c fullShare Q ∗ pt kscM c fullShare K
    ∗ pt vscM c fullShare V ∗ pt ctxM c fullShare h)
  step k _ := by
    obtain ⟨n, hn⟩ : ∃ n : Fin 8, n = ⟨k0_t4.val, Nat.lt_of_lt_of_le k0_t4.isLt k0_t4_abs.2.1⟩ := ⟨_, rfl⟩
    rw [← hn]
    replace hn : n.val = k0_t4.val := congrArg Fin.val hn
    have hv := readAt_m M (inb := k0_off6_inb k0_t4) n ((k0_off6_eq k0_t4).trans (by rw [hn]; rfl))
    have hk : k.val < 2 := Nat.lt_of_lt_of_le k.isLt k0_t5_abs.2.1
    have oq : ∀ (r : Fin 4) (h : Fin 8), h.val = 4 * k.val + r.val → k0_off7 k0_t4 k (BitVec.ofNat 32 r.val) = ![256 * n.val, 128 * h.val] :=
      fun r h e => (k0_off7_eq k0_t4 k r).trans (by rw [hn, e]; congr 2; omega)
    have okk : ∀ (r : Fin 4) (h : Fin 8), h.val = 4 * k.val + r.val → k0_off8 k0_t4 k (BitVec.ofNat 32 r.val) = ![h.val, kst n.val, 0] :=
      fun r h e => (off8_eq k0_t4 k r).trans (by rw [hn, e])
    unfold k0_t5_body
    iintro ⟨%h, %e', Hq, Hk, Hv, Hg⟩
    subst e'
    sl_exec
    sl_step
    iexists (colSt (ctxBlk v160 M Q K V n) g (k.val + 1))
    isplitr
    · ipureintro; rfl
    rw [ctx_step (ctxBlk v160 M Q K V n) g k.val _ _ _ _ (k0_off9_eq k 0) (k0_off9_eq k 1) (k0_off9_eq k 2) (k0_off9_eq k 3)
      (fun y hy => ctx_tile v160 M Q K V n ⟨4 * k.val + 0, by omega⟩ _ _ _ _ (congrArg k0_pay33 hv) (readAt_q Q (inb := k0_off7_inb k0_t4 k 0) n _ (oq 0 _ rfl))
        (readAt_k K (inb := k0_off8_inb k0_t4 k 0) n _ (okk 0 _ rfl)) (readAt_v V (inb := k0_off8_inb k0_t4 k 0) n _ (okk 0 _ rfl)) y hy)
      (fun y hy => ctx_tile v160 M Q K V n ⟨4 * k.val + 1, by omega⟩ _ _ _ _ (congrArg k0_pay33 hv) (readAt_q Q (inb := k0_off7_inb k0_t4 k 1) n _ (oq 1 _ rfl))
        (readAt_k K (inb := k0_off8_inb k0_t4 k 1) n _ (okk 1 _ rfl)) (readAt_v V (inb := k0_off8_inb k0_t4 k 1) n _ (okk 1 _ rfl)) y hy)
      (fun y hy => ctx_tile v160 M Q K V n ⟨4 * k.val + 2, by omega⟩ _ _ _ _ (congrArg k0_pay33 hv) (readAt_q Q (inb := k0_off7_inb k0_t4 k 2) n _ (oq 2 _ rfl))
        (readAt_k K (inb := k0_off8_inb k0_t4 k 2) n _ (okk 2 _ rfl)) (readAt_v V (inb := k0_off8_inb k0_t4 k 2) n _ (okk 2 _ rfl)) y hy)
      (fun y hy => ctx_tile v160 M Q K V n ⟨4 * k.val + 3, by omega⟩ _ _ _ _ (congrArg k0_pay33 hv) (readAt_q Q (inb := k0_off7_inb k0_t4 k 3) n _ (oq 3 _ rfl))
        (readAt_k K (inb := k0_off8_inb k0_t4 k 3) n _ (okk 3 _ rfl)) (readAt_v V (inb := k0_off8_inb k0_t4 k 3) n _ (okk 3 _ rfl)) y hy)]
    sl_close

set_option warn.classDefReducibility false in
/-- The output of one head group, 256 rows a trip. -/
@[sl_loop] def inv_t4 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v7 : BitVec 32) (v160 : FVec F S512x128 .bf16) (v163 : BitVec 32) (q : PosShare TreeShare)
    (M : Vec F S3x256x512 .bf16) (Q : Vec F S2048x1024 .bf16) (K V : Vec F S8x2048x128 .bf16)
    (W : Buf (Elt F) (woM.view.loc (c : Thread nD τ))) (g : Vec F S2048x1024 .f32) :
    LoopAt c k0_t4_loop k0_t4_ok (k0_t4_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v7 v160 v163) where
  inv k _ := iprop(∃ (h : Vec F S2048x1024 .f32) (w : Vec F S256x1024 .bf16), ⌜h = rowSt (outFst v160 M Q K V (woM.view.read (Elt F) W)) g k⌝ ∗ pt mskM c fullShare M
    ∗ pt qscM c fullShare Q ∗ pt kscM c fullShare K ∗ pt vscM c fullShare V ∗ pt woM c q W ∗ pt outM c fullShare h ∗ pt ctxM c fullShare w)
  step k _ := by
    have hk : k.val < 8 := Nat.lt_of_lt_of_le k.isLt k0_t4_abs.2.1
    have hm : k0_off6 k = ![midx k.val, 0, 0] := k0_off6_eq k
    have e := outFst_step v160 M Q K V (View.readAt (Elt F) woM.view (Rect.unit (s := S1024x1024) ![0, 0] S1024x1024.size inb_S1024x1024_S1024x1024_0_0).toLoadRect W) g (inb := k0_off10_inb k) k.val hk (k0_off10_eq k)
    rw [← readAt_square woM.view W (inb := inb_S1024x1024_S1024x1024_0_0)]
    unfold k0_t4_body
    iintro ⟨%h, %w, %e', Hm, Hq, Hk, Hv, Hw, Ho, Hg⟩
    subst e'
    sl_exec
    sl_step
    iexists (rowSt (outFst v160 M Q K V (View.readAt (Elt F) woM.view (Rect.unit (s := S1024x1024) ![0, 0] S1024x1024.size inb_S1024x1024_S1024x1024_0_0).toLoadRect W)) g (k.val + 1)), (colSt (ctxBlk v160 M Q K V ⟨k.val, hk⟩) w (Scf.trips k0_t5_loop.lb k0_t5_loop.ub k0_t5_loop.st))
    isplitr
    · ipureintro; rfl
    have ec := readAt_ctx (ctxBlk v160 M Q K V ⟨k.val, hk⟩) w (Scf.trips k0_t5_loop.lb k0_t5_loop.ub k0_t5_loop.st) (by decide) (inb := inb_S256x1024_S256x1024_0_0)
    rw [← ec] at e
    rw [e]
    sl_close

end Cert.Proof
-- ==== Proof.Loops2.lean ====
/- The loops of the second head group. -/
module

public import proofs.«01_k».proof.Proof.Loops1

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

set_option warn.classDefReducibility false in
/-- Conversion of the keys, head by head. -/
@[sl_loop] def inv_t6 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v416 : BitVec 32) (f : Vec F S8x2048x128 .f32)
    (g : Vec F S8x2048x128 .bf16) :
    LoopAt c k0_t6_loop k0_t6_ok (k0_t6_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v416) where
  inv k _ := iprop(∃ h : Vec F S8x2048x128 .bf16, ⌜h = convSt f g k⌝ ∗ pt fstM c fullShare f ∗ pt kscM c fullShare h)
  step k _ := by
    have hk : k.val < 8 := Nat.lt_of_lt_of_le k.isLt k0_t6_abs.2.1
    have e := kconv_step f g (inb := k0_off11_inb k) (inb' := k0_off11_inb k) k.val hk (k0_off11_eq k)
    unfold k0_t6_body
    iintro ⟨%h, %e', Hf, Hg⟩
    subst e'
    sl_exec
    sl_step
    iexists (convSt f g (k.val + 1))
    isplitr
    · ipureintro; rfl
    rw [e]
    sl_close

set_option warn.classDefReducibility false in
/-- Conversion of the values, head by head. -/
@[sl_loop] def inv_t8 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v418 : BitVec 32) (f : Vec F S8x2048x128 .f32)
    (g : Vec F S8x2048x128 .bf16) :
    LoopAt c k0_t8_loop k0_t8_ok (k0_t8_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v418) where
  inv k _ := iprop(∃ h : Vec F S8x2048x128 .bf16, ⌜h = convSt f g k⌝ ∗ pt fstM c fullShare f ∗ pt vscM c fullShare h)
  step k _ := by
    have hk : k.val < 8 := Nat.lt_of_lt_of_le k.isLt k0_t8_abs.2.1
    have e := vconv_step f g (inb := k0_off13_inb k) (inb' := k0_off13_inb k) k.val hk (k0_off13_eq k)
    unfold k0_t8_body
    iintro ⟨%h, %e', Hf, Hg⟩
    subst e'
    sl_exec
    sl_step
    iexists (convSt f g (k.val + 1))
    isplitr
    · ipureintro; rfl
    rw [e]
    sl_close

set_option warn.classDefReducibility false in
/-- The query projection, 256 rows a trip. -/
@[sl_loop] def inv_t7 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v416 : BitVec 32) (q : PosShare TreeShare) (X : Vec F S2048x1024 .bf16)
    (W : Buf (Elt F) (fl00.view.loc (c : Thread nD τ))) (g : Vec F S2048x1024 .bf16) :
    LoopAt c k0_t7_loop k0_t7_ok (k0_t7_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v416) where
  inv k _ := iprop(∃ h : Vec F S2048x1024 .bf16, ⌜h = rowSt (qAll X (fl00.view.read (Elt F) W)) g k⌝ ∗ pt xM c fullShare X ∗ pt fl00 c q W ∗ pt qscM c fullShare h)
  step k _ := by
    have hk : k.val < 8 := Nat.lt_of_lt_of_le k.isLt k0_t7_abs.2.1
    have e := q_step X (View.readAt (Elt F) fl00.view (Rect.unit (s := S1024x1024) ![0, 0] S1024x1024.size inb_S1024x1024_S1024x1024_0_0).toLoadRect W) g
      (inb := k0_off12_inb k) (inb' := k0_off12_inb k) k.val hk (k0_off12_eq k)
    rw [pay38_eq] at e
    rw [← readAt_square fl00.view W (inb := inb_S1024x1024_S1024x1024_0_0)]
    unfold k0_t7_body
    iintro ⟨%h, %e', Hx, Hw, Hg⟩
    subst e'
    sl_exec
    sl_step
    iexists (rowSt (qAll X (View.readAt (Elt F) fl00.view (Rect.unit (s := S1024x1024) ![0, 0] S1024x1024.size inb_S1024x1024_S1024x1024_0_0).toLoadRect W)) g (k.val + 1))
    isplitr
    · ipureintro; rfl
    rw [e]
    sl_close

/-- Where the loop reads a head's window of keys or values: head `4 k + r`, from the window's first row. -/
theorem off17_eq : ∀ (n : Fin k0_t9_loop.trips) (k : Fin k0_t10_loop.trips) (r : Fin 4),
    k0_off17 n k (BitVec.ofNat 32 r.val) = ![4 * k.val + r.val, kst n.val, 0] := by decide +kernel

set_option warn.classDefReducibility false in
/-- The context of one query block, four heads a trip. -/
@[sl_loop] def inv_t10 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (v5 : BitVec 32) (v160 : FVec F S512x128 .bf16) (v418 : BitVec 32) (k0_t9 : Fin k0_t9_loop.trips) (v1089 v1094 : BitVec 32)
    (M : Vec F S3x256x512 .bf16)
    (Q : Vec F S2048x1024 .bf16) (K V : Vec F S8x2048x128 .bf16) (g : Vec F S256x1024 .bf16) :
    LoopAt c k0_t10_loop k0_t10_ok (k0_t10_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v5 v160 v418 k0_t9 v1089 v1094
      (View.readAt (Elt F) mskM.view (Rect.unit (s := S3x256x512) (k0_off15 k0_t9) S1x256x512.size (k0_off15_inb k0_t9)).toLoadRect M)) where
  inv k _ := iprop(∃ h : Vec F S256x1024 .bf16, ⌜h = colSt (ctxBlk v160 M Q K V ⟨k0_t9.val, Nat.lt_of_lt_of_le k0_t9.isLt k0_t9_abs.2.1⟩) g k⌝ ∗ pt qscM c fullShare Q ∗ pt kscM c fullShare K
    ∗ pt vscM c fullShare V ∗ pt ctxM c fullShare h)
  step k _ := by
    obtain ⟨n, hn⟩ : ∃ n : Fin 8, n = ⟨k0_t9.val, Nat.lt_of_lt_of_le k0_t9.isLt k0_t9_abs.2.1⟩ := ⟨_, rfl⟩
    rw [← hn]
    replace hn : n.val = k0_t9.val := congrArg Fin.val hn
    have hv := readAt_m M (inb := k0_off15_inb k0_t9) n ((k0_off15_eq k0_t9).trans (by rw [hn]; rfl))
    have hk : k.val < 2 := Nat.lt_of_lt_of_le k.isLt k0_t10_abs.2.1
    have oq : ∀ (r : Fin 4) (h : Fin 8), h.val = 4 * k.val + r.val → k0_off16 k0_t9 k (BitVec.ofNat 32 r.val) = ![256 * n.val, 128 * h.val] :=
      fun r h e => (k0_off16_eq k0_t9 k r).trans (by rw [hn, e]; congr 2; omega)
    have okk : ∀ (r : Fin 4) (h : Fin 8), h.val = 4 * k.val + r.val → k0_off17 k0_t9 k (BitVec.ofNat 32 r.val) = ![h.val, kst n.val, 0] :=
      fun r h e => (off17_eq k0_t9 k r).trans (by rw [hn, e])
    unfold k0_t10_body
    iintro ⟨%h, %e', Hq, Hk, Hv, Hg⟩
    subst e'
    sl_exec
    sl_step
    iexists (colSt (ctxBlk v160 M Q K V n) g (k.val + 1))
    isplitr
    · ipureintro; rfl
    rw [ctx_step (ctxBlk v160 M Q K V n) g k.val _ _ _ _ (k0_off18_eq k 0) (k0_off18_eq k 1) (k0_off18_eq k 2) (k0_off18_eq k 3)
      (fun y hy => ctx_tile v160 M Q K V n ⟨4 * k.val + 0, by omega⟩ _ _ _ _ (congrArg k0_pay33 hv) (readAt_q Q (inb := k0_off16_inb k0_t9 k 0) n _ (oq 0 _ rfl))
        (readAt_k K (inb := k0_off17_inb k0_t9 k 0) n _ (okk 0 _ rfl)) (readAt_v V (inb := k0_off17_inb k0_t9 k 0) n _ (okk 0 _ rfl)) y hy)
      (fun y hy => ctx_tile v160 M Q K V n ⟨4 * k.val + 1, by omega⟩ _ _ _ _ (congrArg k0_pay33 hv) (readAt_q Q (inb := k0_off16_inb k0_t9 k 1) n _ (oq 1 _ rfl))
        (readAt_k K (inb := k0_off17_inb k0_t9 k 1) n _ (okk 1 _ rfl)) (readAt_v V (inb := k0_off17_inb k0_t9 k 1) n _ (okk 1 _ rfl)) y hy)
      (fun y hy => ctx_tile v160 M Q K V n ⟨4 * k.val + 2, by omega⟩ _ _ _ _ (congrArg k0_pay33 hv) (readAt_q Q (inb := k0_off16_inb k0_t9 k 2) n _ (oq 2 _ rfl))
        (readAt_k K (inb := k0_off17_inb k0_t9 k 2) n _ (okk 2 _ rfl)) (readAt_v V (inb := k0_off17_inb k0_t9 k 2) n _ (okk 2 _ rfl)) y hy)
      (fun y hy => ctx_tile v160 M Q K V n ⟨4 * k.val + 3, by omega⟩ _ _ _ _ (congrArg k0_pay33 hv) (readAt_q Q (inb := k0_off16_inb k0_t9 k 3) n _ (oq 3 _ rfl))
        (readAt_k K (inb := k0_off17_inb k0_t9 k 3) n _ (okk 3 _ rfl)) (readAt_v V (inb := k0_off17_inb k0_t9 k 3) n _ (okk 3 _ rfl)) y hy)]
    sl_close

set_option warn.classDefReducibility false in
/-- The output of one head group, 256 rows a trip. -/
@[sl_loop] def inv_t9 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (v5 : BitVec 32) (v160 : FVec F S512x128 .bf16) (v418 : BitVec 32) (q : PosShare TreeShare)
    (M : Vec F S3x256x512 .bf16) (Q : Vec F S2048x1024 .bf16) (K V : Vec F S8x2048x128 .bf16)
    (W : Buf (Elt F) (fl01.view.loc (c : Thread nD τ))) (g : Vec F S2048x1024 .f32) :
    LoopAt c k0_t9_loop k0_t9_ok (k0_t9_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v5 v160 v418) where
  inv k _ := iprop(∃ (h : Vec F S2048x1024 .f32) (w : Vec F S256x1024 .bf16), ⌜h = rowSt (outAcc v160 M Q K V (fl01.view.read (Elt F) W) g) g k⌝ ∗ pt mskM c fullShare M
    ∗ pt qscM c fullShare Q ∗ pt kscM c fullShare K ∗ pt vscM c fullShare V ∗ pt fl01 c q W ∗ pt outM c fullShare h ∗ pt ctxM c fullShare w)
  step k _ := by
    have hk : k.val < 8 := Nat.lt_of_lt_of_le k.isLt k0_t9_abs.2.1
    have hm : k0_off15 k = ![midx k.val, 0, 0] := k0_off15_eq k
    have e := outAcc_step v160 M Q K V (View.readAt (Elt F) fl01.view (Rect.unit (s := S1024x1024) ![0, 0] S1024x1024.size inb_S1024x1024_S1024x1024_0_0).toLoadRect W) g (inb := k0_off19_inb k) (inb' := k0_off19_inb k) k.val hk (k0_off19_eq k)
    rw [← readAt_square fl01.view W (inb := inb_S1024x1024_S1024x1024_0_0)]
    unfold k0_t9_body
    iintro ⟨%h, %w, %e', Hm, Hq, Hk, Hv, Hw, Ho, Hg⟩
    subst e'
    sl_exec
    sl_step
    iexists (rowSt (outAcc v160 M Q K V (View.readAt (Elt F) fl01.view (Rect.unit (s := S1024x1024) ![0, 0] S1024x1024.size inb_S1024x1024_S1024x1024_0_0).toLoadRect W) g) g (k.val + 1)), (colSt (ctxBlk v160 M Q K V ⟨k.val, hk⟩) w (Scf.trips k0_t10_loop.lb k0_t10_loop.ub k0_t10_loop.st))
    isplitr
    · ipureintro; rfl
    have ec := readAt_ctx (ctxBlk v160 M Q K V ⟨k.val, hk⟩) w (Scf.trips k0_t10_loop.lb k0_t10_loop.ub k0_t10_loop.st) (by decide) (inb := inb_S256x1024_S256x1024_0_0)
    rw [← ec] at e
    rw [e]
    sl_close

end Cert.Proof
-- ==== Proof.Loops3.lean ====
/- The loops of the third head group. -/
module

public import proofs.«01_k».proof.Proof.Loops1

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

set_option warn.classDefReducibility false in
/-- Conversion of the keys, head by head. -/
@[sl_loop] def inv_t11 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v660 : BitVec 32) (c0_i32_783 : BitVec 32) (f : Vec F S8x2048x128 .f32)
    (g : Vec F S8x2048x128 .bf16) :
    LoopAt c k0_t11_loop k0_t11_ok (k0_t11_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v660 c0_i32_783) where
  inv k _ := iprop(∃ h : Vec F S8x2048x128 .bf16, ⌜h = convSt f g k⌝ ∗ pt fstM c fullShare f ∗ pt kscM c fullShare h)
  step k _ := by
    have hk : k.val < 8 := Nat.lt_of_lt_of_le k.isLt k0_t11_abs.2.1
    have e := kconv_step f g (inb := k0_off20_inb k) (inb' := k0_off20_inb k) k.val hk (k0_off20_eq k)
    unfold k0_t11_body
    iintro ⟨%h, %e', Hf, Hg⟩
    subst e'
    sl_exec
    sl_step
    iexists (convSt f g (k.val + 1))
    isplitr
    · ipureintro; rfl
    rw [e]
    sl_close

set_option warn.classDefReducibility false in
/-- Conversion of the values, head by head. -/
@[sl_loop] def inv_t13 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v663 : BitVec 32) (f : Vec F S8x2048x128 .f32)
    (g : Vec F S8x2048x128 .bf16) :
    LoopAt c k0_t13_loop k0_t13_ok (k0_t13_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v663) where
  inv k _ := iprop(∃ h : Vec F S8x2048x128 .bf16, ⌜h = convSt f g k⌝ ∗ pt fstM c fullShare f ∗ pt vscM c fullShare h)
  step k _ := by
    have hk : k.val < 8 := Nat.lt_of_lt_of_le k.isLt k0_t13_abs.2.1
    have e := vconv_step f g (inb := k0_off22_inb k) (inb' := k0_off22_inb k) k.val hk (k0_off22_eq k)
    unfold k0_t13_body
    iintro ⟨%h, %e', Hf, Hg⟩
    subst e'
    sl_exec
    sl_step
    iexists (convSt f g (k.val + 1))
    isplitr
    · ipureintro; rfl
    rw [e]
    sl_close

set_option warn.classDefReducibility false in
/-- The query projection, 256 rows a trip. -/
@[sl_loop] def inv_t12 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v660 : BitVec 32) (q : PosShare TreeShare) (X : Vec F S2048x1024 .bf16)
    (W : Buf (Elt F) (fr0.view.loc (c : Thread nD τ))) (g : Vec F S2048x1024 .bf16) :
    LoopAt c k0_t12_loop k0_t12_ok (k0_t12_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v660) where
  inv k _ := iprop(∃ h : Vec F S2048x1024 .bf16, ⌜h = rowSt (qAll X (fr0.view.read (Elt F) W)) g k⌝ ∗ pt xM c fullShare X ∗ pt fr0 c q W ∗ pt qscM c fullShare h)
  step k _ := by
    have hk : k.val < 8 := Nat.lt_of_lt_of_le k.isLt k0_t12_abs.2.1
    have e := q_step X (View.readAt (Elt F) fr0.view (Rect.unit (s := S1024x1024) ![0, 0] S1024x1024.size inb_S1024x1024_S1024x1024_0_0).toLoadRect W) g
      (inb := k0_off21_inb k) (inb' := k0_off21_inb k) k.val hk (k0_off21_eq k)
    rw [pay38_eq] at e
    rw [← readAt_square fr0.view W (inb := inb_S1024x1024_S1024x1024_0_0)]
    unfold k0_t12_body
    iintro ⟨%h, %e', Hx, Hw, Hg⟩
    subst e'
    sl_exec
    sl_step
    iexists (rowSt (qAll X (View.readAt (Elt F) fr0.view (Rect.unit (s := S1024x1024) ![0, 0] S1024x1024.size inb_S1024x1024_S1024x1024_0_0).toLoadRect W)) g (k.val + 1))
    isplitr
    · ipureintro; rfl
    rw [e]
    sl_close

/-- Where the loop reads a head's window of keys or values: head `4 k + r`, from the window's first row. -/
theorem off25_eq : ∀ (n : Fin k0_t14_loop.trips) (k : Fin k0_t15_loop.trips) (r : Fin 4),
    k0_off25 n k (BitVec.ofNat 32 r.val) = ![4 * k.val + r.val, kst n.val, 0] := by decide +kernel

set_option warn.classDefReducibility false in
/-- The context of one query block, four heads a trip. -/
@[sl_loop] def inv_t15 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (v7 : BitVec 32) (v160 : FVec F S512x128 .bf16) (c0_i32_997 : BitVec 32) (k0_t14 : Fin k0_t14_loop.trips) (v1089 v1094 : BitVec 32)
    (M : Vec F S3x256x512 .bf16)
    (Q : Vec F S2048x1024 .bf16) (K V : Vec F S8x2048x128 .bf16) (g : Vec F S256x1024 .bf16) :
    LoopAt c k0_t15_loop k0_t15_ok (k0_t15_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v7 v160 c0_i32_997 k0_t14 v1089 v1094
      (View.readAt (Elt F) mskM.view (Rect.unit (s := S3x256x512) (k0_off23 k0_t14) S1x256x512.size (k0_off23_inb k0_t14)).toLoadRect M)) where
  inv k _ := iprop(∃ h : Vec F S256x1024 .bf16, ⌜h = colSt (ctxBlk v160 M Q K V ⟨k0_t14.val, Nat.lt_of_lt_of_le k0_t14.isLt k0_t14_abs.2.1⟩) g k⌝ ∗ pt qscM c fullShare Q ∗ pt kscM c fullShare K
    ∗ pt vscM c fullShare V ∗ pt ctxM c fullShare h)
  step k _ := by
    obtain ⟨n, hn⟩ : ∃ n : Fin 8, n = ⟨k0_t14.val, Nat.lt_of_lt_of_le k0_t14.isLt k0_t14_abs.2.1⟩ := ⟨_, rfl⟩
    rw [← hn]
    replace hn : n.val = k0_t14.val := congrArg Fin.val hn
    have hv := readAt_m M (inb := k0_off23_inb k0_t14) n ((k0_off23_eq k0_t14).trans (by rw [hn]; rfl))
    have hk : k.val < 2 := Nat.lt_of_lt_of_le k.isLt k0_t15_abs.2.1
    have oq : ∀ (r : Fin 4) (h : Fin 8), h.val = 4 * k.val + r.val → k0_off24 k0_t14 k (BitVec.ofNat 32 r.val) = ![256 * n.val, 128 * h.val] :=
      fun r h e => (k0_off24_eq k0_t14 k r).trans (by rw [hn, e]; congr 2; omega)
    have okk : ∀ (r : Fin 4) (h : Fin 8), h.val = 4 * k.val + r.val → k0_off25 k0_t14 k (BitVec.ofNat 32 r.val) = ![h.val, kst n.val, 0] :=
      fun r h e => (off25_eq k0_t14 k r).trans (by rw [hn, e])
    unfold k0_t15_body
    iintro ⟨%h, %e', Hq, Hk, Hv, Hg⟩
    subst e'
    sl_exec
    sl_step
    iexists (colSt (ctxBlk v160 M Q K V n) g (k.val + 1))
    isplitr
    · ipureintro; rfl
    rw [ctx_step (ctxBlk v160 M Q K V n) g k.val _ _ _ _ (k0_off26_eq k 0) (k0_off26_eq k 1) (k0_off26_eq k 2) (k0_off26_eq k 3)
      (fun y hy => ctx_tile v160 M Q K V n ⟨4 * k.val + 0, by omega⟩ _ _ _ _ (congrArg k0_pay33 hv) (readAt_q Q (inb := k0_off24_inb k0_t14 k 0) n _ (oq 0 _ rfl))
        (readAt_k K (inb := k0_off25_inb k0_t14 k 0) n _ (okk 0 _ rfl)) (readAt_v V (inb := k0_off25_inb k0_t14 k 0) n _ (okk 0 _ rfl)) y hy)
      (fun y hy => ctx_tile v160 M Q K V n ⟨4 * k.val + 1, by omega⟩ _ _ _ _ (congrArg k0_pay33 hv) (readAt_q Q (inb := k0_off24_inb k0_t14 k 1) n _ (oq 1 _ rfl))
        (readAt_k K (inb := k0_off25_inb k0_t14 k 1) n _ (okk 1 _ rfl)) (readAt_v V (inb := k0_off25_inb k0_t14 k 1) n _ (okk 1 _ rfl)) y hy)
      (fun y hy => ctx_tile v160 M Q K V n ⟨4 * k.val + 2, by omega⟩ _ _ _ _ (congrArg k0_pay33 hv) (readAt_q Q (inb := k0_off24_inb k0_t14 k 2) n _ (oq 2 _ rfl))
        (readAt_k K (inb := k0_off25_inb k0_t14 k 2) n _ (okk 2 _ rfl)) (readAt_v V (inb := k0_off25_inb k0_t14 k 2) n _ (okk 2 _ rfl)) y hy)
      (fun y hy => ctx_tile v160 M Q K V n ⟨4 * k.val + 3, by omega⟩ _ _ _ _ (congrArg k0_pay33 hv) (readAt_q Q (inb := k0_off24_inb k0_t14 k 3) n _ (oq 3 _ rfl))
        (readAt_k K (inb := k0_off25_inb k0_t14 k 3) n _ (okk 3 _ rfl)) (readAt_v V (inb := k0_off25_inb k0_t14 k 3) n _ (okk 3 _ rfl)) y hy)]
    sl_close

set_option warn.classDefReducibility false in
/-- The output of one head group, 256 rows a trip. -/
@[sl_loop] def inv_t14 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v2 : BitVec 32) (v7 : BitVec 32) (v160 : FVec F S512x128 .bf16) (c0_i32_997 : BitVec 32) (q : PosShare TreeShare)
    (M : Vec F S3x256x512 .bf16) (Q : Vec F S2048x1024 .bf16) (K V : Vec F S8x2048x128 .bf16)
    (W : Buf (Elt F) (fr1.view.loc (c : Thread nD τ))) (g : Vec F S2048x1024 .f32) :
    LoopAt c k0_t14_loop k0_t14_ok (k0_t14_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v7 v160 c0_i32_997) where
  inv k _ := iprop(∃ (h : Vec F S2048x1024 .f32) (w : Vec F S256x1024 .bf16), ⌜h = rowSt (outAcc v160 M Q K V (fr1.view.read (Elt F) W) g) g k⌝ ∗ pt mskM c fullShare M
    ∗ pt qscM c fullShare Q ∗ pt kscM c fullShare K ∗ pt vscM c fullShare V ∗ pt fr1 c q W ∗ pt outM c fullShare h ∗ pt ctxM c fullShare w)
  step k _ := by
    have hk : k.val < 8 := Nat.lt_of_lt_of_le k.isLt k0_t14_abs.2.1
    have hm : k0_off23 k = ![midx k.val, 0, 0] := k0_off23_eq k
    have e := outAcc_step v160 M Q K V (View.readAt (Elt F) fr1.view (Rect.unit (s := S1024x1024) ![0, 0] S1024x1024.size inb_S1024x1024_S1024x1024_0_0).toLoadRect W) g (inb := k0_off27_inb k) (inb' := k0_off27_inb k) k.val hk (k0_off27_eq k)
    rw [← readAt_square fr1.view W (inb := inb_S1024x1024_S1024x1024_0_0)]
    unfold k0_t14_body
    iintro ⟨%h, %w, %e', Hm, Hq, Hk, Hv, Hw, Ho, Hg⟩
    subst e'
    sl_exec
    sl_step
    iexists (rowSt (outAcc v160 M Q K V (View.readAt (Elt F) fr1.view (Rect.unit (s := S1024x1024) ![0, 0] S1024x1024.size inb_S1024x1024_S1024x1024_0_0).toLoadRect W) g) g (k.val + 1)), (colSt (ctxBlk v160 M Q K V ⟨k.val, hk⟩) w (Scf.trips k0_t15_loop.lb k0_t15_loop.ub k0_t15_loop.st))
    isplitr
    · ipureintro; rfl
    have ec := readAt_ctx (ctxBlk v160 M Q K V ⟨k.val, hk⟩) w (Scf.trips k0_t15_loop.lb k0_t15_loop.ub k0_t15_loop.st) (by decide) (inb := inb_S256x1024_S256x1024_0_0)
    rw [← ec] at e
    rw [e]
    sl_close

end Cert.Proof
-- ==== Proof.Loops4.lean ====
/- The loops of the fourth head group. -/
module

public import proofs.«01_k».proof.Proof.Loops1

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

set_option warn.classDefReducibility false in
/-- Conversion of the keys, head by head. -/
@[sl_loop] def inv_t16 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v902 : BitVec 32) (f : Vec F S8x2048x128 .f32)
    (g : Vec F S8x2048x128 .bf16) :
    LoopAt c k0_t16_loop k0_t16_ok (k0_t16_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v902) where
  inv k _ := iprop(∃ h : Vec F S8x2048x128 .bf16, ⌜h = convSt f g k⌝ ∗ pt fstM c fullShare f ∗ pt kscM c fullShare h)
  step k _ := by
    have hk : k.val < 8 := Nat.lt_of_lt_of_le k.isLt k0_t16_abs.2.1
    have e := kconv_step f g (inb := k0_off28_inb k) (inb' := k0_off28_inb k) k.val hk (k0_off28_eq k)
    unfold k0_t16_body
    iintro ⟨%h, %e', Hf, Hg⟩
    subst e'
    sl_exec
    sl_step
    iexists (convSt f g (k.val + 1))
    isplitr
    · ipureintro; rfl
    rw [e]
    sl_close

set_option warn.classDefReducibility false in
/-- Conversion of the values, head by head. -/
@[sl_loop] def inv_t18 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (f : Vec F S8x2048x128 .f32)
    (g : Vec F S8x2048x128 .bf16) :
    LoopAt c k0_t18_loop k0_t18_ok (k0_t18_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0) where
  inv k _ := iprop(∃ h : Vec F S8x2048x128 .bf16, ⌜h = convSt f g k⌝ ∗ pt fstM c fullShare f ∗ pt vscM c fullShare h)
  step k _ := by
    have hk : k.val < 8 := Nat.lt_of_lt_of_le k.isLt k0_t18_abs.2.1
    have e := vconv_step f g (inb := k0_off30_inb k) (inb' := k0_off30_inb k) k.val hk (k0_off30_eq k)
    unfold k0_t18_body
    iintro ⟨%h, %e', Hf, Hg⟩
    subst e'
    sl_exec
    sl_step
    iexists (convSt f g (k.val + 1))
    isplitr
    · ipureintro; rfl
    rw [e]
    sl_close

set_option warn.classDefReducibility false in
/-- The query projection, 256 rows a trip. -/
@[sl_loop] def inv_t17 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (d0 : Dev nD) (v902 : BitVec 32) (v992 : BitVec 32) (q : PosShare TreeShare) (X : Vec F S2048x1024 .bf16)
    (W : Buf (Elt F) (fl10.view.loc (c : Thread nD τ))) (g : Vec F S2048x1024 .bf16) :
    LoopAt c k0_t17_loop k0_t17_ok (k0_t17_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v902 v992) where
  inv k _ := iprop(∃ h : Vec F S2048x1024 .bf16, ⌜h = rowSt (qAll X (fl10.view.read (Elt F) W)) g k⌝ ∗ pt xM c fullShare X ∗ pt fl10 c q W ∗ pt qscM c fullShare h)
  step k _ := by
    have hk : k.val < 8 := Nat.lt_of_lt_of_le k.isLt k0_t17_abs.2.1
    have e := q_step X (View.readAt (Elt F) fl10.view (Rect.unit (s := S1024x1024) ![0, 0] S1024x1024.size inb_S1024x1024_S1024x1024_0_0).toLoadRect W) g
      (inb := k0_off29_inb k) (inb' := k0_off29_inb k) k.val hk (k0_off29_eq k)
    rw [pay38_eq] at e
    rw [← readAt_square fl10.view W (inb := inb_S1024x1024_S1024x1024_0_0)]
    unfold k0_t17_body
    iintro ⟨%h, %e', Hx, Hw, Hg⟩
    subst e'
    sl_exec
    sl_step
    iexists (rowSt (qAll X (View.readAt (Elt F) fl10.view (Rect.unit (s := S1024x1024) ![0, 0] S1024x1024.size inb_S1024x1024_S1024x1024_0_0).toLoadRect W)) g (k.val + 1))
    isplitr
    · ipureintro; rfl
    rw [e]
    sl_close

/-- Where the loop reads a head's window of keys or values: head `4 k + r`, from the window's first row. -/
theorem off33_eq : ∀ (n : Fin k0_t19_loop.trips) (k : Fin k0_t20_loop.trips) (r : Fin 4),
    k0_off33 n k (BitVec.ofNat 32 r.val) = ![4 * k.val + r.val, kst n.val, 0] := by decide +kernel

set_option warn.classDefReducibility false in
/-- The context of one query block, four heads a trip. -/
@[sl_loop] def inv_t20 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole)  (v160 : FVec F S512x128 .bf16)  (k0_t19 : Fin k0_t19_loop.trips) (v1089 v1094 : BitVec 32)
    (M : Vec F S3x256x512 .bf16)
    (Q : Vec F S2048x1024 .bf16) (K V : Vec F S8x2048x128 .bf16) (g : Vec F S256x1024 .bf16) :
    LoopAt c k0_t20_loop k0_t20_ok (k0_t20_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12  v160  k0_t19 v1089 v1094
      (View.readAt (Elt F) mskM.view (Rect.unit (s := S3x256x512) (k0_off31 k0_t19) S1x256x512.size (k0_off31_inb k0_t19)).toLoadRect M)) where
  inv k _ := iprop(∃ h : Vec F S256x1024 .bf16, ⌜h = colSt (ctxBlk v160 M Q K V ⟨k0_t19.val, Nat.lt_of_lt_of_le k0_t19.isLt k0_t19_abs.2.1⟩) g k⌝ ∗ pt qscM c fullShare Q ∗ pt kscM c fullShare K
    ∗ pt vscM c fullShare V ∗ pt ctxM c fullShare h)
  step k _ := by
    obtain ⟨n, hn⟩ : ∃ n : Fin 8, n = ⟨k0_t19.val, Nat.lt_of_lt_of_le k0_t19.isLt k0_t19_abs.2.1⟩ := ⟨_, rfl⟩
    rw [← hn]
    replace hn : n.val = k0_t19.val := congrArg Fin.val hn
    have hv := readAt_m M (inb := k0_off31_inb k0_t19) n ((k0_off31_eq k0_t19).trans (by rw [hn]; rfl))
    have hk : k.val < 2 := Nat.lt_of_lt_of_le k.isLt k0_t20_abs.2.1
    have oq : ∀ (r : Fin 4) (h : Fin 8), h.val = 4 * k.val + r.val → k0_off32 k0_t19 k (BitVec.ofNat 32 r.val) = ![256 * n.val, 128 * h.val] :=
      fun r h e => (k0_off32_eq k0_t19 k r).trans (by rw [hn, e]; congr 2; omega)
    have okk : ∀ (r : Fin 4) (h : Fin 8), h.val = 4 * k.val + r.val → k0_off33 k0_t19 k (BitVec.ofNat 32 r.val) = ![h.val, kst n.val, 0] :=
      fun r h e => (off33_eq k0_t19 k r).trans (by rw [hn, e])
    unfold k0_t20_body
    iintro ⟨%h, %e', Hq, Hk, Hv, Hg⟩
    subst e'
    sl_exec
    sl_step
    iexists (colSt (ctxBlk v160 M Q K V n) g (k.val + 1))
    isplitr
    · ipureintro; rfl
    rw [ctx_step (ctxBlk v160 M Q K V n) g k.val _ _ _ _ (k0_off34_eq k 0) (k0_off34_eq k 1) (k0_off34_eq k 2) (k0_off34_eq k 3)
      (fun y hy => ctx_tile v160 M Q K V n ⟨4 * k.val + 0, by omega⟩ _ _ _ _ (congrArg k0_pay33 hv) (readAt_q Q (inb := k0_off32_inb k0_t19 k 0) n _ (oq 0 _ rfl))
        (readAt_k K (inb := k0_off33_inb k0_t19 k 0) n _ (okk 0 _ rfl)) (readAt_v V (inb := k0_off33_inb k0_t19 k 0) n _ (okk 0 _ rfl)) y hy)
      (fun y hy => ctx_tile v160 M Q K V n ⟨4 * k.val + 1, by omega⟩ _ _ _ _ (congrArg k0_pay33 hv) (readAt_q Q (inb := k0_off32_inb k0_t19 k 1) n _ (oq 1 _ rfl))
        (readAt_k K (inb := k0_off33_inb k0_t19 k 1) n _ (okk 1 _ rfl)) (readAt_v V (inb := k0_off33_inb k0_t19 k 1) n _ (okk 1 _ rfl)) y hy)
      (fun y hy => ctx_tile v160 M Q K V n ⟨4 * k.val + 2, by omega⟩ _ _ _ _ (congrArg k0_pay33 hv) (readAt_q Q (inb := k0_off32_inb k0_t19 k 2) n _ (oq 2 _ rfl))
        (readAt_k K (inb := k0_off33_inb k0_t19 k 2) n _ (okk 2 _ rfl)) (readAt_v V (inb := k0_off33_inb k0_t19 k 2) n _ (okk 2 _ rfl)) y hy)
      (fun y hy => ctx_tile v160 M Q K V n ⟨4 * k.val + 3, by omega⟩ _ _ _ _ (congrArg k0_pay33 hv) (readAt_q Q (inb := k0_off32_inb k0_t19 k 3) n _ (oq 3 _ rfl))
        (readAt_k K (inb := k0_off33_inb k0_t19 k 3) n _ (okk 3 _ rfl)) (readAt_v V (inb := k0_off33_inb k0_t19 k 3) n _ (okk 3 _ rfl)) y hy)]
    sl_close

set_option warn.classDefReducibility false in
/-- The output of one head group, 256 rows a trip. -/
@[sl_loop] def inv_t19 (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole)  (v160 : FVec F S512x128 .bf16)  (q : PosShare TreeShare)
    (M : Vec F S3x256x512 .bf16) (Q : Vec F S2048x1024 .bf16) (K V : Vec F S8x2048x128 .bf16)
    (W : Buf (Elt F) (fl11.view.loc (c : Thread nD τ))) (g : Vec F S2048x1024 .f32) :
    LoopAt c k0_t19_loop k0_t19_ok (k0_t19_body (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 v160) where
  inv k _ := iprop(∃ (h : Vec F S2048x1024 .f32) (w : Vec F S256x1024 .bf16), ⌜h = rowSt (outAcc v160 M Q K V (fl11.view.read (Elt F) W) g) g k⌝ ∗ pt mskM c fullShare M
    ∗ pt qscM c fullShare Q ∗ pt kscM c fullShare K ∗ pt vscM c fullShare V ∗ pt fl11 c q W ∗ pt outM c fullShare h ∗ pt ctxM c fullShare w)
  step k _ := by
    have hk : k.val < 8 := Nat.lt_of_lt_of_le k.isLt k0_t19_abs.2.1
    have hm : k0_off31 k = ![midx k.val, 0, 0] := k0_off31_eq k
    have e := outAcc_step v160 M Q K V (View.readAt (Elt F) fl11.view (Rect.unit (s := S1024x1024) ![0, 0] S1024x1024.size inb_S1024x1024_S1024x1024_0_0).toLoadRect W) g (inb := k0_off35_inb k) (inb' := k0_off35_inb k) k.val hk (k0_off35_eq k)
    rw [← readAt_square fl11.view W (inb := inb_S1024x1024_S1024x1024_0_0)]
    unfold k0_t19_body
    iintro ⟨%h, %w, %e', Hm, Hq, Hk, Hv, Hw, Ho, Hg⟩
    subst e'
    sl_exec
    sl_step
    iexists (rowSt (outAcc v160 M Q K V (View.readAt (Elt F) fl11.view (Rect.unit (s := S1024x1024) ![0, 0] S1024x1024.size inb_S1024x1024_S1024x1024_0_0).toLoadRect W) g) g (k.val + 1)), (colSt (ctxBlk v160 M Q K V ⟨k.val, hk⟩) w (Scf.trips k0_t20_loop.lb k0_t20_loop.ub k0_t20_loop.st))
    isplitr
    · ipureintro; rfl
    have ec := readAt_ctx (ctxBlk v160 M Q K V ⟨k.val, hk⟩) w (Scf.trips k0_t20_loop.lb k0_t20_loop.ub k0_t20_loop.st) (by decide) (inb := inb_S256x1024_S256x1024_0_0)
    rw [← ec] at e
    rw [e]
    sl_close

end Cert.Proof
-- ==== Proof.Comms.lean ====
/- The barrier and the remote copies. -/
module

public import proofs.«01_k».proof.Proof.Views

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-- No loop of the call needs a variant. -/
abbrev 𝒱₀ : Variants := Variants.none

/-! # Speaking with the neighbours

    One rule for each signal, each remote copy and each wait of the exchange: what the device gives up at the operation and
    what it has afterwards. -/

variable (I : Ins F) (κ : GSem nD τ sig → ℕ)

/-- The protocol's invariants, on all cells of all devices. -/
def invs : sProp 𝕄 :=
  bigSep Finset.univ fun p : Dev nD × Fin 11 => cellInv ER (Rd I) (κ (kcell p.1 p.2)) (kcell p.1 p.2)
/-- The cells' invariants may be used again and again. -/
instance invs_persistent : BI.Persistent (invs I κ : sProp 𝕄) := by unfold invs; infer_instance
/-- The invariant of one cell out of those of all. -/
theorem inv_at (c : Dev nD) (k : Fin 11) : (invs I κ : sProp 𝕄) ⊢ cellInv ER (Rd I) (κ (kcell c k)) (kcell c k) :=
  bigSep_elim (Φ := fun p : Dev nD × Fin 11 => cellInv ER (Rd I) (κ (kcell p.1 p.2)) (kcell p.1 p.2)) (Finset.mem_univ (c, k))
/-- Round 0 of every barrier cell is reached. -/
def bars : sProp 𝕄 := bigSep Finset.univ fun d : Dev nD => (reached ER (kcell d 0) 0 : sProp 𝕄)
/-- That the barriers have begun may be used again and again. -/
instance bars_persistent : BI.Persistent (bars : sProp 𝕄) := by unfold bars; infer_instance
/-- That one device's barrier has begun, out of all. -/
theorem bar_at (c : Dev nD) : (bars : sProp 𝕄) ⊢ reached ER (kcell c 0) 0 :=
  bigSep_elim (Φ := fun d : Dev nD => (reached ER (kcell d 0) 0 : sProp 𝕄)) (Finset.mem_univ c)

/-- The whole of Wq's buffer reads as its contents. -/
theorem read_wqM (f : Vec F S1024x1024 .bf16) : wqM.view.read (Elt F) f = f := View.read_whole (Val := Elt F) cc0_stg1_0 f
/-- The whole of Wo's buffer reads as its contents. -/
theorem read_woM (f : Vec F S1024x1024 .bf16) : woM.view.read (Elt F) f = f := View.read_whole (Val := Elt F) cc0_stg2_0 f

/-- The forwarded copy moves a pair of quarters. -/
theorem amt_pair (k : Fin 11) (h : k = 3 ∨ k = 8) : amt k = N2 := by
  unfold amt; rw [if_neg (by rcases h with rfl | rfl <;> decide), if_pos h]
/-- Every other copy moves one quarter. -/
theorem amt_quarter (k : Fin 11) (h0 : k ≠ 0) (h : ¬ (k = 3 ∨ k = 8)) : amt k = N1 := by
  unfold amt; rw [if_neg h0, if_neg h]

/-- The signal to the left neighbour hands it this device's `w_fl`. -/
theorem signal_left {α : Type} {R : α → sProp 𝕄} {W : Waits sig Unit} (c n : Dev nD) (hn : n = prv c) (k : PUnit → Prog (TpuEff nD τ sig (Elt F) Λ₀ .tc) α) :
    iprop(invs I κ ∗ bars ∗ owes (c : Thread nD τ) (D7 c) W ∗ dutyTok ER (kcell (prv c) 0) 0 true ∗ (∃ f, pt flM c fullShare f)
        ∗ reached ER (kcell c 6) 0 ∗ reached ER (kcell c 7) 0 ∗ reached ER (kcell c 8) 0)
      ⊢ iprop((owes (c : Thread nD τ) (D6 c) W -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ (.op (.semSignal (n : Thread nD τ) barS 1) k) R) := by
  subst hn
  have hm : true ∈ (Rd I (F := F)).duties (kcell (prv c) 0) 0 := by rw [duties_bar]; exact Finset.mem_univ _
  iintro ⟨#Hinv, #Hbar, HO, Htok, ⟨%f, Hf⟩, #H6, #H7, #H8⟩ Hk
  iapply (Rounds.wp_signal 𝒱₀ ER (Rd I) (c : Thread nD τ) none (dst := (prv c : Thread nD τ)) (sem := barS) (r := 0) (d := true)
      (κ := κ (kcell (prv c) 0)) hm
      (amount_eq I (prv c) 0 0 true) () (D6 c) rfl) $$ [HO Htok Hf]
  · isplitr; · iapply (inv_at I κ (prv c) 0); iexact Hinv
    isplitl [HO]; · iexact HO
    isplitl [Htok]; · iexact Htok
    isplitl [Hf]
    · rw [show ((prv c : Thread nD τ), SemLoc.reg barS) = kcell (prv c) 0 from rfl, payload_eq]
      dsimp only [pay]
      rw [nxt_prv]
      ihave Hf := ((pt_fl c fullShare f).1) $$ Hf
      icases Hf with ⟨Hf0, Hf1⟩
      ihave Hf0 := ((pt_fl0 c fullShare f).1) $$ Hf0
      icases Hf0 with ⟨Hf00, Hf01⟩
      isplitl [Hf00]; · iexists f; iexact Hf00
      isplitl [Hf01]; · iexists f; iexact Hf01
      isplitl [Hf1]; · iexists f; iexact Hf1
      isplitr; · iexact H6
      isplitr; · iexact H7
      iexact H8
    · iapply (bar_at (prv c)); iexact Hbar
  iexact Hk

/-- The signal to the right neighbour hands it this device's `w_fr`. -/
theorem signal_right {α : Type} {R : α → sProp 𝕄} {W : Waits sig Unit} (c n : Dev nD) (hn : n = nxt c) (k : PUnit → Prog (TpuEff nD τ sig (Elt F) Λ₀ .tc) α) :
    iprop(invs I κ ∗ bars ∗ owes (c : Thread nD τ) (D6 c) W ∗ dutyTok ER (kcell (nxt c) 0) 0 false ∗ (∃ f, pt frM c fullShare f)
        ∗ reached ER (kcell c 9) 0 ∗ reached ER (kcell c 10) 0)
      ⊢ iprop((owes (c : Thread nD τ) (D5 c) W -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ (.op (.semSignal (n : Thread nD τ) barS 1) k) R) := by
  subst hn
  have hm : false ∈ (Rd I (F := F)).duties (kcell (nxt c) 0) 0 := by rw [duties_bar]; exact Finset.mem_univ _
  iintro ⟨#Hinv, #Hbar, HO, Htok, ⟨%f, Hf⟩, #H9, #H10⟩ Hk
  iapply (Rounds.wp_signal 𝒱₀ ER (Rd I) (c : Thread nD τ) none (dst := (nxt c : Thread nD τ)) (sem := barS) (r := 0) (d := false)
      (κ := κ (kcell (nxt c) 0)) hm
      (amount_eq I (nxt c) 0 0 false) () (D5 c) rfl) $$ [HO Htok Hf]
  · isplitr; · iapply (inv_at I κ (nxt c) 0); iexact Hinv
    isplitl [HO]; · iexact HO
    isplitl [Htok]; · iexact Htok
    isplitl [Hf]
    · rw [show ((nxt c : Thread nD τ), SemLoc.reg barS) = kcell (nxt c) 0 from rfl, payload_eq]
      dsimp only [pay]
      rw [prv_nxt]
      ihave Hf := ((pt_fr c fullShare f).1) $$ Hf
      icases Hf with ⟨Hf0, Hf1⟩
      isplitl [Hf0]; · iexists f; iexact Hf0
      isplitl [Hf1]; · iexists f; iexact Hf1
      isplitr; · iexact H9
      iexact H10
    · iapply (bar_at (nxt c)); iexact Hbar
  iexact Hk

/-- The wait on the barrier: both neighbours' arrival buffers are in hand. -/
theorem wait_bar {α : Type} {R : α → sProp 𝕄} {W : Waits sig Unit} (c : Dev nD) (k : PUnit → Prog (TpuEff nD τ sig (Elt F) Λ₀ .tc) α) :
    iprop(invs I κ ∗ cred (tallyAt (kcell c 0) () 2) ∗ owes (c : Thread nD τ) (D5 c) W ∗ levAts L lv ∗ atPos ER (kcell c 0) 0 ∅ 0)
      ⊢ iprop(((owes (c : Thread nD τ) (D5 c) (insert (SemLoc.reg barS, ()) W) ∗ atPos ER (kcell c 0) (0 + 1) ∅ 0 ∗ pay I c 0 false ∗ pay I c 0 true)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ (.op (.semWait barS 2) k) R) := by
  iintro ⟨#Hinv, Hc, HO, #Hlev, Hat⟩ Hk
  iapply (Rounds.wp_wait_rest_token 𝒱₀ ER (Rd I) (c : Thread nD τ) none (κ := κ (kcell c 0)) (sm := .reg barS)
      (wpE_semWait_eq 𝒱₀ (c : Thread nD τ) none Set.univ) (Set.mem_univ _) () (O := D5 c) (W := W) (R := 0) (m := 0) (T := ∅)
      ((Nat.zero_add 2).trans (expect_bar I c).symm)) $$ [Hc HO Hat]
  · isplitr; · iapply (inv_at I κ c 0); iexact Hinv
    isplitl [Hc]; · iexact Hc
    isplitl [HO]; · iexact HO
    isplitr; · iapply (mayWait_bar c); iexact Hlev
    iexact Hat
  iintro ⟨HO, Hat, -, Hp⟩
  ihave Hp := (Entails.of_eq (rest_bar I c)) $$ Hp
  icases Hp with ⟨Hp1, Hp2⟩
  iapply Hk
  isplitl [HO]; · iexact HO
  isplitl [Hat]; · iexact Hat
  isplitl [Hp1]; · iexact Hp1
  iexact Hp2

/-- A wait for one landing: what it carried is in hand. -/
theorem wait_xfer {α : Type} {R : α → sProp 𝕄} {W : Waits sig Unit} (c : Dev nD) (j : Fin 11) (hj : j ≠ 0) {sem : DmaSem sig} (hs : osem j = .dma sem) {sp sp' : Space} {s s' : Shape} {e e' : EltTy}
    {src : Memref sig .tc sp' s' e'} {κ' : Kind} {dst : Memref sig κ' sp s e} {hsrc : src.view.WordExact} {hdst : dst.view.WordExact}
    (hd : dst.view.dmaCredit = amt j) {O : CellTallies nD τ sig Unit} (k : PUnit → Prog (TpuEff nD τ sig (Elt F) Λ₀ .tc) α) :
    iprop(invs I κ ∗ cred (tallyAt (kcell c j) () (amt j)) ∗ owes (c : Thread nD τ) O W ∗ MayWait (c : Thread nD τ) (osem j) () O ∗ atPos ER (kcell c j) 0 ∅ 0)
      ⊢ iprop(((owes (c : Thread nD τ) O (insert (osem j, ()) W) ∗ atPos ER (kcell c j) (0 + 1) ∅ 0 ∗ pay I c j false)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ (.op (.waitDma2 sem src dst hsrc hdst) k) R) := by
  have hw : ∀ K : PUnit → sProp 𝕄, wpE (defs₀ (F := F)) 𝒱₀ (c : Thread nD τ) none Set.univ (.waitDma2 sem src dst hsrc hdst) K
      = waitSpec (c : Thread nD τ) Set.univ (osem j) (amt j) K := fun K => by
    rw [hs, ← hd]; rfl
  iintro ⟨#Hinv, Hc, HO, Hm, Hat⟩ Hk
  iapply (Rounds.wp_wait_rest_token 𝒱₀ ER (Rd I) (c : Thread nD τ) none (κ := κ (kcell c j)) (sm := osem j)
      hw (Set.mem_univ _) () (O := O) (W := W) (R := 0) (m := 0) (T := ∅)
      ((Nat.zero_add _).trans (expect_xfer I c j hj).symm)) $$ [Hc HO Hm Hat]
  · isplitr; · iapply (inv_at I κ c j); iexact Hinv
    isplitl [Hc]; · iexact Hc
    isplitl [HO]; · iexact HO
    isplitl [Hm]; · iexact Hm
    iexact Hat
  iintro ⟨HO, Hat, -, Hp⟩
  ihave Hp := (Entails.of_eq (rest_xfer I c j hj)) $$ Hp
  iapply Hk
  isplitl [HO]; · iexact HO
  isplitl [Hat]; · iexact Hat
  iexact Hp

/-- This device's quarter of Wq leaves for the right neighbour. -/
theorem send_rq {α : Type} {R : α → sProp 𝕄} {W : Waits sig Unit} (c n : Dev nD) (hn : n = nxt c) {hsc hsrc hdst hsem} (f : Buf (Elt F) (fl00.view.loc (nxt c : Thread nD τ))) (k : PUnit → Prog (TpuEff nD τ sig (Elt F) Λ₀ .tc) α) :
    iprop(invs I κ ∗ pt wqM c fullShare.left (I.WQ c) ∗ pt fl00 (nxt c) fullShare f ∗ owes (c : Thread nD τ) (D5 c) W
        ∗ dutyTok ER (kcell c 1) 0 false ∗ reached ER (kcell c 1) 0 ∗ dutyTok ER (kcell (nxt c) 6) 0 false ∗ reached ER (kcell (nxt c) 6) 0)
      ⊢ iprop(((cred (tallyAt (kcell c 1) () (amt 1)) ∗ owes (c : Thread nD τ) (D4 c) W)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ
          (.op (.enqueueDma wqM (.remote (Dev.tc n) fl00 (.dma srS0) hsc) (.dma rlS0) hsrc hdst hsem) k) R) := by
  subst hn
  have hk : amt 1 = N1 := amt_quarter 1 (by decide) (by decide)
  have hk' : amt 6 = N1 := amt_quarter 6 (by decide) (by decide)
  rw [hk]
  iintro ⟨#Hinv, Hs, Hd, HO, Ht1, Hr1, Ht2, Hr2⟩ Hk
  iapply (Rounds.wp_send_pointsTo 𝒱₀ ER (Rd I) (c : Thread nD τ) none (c' := (nxt c : Thread nD τ)) (src := wqM) (dst := fl00)
      (sS := osem 1) (sem := osem 6) (q := fullShare.left) (fs := I.WQ c) (κ₁ := κ (kcell c 1)) (κ₂ := κ (kcell (nxt c) 6))
      (r₁ := 0) (r₂ := 0) (d₁ := false) (d₂ := false) (fd := f)
      (by rw [duties_xfer I c 1 (by decide)]; exact Finset.mem_singleton_self _) (by rw [duties_xfer I (nxt c) 6 (by decide)]; exact Finset.mem_singleton_self _)
      () () N1 rfl ((amount_eq I c 1 0 false).trans hk) ((amount_eq I (nxt c) 6 0 false).trans hk') (D4 c) rfl (W := W)
      (by rw [payload_eq]; exact BI.Entails.refl _)
      (by rw [payload_eq]
          exact Entails.of_eq (pt_write fl00 (nxt c) fullShare f (wflC I (nxt c)) _ ((read_fl00 I (nxt c)).trans ((congrArg I.WQ (prv_nxt c)).trans (read_wqM (I.WQ c)).symm)))))
      $$ [Hs Hd HO Ht1 Hr1 Ht2 Hr2]
  · isplitr; · iapply (inv_at I κ c 1); iexact Hinv
    isplitr; · iapply (inv_at I κ (nxt c) 6); iexact Hinv
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- This device's quarter of Wo leaves for the right neighbour. -/
theorem send_ro {α : Type} {R : α → sProp 𝕄} {W : Waits sig Unit} (c n : Dev nD) (hn : n = nxt c) {hsc hsrc hdst hsem} (f : Buf (Elt F) (fl01.view.loc (nxt c : Thread nD τ))) (k : PUnit → Prog (TpuEff nD τ sig (Elt F) Λ₀ .tc) α) :
    iprop(invs I κ ∗ pt woM c fullShare.left (I.WO c) ∗ pt fl01 (nxt c) fullShare f ∗ owes (c : Thread nD τ) (D4 c) W
        ∗ dutyTok ER (kcell c 2) 0 false ∗ reached ER (kcell c 2) 0 ∗ dutyTok ER (kcell (nxt c) 7) 0 false ∗ reached ER (kcell (nxt c) 7) 0)
      ⊢ iprop(((cred (tallyAt (kcell c 2) () (amt 2)) ∗ owes (c : Thread nD τ) (D3 c) W)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ
          (.op (.enqueueDma woM (.remote (Dev.tc n) fl01 (.dma srS1) hsc) (.dma rlS1) hsrc hdst hsem) k) R) := by
  subst hn
  have hk : amt 2 = N1 := amt_quarter 2 (by decide) (by decide)
  have hk' : amt 7 = N1 := amt_quarter 7 (by decide) (by decide)
  rw [hk]
  iintro ⟨#Hinv, Hs, Hd, HO, Ht1, Hr1, Ht2, Hr2⟩ Hk
  iapply (Rounds.wp_send_pointsTo 𝒱₀ ER (Rd I) (c : Thread nD τ) none (c' := (nxt c : Thread nD τ)) (src := woM) (dst := fl01)
      (sS := osem 2) (sem := osem 7) (q := fullShare.left) (fs := I.WO c) (κ₁ := κ (kcell c 2)) (κ₂ := κ (kcell (nxt c) 7))
      (r₁ := 0) (r₂ := 0) (d₁ := false) (d₂ := false) (fd := f)
      (by rw [duties_xfer I c 2 (by decide)]; exact Finset.mem_singleton_self _) (by rw [duties_xfer I (nxt c) 7 (by decide)]; exact Finset.mem_singleton_self _)
      () () N1 rfl ((amount_eq I c 2 0 false).trans hk) ((amount_eq I (nxt c) 7 0 false).trans hk') (D3 c) rfl (W := W)
      (by rw [payload_eq]; exact BI.Entails.refl _)
      (by rw [payload_eq]
          exact Entails.of_eq (pt_write fl01 (nxt c) fullShare f (wflC I (nxt c)) _ ((read_fl01 I (nxt c)).trans ((congrArg I.WO (prv_nxt c)).trans (read_woM (I.WO c)).symm)))))
      $$ [Hs Hd HO Ht1 Hr1 Ht2 Hr2]
  · isplitr; · iapply (inv_at I κ c 2); iexact Hinv
    isplitr; · iapply (inv_at I κ (nxt c) 7); iexact Hinv
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- This device's quarter of Wq leaves for the left neighbour. -/
theorem send_lq {α : Type} {R : α → sProp 𝕄} {W : Waits sig Unit} (c n : Dev nD) (hn : n = prv c) {hsc hsrc hdst hsem} (f : Buf (Elt F) (fr0.view.loc (prv c : Thread nD τ))) (k : PUnit → Prog (TpuEff nD τ sig (Elt F) Λ₀ .tc) α) :
    iprop(invs I κ ∗ pt wqM c fullShare.right.left (I.WQ c) ∗ pt fr0 (prv c) fullShare f ∗ owes (c : Thread nD τ) (D3 c) W
        ∗ dutyTok ER (kcell c 4) 0 false ∗ reached ER (kcell c 4) 0 ∗ dutyTok ER (kcell (prv c) 9) 0 false ∗ reached ER (kcell (prv c) 9) 0)
      ⊢ iprop(((cred (tallyAt (kcell c 4) () (amt 4)) ∗ owes (c : Thread nD τ) (D2 c) W)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ
          (.op (.enqueueDma wqM (.remote (Dev.tc n) fr0 (.dma slS0) hsc) (.dma rrS0) hsrc hdst hsem) k) R) := by
  subst hn
  have hk : amt 4 = N1 := amt_quarter 4 (by decide) (by decide)
  have hk' : amt 9 = N1 := amt_quarter 9 (by decide) (by decide)
  rw [hk]
  iintro ⟨#Hinv, Hs, Hd, HO, Ht1, Hr1, Ht2, Hr2⟩ Hk
  iapply (Rounds.wp_send_pointsTo 𝒱₀ ER (Rd I) (c : Thread nD τ) none (c' := (prv c : Thread nD τ)) (src := wqM) (dst := fr0)
      (sS := osem 4) (sem := osem 9) (q := fullShare.right.left) (fs := I.WQ c) (κ₁ := κ (kcell c 4)) (κ₂ := κ (kcell (prv c) 9))
      (r₁ := 0) (r₂ := 0) (d₁ := false) (d₂ := false) (fd := f)
      (by rw [duties_xfer I c 4 (by decide)]; exact Finset.mem_singleton_self _) (by rw [duties_xfer I (prv c) 9 (by decide)]; exact Finset.mem_singleton_self _)
      () () N1 rfl ((amount_eq I c 4 0 false).trans hk) ((amount_eq I (prv c) 9 0 false).trans hk') (D2 c) rfl (W := W)
      (by rw [payload_eq]; exact BI.Entails.refl _)
      (by rw [payload_eq]
          exact Entails.of_eq (pt_write fr0 (prv c) fullShare f (wfrC I (prv c)) _ ((read_fr0 I (prv c)).trans ((congrArg I.WQ (nxt_prv c)).trans (read_wqM (I.WQ c)).symm)))))
      $$ [Hs Hd HO Ht1 Hr1 Ht2 Hr2]
  · isplitr; · iapply (inv_at I κ c 4); iexact Hinv
    isplitr; · iapply (inv_at I κ (prv c) 9); iexact Hinv
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- This device's quarter of Wo leaves for the left neighbour. -/
theorem send_lo {α : Type} {R : α → sProp 𝕄} {W : Waits sig Unit} (c n : Dev nD) (hn : n = prv c) {hsc hsrc hdst hsem} (f : Buf (Elt F) (fr1.view.loc (prv c : Thread nD τ))) (k : PUnit → Prog (TpuEff nD τ sig (Elt F) Λ₀ .tc) α) :
    iprop(invs I κ ∗ pt woM c fullShare.right.left (I.WO c) ∗ pt fr1 (prv c) fullShare f ∗ owes (c : Thread nD τ) (D2 c) W
        ∗ dutyTok ER (kcell c 5) 0 false ∗ reached ER (kcell c 5) 0 ∗ dutyTok ER (kcell (prv c) 10) 0 false ∗ reached ER (kcell (prv c) 10) 0)
      ⊢ iprop(((cred (tallyAt (kcell c 5) () (amt 5)) ∗ owes (c : Thread nD τ) (D1 c) W)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ
          (.op (.enqueueDma woM (.remote (Dev.tc n) fr1 (.dma slS1) hsc) (.dma rrS1) hsrc hdst hsem) k) R) := by
  subst hn
  have hk : amt 5 = N1 := amt_quarter 5 (by decide) (by decide)
  have hk' : amt 10 = N1 := amt_quarter 10 (by decide) (by decide)
  rw [hk]
  iintro ⟨#Hinv, Hs, Hd, HO, Ht1, Hr1, Ht2, Hr2⟩ Hk
  iapply (Rounds.wp_send_pointsTo 𝒱₀ ER (Rd I) (c : Thread nD τ) none (c' := (prv c : Thread nD τ)) (src := woM) (dst := fr1)
      (sS := osem 5) (sem := osem 10) (q := fullShare.right.left) (fs := I.WO c) (κ₁ := κ (kcell c 5)) (κ₂ := κ (kcell (prv c) 10))
      (r₁ := 0) (r₂ := 0) (d₁ := false) (d₂ := false) (fd := f)
      (by rw [duties_xfer I c 5 (by decide)]; exact Finset.mem_singleton_self _) (by rw [duties_xfer I (prv c) 10 (by decide)]; exact Finset.mem_singleton_self _)
      () () N1 rfl ((amount_eq I c 5 0 false).trans hk) ((amount_eq I (prv c) 10 0 false).trans hk') (D1 c) rfl (W := W)
      (by rw [payload_eq]; exact BI.Entails.refl _)
      (by rw [payload_eq]
          exact Entails.of_eq (pt_write fr1 (prv c) fullShare f (wfrC I (prv c)) _ ((read_fr1 I (prv c)).trans ((congrArg I.WO (nxt_prv c)).trans (read_woM (I.WO c)).symm)))))
      $$ [Hs Hd HO Ht1 Hr1 Ht2 Hr2]
  · isplitr; · iapply (inv_at I κ c 5); iexact Hinv
    isplitr; · iapply (inv_at I κ (prv c) 10); iexact Hinv
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- The pair that arrived from the left leaves for the right neighbour. -/
theorem send_f {α : Type} {R : α → sProp 𝕄} {W : Waits sig Unit} (c n : Dev nD) (hn : n = nxt c) {hsc hsrc hdst hsem} (f : Buf (Elt F) (fl1.view.loc (nxt c : Thread nD τ))) (k : PUnit → Prog (TpuEff nD τ sig (Elt F) Λ₀ .tc) α) :
    iprop(invs I κ ∗ pt fl0 c fullShare.left (wflC I c) ∗ pt fl1 (nxt c) fullShare f ∗ owes (c : Thread nD τ) (D1 c) W
        ∗ dutyTok ER (kcell c 3) 0 false ∗ reached ER (kcell c 3) 0 ∗ dutyTok ER (kcell (nxt c) 8) 0 false ∗ reached ER (kcell (nxt c) 8) 0)
      ⊢ iprop(((cred (tallyAt (kcell c 3) () (amt 3)) ∗ owes (c : Thread nD τ) (0) W)
          -∗ wp Idealize.ShloMosaic.frame (wpE (defs₀ (F := F)) 𝒱₀ (c : Thread nD τ) none) Set.univ (k ⟨⟩) R)
        -∗ wp Idealize.ShloMosaic.frame (wpE (defs₀ (F := F)) 𝒱₀ (c : Thread nD τ) none) Set.univ
          (.op (.enqueueDma fl0 (.remote (Dev.tc n) fl1 (.dma srS2) hsc) (.dma rlS2) hsrc hdst hsem) k) R) := by
  subst hn
  have hk : amt 3 = N2 := amt_pair 3 (by decide)
  have hk' : amt 8 = N2 := amt_pair 8 (by decide)
  rw [hk]
  iintro ⟨#Hinv, Hs, Hd, HO, Ht1, Hr1, Ht2, Hr2⟩ Hk
  iapply (Rounds.wp_send_pointsTo 𝒱₀ ER (Rd I) (c : Thread nD τ) none (c' := (nxt c : Thread nD τ)) (src := fl0) (dst := fl1)
      (sS := osem 3) (sem := osem 8) (q := fullShare.left) (fs := wflC I c) (κ₁ := κ (kcell c 3)) (κ₂ := κ (kcell (nxt c) 8))
      (r₁ := 0) (r₂ := 0) (d₁ := false) (d₂ := false) (fd := f)
      (by rw [duties_xfer I c 3 (by decide)]; exact Finset.mem_singleton_self _) (by rw [duties_xfer I (nxt c) 8 (by decide)]; exact Finset.mem_singleton_self _)
      () () N2 rfl ((amount_eq I c 3 0 false).trans hk) ((amount_eq I (nxt c) 8 0 false).trans hk') (0) (zero_add _).symm (W := W)
      (by rw [payload_eq]; exact BI.Entails.refl _)
      (by rw [payload_eq]
          exact Entails.of_eq (pt_write fl1 (nxt c) fullShare f (wflC I (nxt c)) _ ((read_fl1 I (nxt c)).trans (congrArg (fun d => fl0.view.read (Elt F) (wflC I d)) (prv_nxt c))))))
      $$ [Hs Hd HO Ht1 Hr1 Ht2 Hr2]
  · isplitr; · iapply (inv_at I κ c 3); iexact Hinv
    isplitr; · iapply (inv_at I κ (nxt c) 8); iexact Hinv
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Cert.Proof
-- ==== Proof.Run.lean ====
/- The body of one device, from its beginning to its end. -/
module

public import proofs.«01_k».proof.Proof.Loops1
public import proofs.«01_k».proof.Proof.Loops2
public import proofs.«01_k».proof.Proof.Loops3
public import proofs.«01_k».proof.Proof.Loops4
public import proofs.«01_k».proof.Proof.Comms
public import proofs.«01_k».proof.Proof.Vals

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-- One value is another: an equation kept folded. -/
def Is {β : Type} (a b : β) : Prop := a = b

/-- A buffer's contents forgotten. -/
theorem forget {sp : Space} {s : Shape} {e : EltTy} (m : Memref sig .tc sp s e) (c : Dev nD) (q : PosShare TreeShare)
    (f : Buf (Elt F) (m.view.loc (c : Thread nD τ))) : (pt m c q f : sProp 𝕄) ⊢ iprop(∃ g, pt m c q g) := by
  iintro H; iexists f; iexact H

/-- A buffer's contents named. -/
theorem named {sp : Space} {s : Shape} {e : EltTy} (m : Memref sig .tc sp s e) (c : Dev nD) (q : PosShare TreeShare)
    (f : Buf (Elt F) (m.view.loc (c : Thread nD τ))) : (pt m c q f : sProp 𝕄) ⊢ iprop(∃ g, ⌜Is g f⌝ ∗ pt m c q g) := by
  iintro H; iexists f
  isplitr; · ipureintro; rfl
  iexact H

/-- The place of a head of the device two places on, in the keys and values. -/
theorem off5_two (c : Dev nD) (r : Fin 8) :
    k0_off5 c 2#32 (BitVec.ofNat 32 r.val) = ![c.val, 0, 8 * (prv (prv c)).val + r.val, 0] := by
  have e : (prv (prv c)).val = (c.val + 3 - 1) % 4 := by revert c; decide
  rw [e]; exact k0_off5_eq c 1 r

/-- The body's parts in order. -/
def bodyS (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) : Prog (TpuEff nD τ sig (Elt F) Λ₀ .tc) PUnit := do
  let ⟨d0, v2, v5, v7⟩ : Σ' (d0 : Dev nD) (v2 : BitVec 32) (v5 : BitVec 32), BitVec 32 ← k0_part9_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12
  k0_part10_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2
  k0_part11_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2
  k0_part12_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v5 v7
  let ⟨v145, v146, c1536_i32⟩ : Σ' (v145 : IVec S256x512 32) (v146 : IVec S256x512 32), BitVec 32 ← k0_part13_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  let ⟨v160, v163⟩ : Σ' (v160 : FVec F S512x128 .bf16), BitVec 32 ← k0_part14_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v145 v146 c1536_i32
  k0_part15_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part16_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2
  k0_part17_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2
  k0_part18_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2
  k0_part19_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part20_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v163
  k0_part21_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v163
  k0_part22_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v163
  let v404 : BitVec 32 ← k0_part23_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v7 v160 v163
  let ⟨v416, v418⟩ : Σ' (v416 : BitVec 32), BitVec 32 ← k0_part24_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v404
  k0_part25_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part26_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v416
  k0_part27_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v416
  k0_part28_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v416
  k0_part29_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part30_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v418
  k0_part31_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v418
  k0_part32_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v418
  let ⟨v660, c2_i32_724⟩ : Σ' (v660 : BitVec 32), BitVec 32 ← k0_part33_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v5 v160 v418
  let v663 : BitVec 32 ← k0_part34_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 c2_i32_724
  let c0_i32_783 : BitVec 32 ← k0_part35_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  let ⟨v737, c3_i32_815⟩ : Σ' (v737 : BitVec 32), BitVec 32 ← k0_part36_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v660 c0_i32_783
  k0_part37_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v660 v737 c3_i32_815
  k0_part38_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v660
  k0_part39_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part40_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v663
  k0_part41_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v663
  let c0_i32_997 : BitVec 32 ← k0_part42_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v663
  let v902 : BitVec 32 ← k0_part43_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v2 v7 v160 c0_i32_997
  k0_part44_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part45_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v902
  let v992 : BitVec 32 ← k0_part46_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v902
  k0_part47_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0 v902 v992
  k0_part48_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part49_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 d0
  k0_part50_skel (F := F) xM h0 wqM h1 woM h2 kM h3 vM h4 outM h5 flM h6 frM h7 kscM h8 vscM h9 fstM h10 qscM h11 ctxM h12 mskM h13 cc0_scratch8 cc0_scratch9 cc0_scratch10 cc0_scratch11 cc0_scratch12 v160
  let v1085 : Memref sig .tc .vmem S1x2x1024x1024 .bf16 := flM.slice (Rect.unit (s := S2x2x1024x1024) ![0, 0, 0, 0] S1x2x1024x1024.size inb_S2x2x1024x1024_S1x2x1024x1024_0_0_0_0) (fun _ => rfl)
  let v1086 : Memref sig .tc .vmem S2x1024x1024 .bf16 := v1085.squeeze S2x1024x1024 squeezes_S1x2x1024x1024_S2x1024x1024
  let v1087 : Memref sig .tc .vmem S1x2x1024x1024 .bf16 := flM.slice (Rect.unit (s := S2x2x1024x1024) ![1, 0, 0, 0] S1x2x1024x1024.size inb_S2x2x1024x1024_S1x2x1024x1024_1_0_0_0) (fun _ => rfl)
  let v1088 : Memref sig .tc .vmem S2x1024x1024 .bf16 := v1087.squeeze S2x1024x1024 squeezes_S1x2x1024x1024_S2x1024x1024
  let v1083 : DmaSems sig S1 := cc0_scratch8.slice (Rect.unit (s := S3) ![2] S1.size inb_S3_S1_2)
  let v1084 : DmaSems sig S_ := v1083.squeeze S_ squeezes_S1_S_
  Prog.lift (.waitDma2 v1084.sem v1088 v1086 ((h6.wordExact_slice rfl _ wordsbf16_S2x2x1024x1024_S1x2x1024x1024_1_0_0_0).reshape _ _) ((h6.wordExact_slice rfl _ wordsbf16_S2x2x1024x1024_S1x2x1024x1024_0_0_0_0).reshape _ _))
  pure ⟨⟩

set_option maxHeartbeats 40000000 in
set_option sl_exec.dmaWindow true in
set_option sl_exec.dmaWindowSet true in
/-- One device's run of the body. It starts holding its debts, its tickets for the signals and landings it causes, its credits for
those it waits for, its windows, its scratch buffers, its shares of the keys and values and the counters of its local copies. It ends
owing nothing, with the inputs unchanged, the output window at `outOf`, every round of its cells ended, and the rest given back. -/
theorem run (I : Ins F) (κ : GSem nD τ sig → ℕ) (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (W : Waits sig Unit)
   (gm : Vec F S3x256x512 .bf16) (gk gv : Vec F S8x2048x128 .bf16) (gf : Vec F S8x2048x128 .f32) (gq : Vec F S2048x1024 .bf16) (gc : Vec F S256x1024 .bf16) (go : Vec F S2048x1024 .f32)
   (hmw : ∀ q, slev (.dma q) ≤ 2 → (levAts L lv : sProp 𝕄) ⊢ MayWait (c:Thread nD τ) (.dma q) () (D1 c)) :
  iprop(levAts L lv ∗ invs I κ ∗ bars ∗ owes (c : Thread nD τ) (D7 c) W
    ∗ dutyTok ER (kcell (prv c) 0) 0 true ∗ dutyTok ER (kcell (nxt c) 0) 0 false ∗ (∃ f, pt flM c fullShare f) ∗ (∃ f, pt frM c fullShare f)
    ∗ (reached ER (kcell c 6) 0 ∗ reached ER (kcell c 7) 0 ∗ reached ER (kcell c 8) 0 ∗ reached ER (kcell c 9) 0 ∗ reached ER (kcell c 10) 0)
    ∗ cred (tallyAt (kcell c 0) () 2) ∗ atPos ER (kcell c 0) 0 ∅ 0
    ∗ (dutyTok ER (kcell c 1) 0 false ∗ reached ER (kcell c 1) 0 ∗ dutyTok ER (kcell (nxt c) 6) 0 false)
    ∗ (dutyTok ER (kcell c 2) 0 false ∗ reached ER (kcell c 2) 0 ∗ dutyTok ER (kcell (nxt c) 7) 0 false)
    ∗ (dutyTok ER (kcell c 4) 0 false ∗ reached ER (kcell c 4) 0 ∗ dutyTok ER (kcell (prv c) 9) 0 false)
    ∗ (dutyTok ER (kcell c 5) 0 false ∗ reached ER (kcell c 5) 0 ∗ dutyTok ER (kcell (prv c) 10) 0 false)
    ∗ (dutyTok ER (kcell c 3) 0 false ∗ reached ER (kcell c 3) 0 ∗ dutyTok ER (kcell (nxt c) 8) 0 false)
    ∗ (cred (tallyAt (kcell c 6) () (amt 6)) ∗ cred (tallyAt (kcell c 7) () (amt 7)) ∗ cred (tallyAt (kcell c 8) () (amt 8)) ∗ cred (tallyAt (kcell c 9) () (amt 9)) ∗ cred (tallyAt (kcell c 10) () (amt 10)))
    ∗ (atPos ER (kcell c 1) 0 ∅ 0 ∗ atPos ER (kcell c 2) 0 ∅ 0 ∗ atPos ER (kcell c 3) 0 ∅ 0 ∗ atPos ER (kcell c 4) 0 ∅ 0 ∗ atPos ER (kcell c 5) 0 ∅ 0
      ∗ atPos ER (kcell c 6) 0 ∅ 0 ∗ atPos ER (kcell c 7) 0 ∅ 0 ∗ atPos ER (kcell c 8) 0 ∅ 0 ∗ atPos ER (kcell c 9) 0 ∅ 0 ∗ atPos ER (kcell c 10) 0 ∅ 0)
    ∗ pt xM c fullShare (I.X c) ∗ pt wqM c fullShare (I.WQ c) ∗ pt woM c fullShare (I.WO c) ∗ pt outM c fullShare go
    ∗ pt mskM c fullShare gm ∗ pt kscM c fullShare gk ∗ pt vscM c fullShare gv ∗ pt fstM c fullShare gf ∗ pt qscM c fullShare gq ∗ pt ctxM c fullShare gc
    ∗ (pt kM c (Transfers.shareTokN fullShare 14) (I.KE c) ∗ pt kM c (Transfers.shareTokN fullShare 15) (I.KE c) ∗ pt kM c (Transfers.shareTokN fullShare 16) (I.KE c) ∗ pt kM c (Transfers.shareTokN fullShare 17) (I.KE c) ∗ pt kM c (Transfers.shareTokN fullShare 18) (I.KE c) ∗ pt kM c (Transfers.shareTokN fullShare 19) (I.KE c) ∗ pt kM c (Transfers.shareTokN fullShare 20) (I.KE c) ∗ pt kM c (Transfers.shareTokN fullShare 21) (I.KE c)) ∗ (pt vM c (Transfers.shareTokN fullShare 22) (I.VE c) ∗ pt vM c (Transfers.shareTokN fullShare 23) (I.VE c) ∗ pt vM c (Transfers.shareTokN fullShare 24) (I.VE c) ∗ pt vM c (Transfers.shareTokN fullShare 25) (I.VE c) ∗ pt vM c (Transfers.shareTokN fullShare 26) (I.VE c) ∗ pt vM c (Transfers.shareTokN fullShare 27) (I.VE c) ∗ pt vM c (Transfers.shareTokN fullShare 28) (I.VE c) ∗ pt vM c (Transfers.shareTokN fullShare 29) (I.VE c)) ∗ (semVal ((c : Thread nD τ), .dma kS0) 0 ∗ semVal ((c : Thread nD τ), .dma kS1) 0 ∗ semVal ((c : Thread nD τ), .dma kS2) 0 ∗ semVal ((c : Thread nD τ), .dma kS3) 0 ∗ semVal ((c : Thread nD τ), .dma kS4) 0 ∗ semVal ((c : Thread nD τ), .dma kS5) 0 ∗ semVal ((c : Thread nD τ), .dma kS6) 0 ∗ semVal ((c : Thread nD τ), .dma kS7) 0) ∗ (semVal ((c : Thread nD τ), .dma vS0) 0 ∗ semVal ((c : Thread nD τ), .dma vS1) 0 ∗ semVal ((c : Thread nD τ), .dma vS2) 0 ∗ semVal ((c : Thread nD τ), .dma vS3) 0 ∗ semVal ((c : Thread nD τ), .dma vS4) 0 ∗ semVal ((c : Thread nD τ), .dma vS5) 0 ∗ semVal ((c : Thread nD τ), .dma vS6) 0 ∗ semVal ((c : Thread nD τ), .dma vS7) 0))
  ⊢ wp Idealize.ShloMosaic.frame (wpE (defs₀ (F := F)) 𝒱₀ (c : Thread nD τ) none) Set.univ (bodyS (F := F) h0 h1 h2 h3 h4 h5 h6 h7 h8 h9 h10 h11 h12 h13) (fun _ => iprop((∃ W', owes (c : Thread nD τ) 0 W')
    ∗ pt xM c fullShare (I.X c) ∗ pt wqM c fullShare (I.WQ c) ∗ pt woM c fullShare (I.WO c) ∗ pt outM c fullShare (outOf I c)
    ∗ ((∃ f, pt flM c fullShare f) ∗ (∃ f, pt frM c fullShare f) ∗ (∃ f, pt kscM c fullShare f) ∗ (∃ f, pt vscM c fullShare f)
      ∗ (∃ f, pt fstM c fullShare f) ∗ (∃ f, pt qscM c fullShare f) ∗ (∃ f, pt ctxM c fullShare f) ∗ (∃ f, pt mskM c fullShare f))
    ∗ (atPos ER (kcell c 0) (0 + 1) ∅ 0 ∗ atPos ER (kcell c 1) (0 + 1) ∅ 0 ∗ atPos ER (kcell c 2) (0 + 1) ∅ 0 ∗ atPos ER (kcell c 3) (0 + 1) ∅ 0
      ∗ atPos ER (kcell c 4) (0 + 1) ∅ 0 ∗ atPos ER (kcell c 5) (0 + 1) ∅ 0 ∗ atPos ER (kcell c 6) (0 + 1) ∅ 0 ∗ atPos ER (kcell c 7) (0 + 1) ∅ 0
      ∗ atPos ER (kcell c 8) (0 + 1) ∅ 0 ∗ atPos ER (kcell c 9) (0 + 1) ∅ 0 ∗ atPos ER (kcell c 10) (0 + 1) ∅ 0)
    ∗ (pt kM c (Transfers.shareTokN fullShare 14) (I.KE c) ∗ pt kM c (Transfers.shareTokN fullShare 15) (I.KE c) ∗ pt kM c (Transfers.shareTokN fullShare 16) (I.KE c) ∗ pt kM c (Transfers.shareTokN fullShare 17) (I.KE c) ∗ pt kM c (Transfers.shareTokN fullShare 18) (I.KE c) ∗ pt kM c (Transfers.shareTokN fullShare 19) (I.KE c) ∗ pt kM c (Transfers.shareTokN fullShare 20) (I.KE c) ∗ pt kM c (Transfers.shareTokN fullShare 21) (I.KE c)) ∗ (pt vM c (Transfers.shareTokN fullShare 22) (I.VE c) ∗ pt vM c (Transfers.shareTokN fullShare 23) (I.VE c) ∗ pt vM c (Transfers.shareTokN fullShare 24) (I.VE c) ∗ pt vM c (Transfers.shareTokN fullShare 25) (I.VE c) ∗ pt vM c (Transfers.shareTokN fullShare 26) (I.VE c) ∗ pt vM c (Transfers.shareTokN fullShare 27) (I.VE c) ∗ pt vM c (Transfers.shareTokN fullShare 28) (I.VE c) ∗ pt vM c (Transfers.shareTokN fullShare 29) (I.VE c)) ∗ (semVal ((c : Thread nD τ), .dma kS0) 0 ∗ semVal ((c : Thread nD τ), .dma kS1) 0 ∗ semVal ((c : Thread nD τ), .dma kS2) 0 ∗ semVal ((c : Thread nD τ), .dma kS3) 0 ∗ semVal ((c : Thread nD τ), .dma kS4) 0 ∗ semVal ((c : Thread nD τ), .dma kS5) 0 ∗ semVal ((c : Thread nD τ), .dma kS6) 0 ∗ semVal ((c : Thread nD τ), .dma kS7) 0) ∗ (semVal ((c : Thread nD τ), .dma vS0) 0 ∗ semVal ((c : Thread nD τ), .dma vS1) 0 ∗ semVal ((c : Thread nD τ), .dma vS2) 0 ∗ semVal ((c : Thread nD τ), .dma vS3) 0 ∗ semVal ((c : Thread nD τ), .dma vS4) 0 ∗ semVal ((c : Thread nD τ), .dma vS5) 0 ∗ semVal ((c : Thread nD τ), .dma vS6) 0 ∗ semVal ((c : Thread nD τ), .dma vS7) 0))) := by
  unfold bodyS
  iintro ⟨#Hlev, #Hinv, #Hbar, HO, Htl, Htr, Hfl, Hfr, ⟨#H6, #H7, #H8, #H9, #H10⟩, HcB, HaB, ⟨Ht1, #Hr1, Ht6⟩, ⟨Ht2, #Hr2, Ht7⟩, ⟨Ht4, #Hr4, Ht9⟩, ⟨Ht5, #Hr5, Ht10⟩, ⟨Ht3, #Hr3, Ht8⟩,
    ⟨Hc6, Hc7, Hc8, Hc9, Hc10⟩, ⟨Ha1, Ha2, Ha3, Ha4, Ha5, Ha6, Ha7, Ha8, Ha9, Ha10⟩, Hx, Hwq, Hwo, Hout, Hm, Hks, Hvs, Hf, Hq, Hc, ⟨Hk0, Hk1, Hk2, Hk3, Hk4, Hk5, Hk6, Hk7⟩, ⟨Hv0, Hv1, Hv2, Hv3, Hv4, Hv5, Hv6, Hv7⟩,
    ⟨Hsk0, Hsk1, Hsk2, Hsk3, Hsk4, Hsk5, Hsk6, Hsk7⟩, ⟨Hsv0, Hsv1, Hsv2, Hsv3, Hsv4, Hsv5, Hsv6, Hsv7⟩⟩
  sl_exec
  iapply (signal_left I κ c _ (dev1_eq c)) $$ [HO Htl Hfl]
  · isplitr; · iexact Hinv
    isplitr; · iexact Hbar
    isplitl [HO]; · iexact HO
    isplitl [Htl]; · iexact Htl
    isplitl [Hfl]; · iexact Hfl
    isplitr; · iexact H6
    isplitr; · iexact H7
    iexact H8
  iintro HO
  sl_exec
  iapply (signal_right I κ c _ (dev2_eq c)) $$ [HO Htr Hfr]
  · isplitr; · iexact Hinv
    isplitr; · iexact Hbar
    isplitl [HO]; · iexact HO
    isplitl [Htr]; · iexact Htr
    isplitl [Hfr]; · iexact Hfr
    isplitr; · iexact H9
    iexact H10
  iintro HO
  sl_exec
  iapply (wait_bar I κ c) $$ [HO HcB HaB]
  · isplitr; · iexact Hinv
    isplitl [HcB]; · iexact HcB
    isplitl [HO]; · iexact HO
    isplitr; · iexact Hlev
    iexact HaB
  iintro ⟨HO, HaB, Hp, Hp'⟩
  dsimp only [pay]
  icases Hp with ⟨⟨%g9, Hd9⟩, ⟨%g10, Hd10⟩, #Hn9, #Hn10⟩
  icases Hp' with ⟨⟨%g6, Hd6⟩, ⟨%g7, Hd7⟩, Hd8, #Hn6, #Hn7, #Hn8⟩
  ihave Hwq := ((pt_halves wqM c fullShare (I.WQ c)).1) $$ Hwq
  icases Hwq with ⟨Hwq1, Hwq⟩
  ihave Hwq := ((pt_halves wqM c fullShare.right (I.WQ c)).1) $$ Hwq
  icases Hwq with ⟨Hwq2, Hwq⟩
  ihave Hwo := ((pt_halves woM c fullShare (I.WO c)).1) $$ Hwo
  icases Hwo with ⟨Hwo1, Hwo⟩
  ihave Hwo := ((pt_halves woM c fullShare.right (I.WO c)).1) $$ Hwo
  icases Hwo with ⟨Hwo2, Hwo⟩
  sl_exec
  iapply (send_rq I κ c _ (dev3_eq c) g6) $$ [HO Hwq1 Hd6 Ht1 Ht6]
  · isplitr; · iexact Hinv
    isplitl [Hwq1]; · iexact Hwq1
    isplitl [Hd6]; · iexact Hd6
    isplitl [HO]; · iexact HO
    isplitl [Ht1]; · iexact Ht1
    isplitr; · iexact Hr1
    isplitl [Ht6]; · iexact Ht6
    iexact Hn6
  iintro ⟨HcS1, HO⟩
  sl_exec
  iapply (send_ro I κ c _ (dev4_eq c) g7) $$ [HO Hwo1 Hd7 Ht2 Ht7]
  · isplitr; · iexact Hinv
    isplitl [Hwo1]; · iexact Hwo1
    isplitl [Hd7]; · iexact Hd7
    isplitl [HO]; · iexact HO
    isplitl [Ht2]; · iexact Ht2
    isplitr; · iexact Hr2
    isplitl [Ht7]; · iexact Ht7
    iexact Hn7
  iintro ⟨HcS2, HO⟩
  sl_exec
  iapply (send_lq I κ c _ (dev5_eq c) g9) $$ [HO Hwq2 Hd9 Ht4 Ht9]
  · isplitr; · iexact Hinv
    isplitl [Hwq2]; · iexact Hwq2
    isplitl [Hd9]; · iexact Hd9
    isplitl [HO]; · iexact HO
    isplitl [Ht4]; · iexact Ht4
    isplitr; · iexact Hr4
    isplitl [Ht9]; · iexact Ht9
    iexact Hn9
  iintro ⟨HcS4, HO⟩
  sl_exec
  iapply (send_lo I κ c _ (dev6_eq c) g10) $$ [HO Hwo2 Hd10 Ht5 Ht10]
  · isplitr; · iexact Hinv
    isplitl [Hwo2]; · iexact Hwo2
    isplitl [Hd10]; · iexact Hd10
    isplitl [HO]; · iexact HO
    isplitl [Ht5]; · iexact Ht5
    isplitr; · iexact Hr5
    isplitl [Ht10]; · iexact Ht10
    iexact Hn10
  iintro ⟨HcS5, HO⟩
  have hmwk : ∀ q, slev (.dma q) ≤ 2 → (levAts L lv : sProp 𝕄) ⊢ MayWait (c:Thread nD τ) (.dma q) () (D1 c) := mayWait_low c
  sl_exec
  iapply (wait_xfer I κ c 6 (by decide) (dst := fl00) rfl rfl) $$ [HO Hc6 Ha6]
  · isplitr; · iexact Hinv
    isplitl [Hc6]; · iexact Hc6
    isplitl [HO]; · iexact HO
    isplitr; · iapply (mayWait_low c _ (by decide)) $$ Hlev
    iexact Ha6
  iintro ⟨HO, Ha6, Hp6⟩
  sl_exec
  iapply (wait_xfer I κ c 7 (by decide) (dst := fl01) rfl rfl) $$ [HO Hc7 Ha7]
  · isplitr; · iexact Hinv
    isplitl [Hc7]; · iexact Hc7
    isplitl [HO]; · iexact HO
    isplitr; · iapply (mayWait_low c _ (by decide)) $$ Hlev
    iexact Ha7
  iintro ⟨HO, Ha7, Hp7⟩
  sl_exec
  ihave Hks := (forget kscM c fullShare _) $$ Hks
  icases Hks with ⟨%gk1, Hks⟩
  ihave Hvs := (forget vscM c fullShare _) $$ Hvs
  icases Hvs with ⟨%gv1, Hvs⟩
  ihave Hq := (forget qscM c fullShare _) $$ Hq
  icases Hq with ⟨%gq1, Hq⟩
  ihave Hout := (named outM c fullShare _) $$ Hout
  icases Hout with ⟨%go1, %ho1, Hout⟩
  ihave Hp6 := (Entails.of_eq (show pay I c 6 false = pt fl00 c fullShare (wflC I c) from rfl)) $$ Hp6
  ihave Hp7 := (Entails.of_eq (show pay I c 7 false = pt fl01 c fullShare (wflC I c) from rfl)) $$ Hp7
  ihave Hp6 := ((pt_halves fl00 c fullShare (wflC I c)).1) $$ Hp6
  ihave Hp7 := ((pt_halves fl01 c fullShare (wflC I c)).1) $$ Hp7
  icases Hp6 with ⟨Hl6, Hp6⟩
  icases Hp7 with ⟨Hl7, Hp7⟩
  ihave Hs := ((pt_fl0 c fullShare.left (wflC I c)).2) $$ [Hl6 Hl7]
  · isplitl [Hl6]; · iexact Hl6
    iexact Hl7
  icases Hd8 with ⟨%g8, Hd8⟩
  iapply (send_f I κ c _ (dev7_eq c) g8) $$ [HO Hs Hd8 Ht3 Ht8]
  · isplitr; · iexact Hinv
    isplitl [Hs]; · iexact Hs
    isplitl [Hd8]; · iexact Hd8
    isplitl [HO]; · iexact HO
    isplitl [Ht3]; · iexact Ht3
    isplitr; · iexact Hr3
    isplitl [Ht8]; · iexact Ht8
    iexact Hn8
  iintro ⟨HcS3, HO⟩
  have hmw0 : ∀ q, slev (.dma q) ≤ 2 → (levAts L lv : sProp 𝕄) ⊢ MayWait (c:Thread nD τ) (.dma q) () 0 := fun q _ => by rw [MayWait_zero]; iintro -; iempintro
  sl_exec
  iapply (wait_xfer I κ c 9 (by decide) (dst := fr0) rfl rfl) $$ [HO Hc9 Ha9]
  · isplitr; · iexact Hinv
    isplitl [Hc9]; · iexact Hc9
    isplitl [HO]; · iexact HO
    isplitr; · rw [MayWait_zero]; iempintro
    iexact Ha9
  iintro ⟨HO, Ha9, Hp9⟩
  sl_exec
  iapply (wait_xfer I κ c 10 (by decide) (dst := fr1) rfl rfl) $$ [HO Hc10 Ha10]
  · isplitr; · iexact Hinv
    isplitl [Hc10]; · iexact Hc10
    isplitl [HO]; · iexact HO
    isplitr; · rw [MayWait_zero]; iempintro
    iexact Ha10
  iintro ⟨HO, Ha10, Hp10⟩

  ihave Hks := (forget kscM c fullShare _) $$ Hks
  icases Hks with ⟨%gk2, Hks⟩
  ihave Hvs := (forget vscM c fullShare _) $$ Hvs
  icases Hvs with ⟨%gv2, Hvs⟩
  ihave Hq := (forget qscM c fullShare _) $$ Hq
  icases Hq with ⟨%gq2, Hq⟩
  ihave Hout := (named outM c fullShare _) $$ Hout
  icases Hout with ⟨%go2, %ho2, Hout⟩
  ihave Hp9 := (Entails.of_eq (show pay I c 9 false = pt fr0 c fullShare (wfrC I c) from rfl)) $$ Hp9
  ihave Hp10 := (Entails.of_eq (show pay I c 10 false = pt fr1 c fullShare (wfrC I c) from rfl)) $$ Hp10
  sl_exec
  iapply (wait_xfer I κ c 8 (by decide) (dst := fl1) rfl rfl) $$ [HO Hc8 Ha8]
  · isplitr; · iexact Hinv
    isplitl [Hc8]; · iexact Hc8
    isplitl [HO]; · iexact HO
    isplitr; · rw [MayWait_zero]; iempintro
    iexact Ha8
  iintro ⟨HO, Ha8, Hp8⟩

  ihave Hks := (forget kscM c fullShare _) $$ Hks
  icases Hks with ⟨%gk3, Hks⟩
  ihave Hvs := (forget vscM c fullShare _) $$ Hvs
  icases Hvs with ⟨%gv3, Hvs⟩
  ihave Hq := (forget qscM c fullShare _) $$ Hq
  icases Hq with ⟨%gq3, Hq⟩
  ihave Hout := (named outM c fullShare _) $$ Hout
  icases Hout with ⟨%go3, %ho3, Hout⟩
  ihave Hp8 := (Entails.of_eq (show pay I c 8 false = pt fl1 c fullShare (wflC I c) from rfl)) $$ Hp8
  ihave Hp8 := ((pt_fl1 c fullShare (wflC I c)).1) $$ Hp8
  icases Hp8 with ⟨Hp80, Hp81⟩
  sl_exec
  iapply (wait_xfer I κ c 1 (by decide) (dst := wqM) rfl rfl) $$ [HO HcS1 Ha1]
  · isplitr; · iexact Hinv
    isplitl [HcS1]; · iexact HcS1
    isplitl [HO]; · iexact HO
    isplitr; · rw [MayWait_zero]; iempintro
    iexact Ha1
  iintro ⟨HO, Ha1, Hp1⟩
  sl_exec
  iapply (wait_xfer I κ c 2 (by decide) (dst := woM) rfl rfl) $$ [HO HcS2 Ha2]
  · isplitr; · iexact Hinv
    isplitl [HcS2]; · iexact HcS2
    isplitl [HO]; · iexact HO
    isplitr; · rw [MayWait_zero]; iempintro
    iexact Ha2
  iintro ⟨HO, Ha2, Hp2⟩
  sl_exec
  iapply (wait_xfer I κ c 4 (by decide) (dst := wqM) rfl rfl) $$ [HO HcS4 Ha4]
  · isplitr; · iexact Hinv
    isplitl [HcS4]; · iexact HcS4
    isplitl [HO]; · iexact HO
    isplitr; · rw [MayWait_zero]; iempintro
    iexact Ha4
  iintro ⟨HO, Ha4, Hp4⟩
  sl_exec
  iapply (wait_xfer I κ c 5 (by decide) (dst := woM) rfl rfl) $$ [HO HcS5 Ha5]
  · isplitr; · iexact Hinv
    isplitl [HcS5]; · iexact HcS5
    isplitl [HO]; · iexact HO
    isplitr; · rw [MayWait_zero]; iempintro
    iexact Ha5
  iintro ⟨HO, Ha5, Hp5⟩
  sl_exec
  iapply (wait_xfer I κ c 3 (by decide) (dst := fl0) rfl rfl) $$ [HO HcS3 Ha3]
  · isplitr; · iexact Hinv
    isplitl [HcS3]; · iexact HcS3
    isplitl [HO]; · iexact HO
    isplitr; · rw [MayWait_zero]; iempintro
    iexact Ha3
  iintro ⟨HO, Ha3, Hp3⟩
  sl_exec
  ihave Hout := (named outM c fullShare _) $$ Hout
  icases Hout with ⟨%go4, %ho4, Hout⟩
  have e1 := head0_of I c (show go1 = _ from ho1) (masks_written _ _ _) (read_wqM (I.WQ c)) (read_woM (I.WO c))
    (staged_k (I.KE c) c c (k0_off1 c) (k0_off1_eq c) _) (staged_v (I.VE c) c c (k0_off1 c) (k0_off1_eq c) _) rfl rfl rfl rfl
  have e2 := headAdd_of I c (prv c) (show go2 = _ from ho2) (masks_written _ _ _) (read_fl00 I c) (read_fl01 I c)
    (staged_k (I.KE c) c (prv c) (k0_off5 c 1#32) (k0_off5_eq c 0) _) (staged_v (I.VE c) c (prv c) (k0_off5 c 1#32) (k0_off5_eq c 0) _) rfl rfl rfl rfl
  have e3 := headAdd_of I c (nxt c) (show go3 = _ from ho3) (masks_written _ _ _) (read_fr0 I c) (read_fr1 I c)
    (staged_k (I.KE c) c (nxt c) (k0_off14 c) (k0_off14_eq c) _) (staged_v (I.VE c) c (nxt c) (k0_off14 c) (k0_off14_eq c) _) rfl rfl rfl rfl
  have e4 := headAdd_of I c (prv (prv c)) (show go4 = _ from ho4) (masks_written _ _ _) (read_fl10 I c) (read_fl11 I c)
    (staged_k (I.KE c) c (prv (prv c)) (k0_off5 c 2#32) (off5_two c) _) (staged_v (I.VE c) c (prv (prv c)) (k0_off5 c 2#32) (off5_two c) _) rfl rfl rfl rfl
  have eo : go4 = outOf I c := by rw [e4, e3, e2, e1]; rfl
  ihave Hout := (Entails.of_eq (congrArg (pt outM c fullShare) eo)) $$ Hout
  ihave Hp1 := (Entails.of_eq (show pay I c 1 false = pt wqM c fullShare.left (I.WQ c) from rfl)) $$ Hp1
  ihave Hp4 := (Entails.of_eq (show pay I c 4 false = pt wqM c fullShare.right.left (I.WQ c) from rfl)) $$ Hp4
  ihave Hp2 := (Entails.of_eq (show pay I c 2 false = pt woM c fullShare.left (I.WO c) from rfl)) $$ Hp2
  ihave Hp5 := (Entails.of_eq (show pay I c 5 false = pt woM c fullShare.right.left (I.WO c) from rfl)) $$ Hp5
  ihave Hp3 := (Entails.of_eq (show pay I c 3 false = pt fl0 c fullShare.left (wflC I c) from rfl)) $$ Hp3
  ihave Hwq := ((pt_halves wqM c fullShare.right (I.WQ c)).2) $$ [Hp4 Hwq]
  · isplitl [Hp4]; · iexact Hp4
    iexact Hwq
  ihave Hwq := ((pt_halves wqM c fullShare (I.WQ c)).2) $$ [Hp1 Hwq]
  · isplitl [Hp1]; · iexact Hp1
    iexact Hwq
  ihave Hwo := ((pt_halves woM c fullShare.right (I.WO c)).2) $$ [Hp5 Hwo]
  · isplitl [Hp5]; · iexact Hp5
    iexact Hwo
  ihave Hwo := ((pt_halves woM c fullShare (I.WO c)).2) $$ [Hp2 Hwo]
  · isplitl [Hp2]; · iexact Hp2
    iexact Hwo
  ihave Hfl := ((pt_fl0 c fullShare.right (wflC I c)).2) $$ [Hp6 Hp7]
  · isplitl [Hp6]; · iexact Hp6
    iexact Hp7
  ihave Hfl := ((pt_halves fl0 c fullShare (wflC I c)).2) $$ [Hp3 Hfl]
  · isplitl [Hp3]; · iexact Hp3
    iexact Hfl
  ihave Hfl1 := ((pt_fl1 c fullShare (wflC I c)).2) $$ [Hp80 Hp81]
  · isplitl [Hp80]; · iexact Hp80
    iexact Hp81
  ihave Hfl := ((pt_fl c fullShare (wflC I c)).2) $$ [Hfl Hfl1]
  · isplitl [Hfl]; · iexact Hfl
    iexact Hfl1
  ihave Hfr := ((pt_fr c fullShare (wfrC I c)).2) $$ [Hp9 Hp10]
  · isplitl [Hp9]; · iexact Hp9
    iexact Hp10
  sl_step
  isplitl [HO]; · iexists _; iexact HO
  isplitl [Hx]; · iexact Hx
  isplitl [Hwq]; · iexact Hwq
  isplitl [Hwo]; · iexact Hwo
  isplitl [Hout]; · iexact Hout
  isplitl [Hfl Hfr Hks Hvs Hf Hq Hc Hm]
  · isplitl [Hfl]; · iexists _; iexact Hfl
    isplitl [Hfr]; · iexists _; iexact Hfr
    isplitl [Hks]; · iexists _; iexact Hks
    isplitl [Hvs]; · iexists _; iexact Hvs
    isplitl [Hf]; · iexists _; iexact Hf
    isplitl [Hq]; · iexists _; iexact Hq
    isplitl [Hc]; · iexists _; iexact Hc
    iexists _; iexact Hm
  isplitl [HaB Ha1 Ha2 Ha3 Ha4 Ha5 Ha6 Ha7 Ha8 Ha9 Ha10]
  · isplitl [HaB]; · iexact HaB
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Ha10
  isplitl [Hk0 Hk1 Hk2 Hk3 Hk4 Hk5 Hk6 Hk7]
  · isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    iexact Hk7
  isplitl [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  isplitl [Hsk0 Hsk1 Hsk2 Hsk3 Hsk4 Hsk5 Hsk6 Hsk7]
  · isplitl [Hsk0]; · iexact Hsk0
    isplitl [Hsk1]; · iexact Hsk1
    isplitl [Hsk2]; · iexact Hsk2
    isplitl [Hsk3]; · iexact Hsk3
    isplitl [Hsk4]; · iexact Hsk4
    isplitl [Hsk5]; · iexact Hsk5
    isplitl [Hsk6]; · iexact Hsk6
    iexact Hsk7
  isplitl [Hsv0]; · iexact Hsv0
  isplitl [Hsv1]; · iexact Hsv1
  isplitl [Hsv2]; · iexact Hsv2
  isplitl [Hsv3]; · iexact Hsv3
  isplitl [Hsv4]; · iexact Hsv4
  isplitl [Hsv5]; · iexact Hsv5
  isplitl [Hsv6]; · iexact Hsv6
  iexact Hsv7

end Cert.Proof
-- ==== Proof.Ghost.lean ====
/- The launch: the ghost state shared out among the devices. -/
module

public import proofs.«01_k».proof.Proof.Comms
public import Idealize.ShloMosaic.Lib.Pipeline.Regions
public import Idealize.ShloMosaic.Lib.Pipeline.Kit

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-!
# What each device is given at launch

The eleven cells of each device are put under their invariants once for all devices: the barrier cells from their counters, the
others dormant, to be opened by their owner when the kernel is entered. Every device receives the right to open its ten cells, the
tokens of the signals and landings it will cause, and the credits for the signals and landings it will wait for.
-/

/-- The tokens of the duties device `c` pays. -/
def dues (c : Dev nD) : sProp 𝕄 :=
  iprop(dutyTok ER (kcell (prv c) 0) 0 true
    ∗ dutyTok ER (kcell (nxt c) 0) 0 false
    ∗ dutyTok ER (kcell c 1) 0 false
    ∗ dutyTok ER (kcell c 2) 0 false
    ∗ dutyTok ER (kcell c 3) 0 false
    ∗ dutyTok ER (kcell c 4) 0 false
    ∗ dutyTok ER (kcell c 5) 0 false
    ∗ dutyTok ER (kcell (nxt c) 6) 0 false
    ∗ dutyTok ER (kcell (nxt c) 7) 0 false
    ∗ dutyTok ER (kcell (nxt c) 8) 0 false
    ∗ dutyTok ER (kcell (prv c) 9) 0 false
    ∗ dutyTok ER (kcell (prv c) 10) 0 false)

/-- The credits device `c` waits with. -/
def creds (c : Dev nD) : sProp 𝕄 :=
  iprop(cred (tallyAt (kcell c 0) () 2)
    ∗ cred (tallyAt (kcell c 6) () (amt 6))
    ∗ cred (tallyAt (kcell c 7) () (amt 7))
    ∗ cred (tallyAt (kcell c 8) () (amt 8))
    ∗ cred (tallyAt (kcell c 9) () (amt 9))
    ∗ cred (tallyAt (kcell c 10) () (amt 10)))

/-- The rights to open the ten cells that belong to the kernel's own semaphores. -/
def opens (c : Dev nD) : sProp 𝕄 := iprop(openTok ER (kcell c 1) ∗ openTok ER (kcell c 2) ∗ openTok ER (kcell c 3) ∗ openTok ER (kcell c 4) ∗ openTok ER (kcell c 5) ∗ openTok ER (kcell c 6) ∗ openTok ER (kcell c 7) ∗ openTok ER (kcell c 8) ∗ openTok ER (kcell c 9) ∗ openTok ER (kcell c 10))

/-- The positions on those ten cells. -/
def places (c : Dev nD) : sProp 𝕄 := iprop(atPos ER (kcell c 1) 0 ∅ 0 ∗ atPos ER (kcell c 2) 0 ∅ 0 ∗ atPos ER (kcell c 3) 0 ∅ 0 ∗ atPos ER (kcell c 4) 0 ∅ 0 ∗ atPos ER (kcell c 5) 0 ∅ 0 ∗ atPos ER (kcell c 6) 0 ∅ 0 ∗ atPos ER (kcell c 7) 0 ∅ 0 ∗ atPos ER (kcell c 8) 0 ∅ 0 ∗ atPos ER (kcell c 9) 0 ∅ 0 ∗ atPos ER (kcell c 10) 0 ∅ 0)

/-- That their first round is reached. -/
def begun (c : Dev nD) : sProp 𝕄 := iprop(reached ER (kcell c 1) 0 ∗ reached ER (kcell c 2) 0 ∗ reached ER (kcell c 3) 0 ∗ reached ER (kcell c 4) 0 ∗ reached ER (kcell c 5) 0 ∗ reached ER (kcell c 6) 0 ∗ reached ER (kcell c 7) 0 ∗ reached ER (kcell c 8) 0 ∗ reached ER (kcell c 9) 0 ∗ reached ER (kcell c 10) 0)

/-- Their counters at zero. -/
def zeros (c : Dev nD) : sProp 𝕄 := iprop(semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0)

/-- What device `c` carries from the launch to the kernel. -/
def start (I : Ins F) (c : Dev nD) : sProp 𝕄 :=
  iprop(∃ κ : GSem nD τ sig → ℕ, invs I κ ∗ bars ∗ atPos ER (kcell c 0) 0 ∅ 0 ∗ opens c ∗ dues c ∗ creds c)

/-- The same, its ten cells opened. -/
def opened (I : Ins F) (κ : GSem nD τ sig → ℕ) (c : Dev nD) : sProp 𝕄 :=
  iprop(invs I κ ∗ bars ∗ atPos ER (kcell c 0) 0 ∅ 0 ∗ places c ∗ begun c ∗ dues c ∗ creds c)

/-- A dormant cell is opened with its counter at zero. -/
theorem open_cell (I : Ins F) (κ : GSem nD τ sig → ℕ) (c : Dev nD) (k : Fin 11) :
    iprop(invs I κ ∗ openTok ER (kcell c k) ∗ semVal (kcell c k) 0)
      ⊢ (|={Set.univ}=> iprop(atPos ER (kcell c k) 0 ∅ 0 ∗ reached ER (kcell c k) 0) : sProp 𝕄) := by
  iintro ⟨#HI, Ho, Hs⟩
  iapply (Rounds.cell_open ER (Rd I) (g := kcell c k) (Set.mem_univ (κ (kcell c k)))) $$ [Ho Hs]
  isplitr; · iapply (inv_at I κ c k) $$ HI
  isplitl [Ho] <;> iassumption

/-- A cell whose one round is over gives its counter back at zero. -/
theorem close_cell (I : Ins F) (κ : GSem nD τ sig → ℕ) (c : Dev nD) (k : Fin 11) :
    iprop(invs I κ ∗ atPos ER (kcell c k) (0 + 1) ∅ 0) ⊢ (|={Set.univ}=> semVal (kcell c k) 0 : sProp 𝕄) := by
  iintro ⟨#HI, Ha⟩
  iapply (Rounds.cell_close ER (Rd I) (Set.mem_univ (κ (kcell c k))) id (duties_later I (kcell c k))) $$ [Ha]
  isplitr; · iapply (inv_at I κ c k) $$ HI
  iexact Ha

/-- All ten cells opened. -/
theorem open_all (I : Ins F) (κ : GSem nD τ sig → ℕ) (c : Dev nD) :
    iprop(invs I κ ∗ opens c ∗ zeros c) ⊢ (|={Set.univ}=> iprop(places c ∗ begun c) : sProp 𝕄) := by
  unfold opens zeros places begun
  iintro ⟨#HI, ⟨Ho1, Ho2, Ho3, Ho4, Ho5, Ho6, Ho7, Ho8, Ho9, Ho10⟩, ⟨Hs1, Hs2, Hs3, Hs4, Hs5, Hs6, Hs7, Hs8, Hs9, Hs10⟩⟩
  imod (open_cell I κ c 1) $$ [Ho1 Hs1] with ⟨Ha1, Hr1⟩
  · isplitr; · iexact HI
    isplitl [Ho1] <;> iassumption
  imod (open_cell I κ c 2) $$ [Ho2 Hs2] with ⟨Ha2, Hr2⟩
  · isplitr; · iexact HI
    isplitl [Ho2] <;> iassumption
  imod (open_cell I κ c 3) $$ [Ho3 Hs3] with ⟨Ha3, Hr3⟩
  · isplitr; · iexact HI
    isplitl [Ho3] <;> iassumption
  imod (open_cell I κ c 4) $$ [Ho4 Hs4] with ⟨Ha4, Hr4⟩
  · isplitr; · iexact HI
    isplitl [Ho4] <;> iassumption
  imod (open_cell I κ c 5) $$ [Ho5 Hs5] with ⟨Ha5, Hr5⟩
  · isplitr; · iexact HI
    isplitl [Ho5] <;> iassumption
  imod (open_cell I κ c 6) $$ [Ho6 Hs6] with ⟨Ha6, Hr6⟩
  · isplitr; · iexact HI
    isplitl [Ho6] <;> iassumption
  imod (open_cell I κ c 7) $$ [Ho7 Hs7] with ⟨Ha7, Hr7⟩
  · isplitr; · iexact HI
    isplitl [Ho7] <;> iassumption
  imod (open_cell I κ c 8) $$ [Ho8 Hs8] with ⟨Ha8, Hr8⟩
  · isplitr; · iexact HI
    isplitl [Ho8] <;> iassumption
  imod (open_cell I κ c 9) $$ [Ho9 Hs9] with ⟨Ha9, Hr9⟩
  · isplitr; · iexact HI
    isplitl [Ho9] <;> iassumption
  imod (open_cell I κ c 10) $$ [Ho10 Hs10] with ⟨Ha10, Hr10⟩
  · isplitr; · iexact HI
    isplitl [Ho10] <;> iassumption
  imodintro
  isplitl [Ha1 Ha2 Ha3 Ha4 Ha5 Ha6 Ha7 Ha8 Ha9 Ha10]
  · isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Ha10
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  iexact Hr10

/-- All eleven cells closed. -/
theorem close_all (I : Ins F) (κ : GSem nD τ sig → ℕ) (c : Dev nD) :
    iprop(invs I κ ∗ (atPos ER (kcell c 0) (0 + 1) ∅ 0 ∗ atPos ER (kcell c 1) (0 + 1) ∅ 0 ∗ atPos ER (kcell c 2) (0 + 1) ∅ 0 ∗ atPos ER (kcell c 3) (0 + 1) ∅ 0 ∗ atPos ER (kcell c 4) (0 + 1) ∅ 0 ∗ atPos ER (kcell c 5) (0 + 1) ∅ 0 ∗ atPos ER (kcell c 6) (0 + 1) ∅ 0 ∗ atPos ER (kcell c 7) (0 + 1) ∅ 0 ∗ atPos ER (kcell c 8) (0 + 1) ∅ 0 ∗ atPos ER (kcell c 9) (0 + 1) ∅ 0 ∗ atPos ER (kcell c 10) (0 + 1) ∅ 0))
      ⊢ (|={Set.univ}=> iprop(semVal (kcell c 0) 0 ∗ zeros c) : sProp 𝕄) := by
  unfold zeros
  iintro ⟨#HI, Ha0, Ha1, Ha2, Ha3, Ha4, Ha5, Ha6, Ha7, Ha8, Ha9, Ha10⟩
  imod (close_cell I κ c 0) $$ [Ha0] with Hs0
  · isplitr; · iexact HI
    iexact Ha0
  imod (close_cell I κ c 1) $$ [Ha1] with Hs1
  · isplitr; · iexact HI
    iexact Ha1
  imod (close_cell I κ c 2) $$ [Ha2] with Hs2
  · isplitr; · iexact HI
    iexact Ha2
  imod (close_cell I κ c 3) $$ [Ha3] with Hs3
  · isplitr; · iexact HI
    iexact Ha3
  imod (close_cell I κ c 4) $$ [Ha4] with Hs4
  · isplitr; · iexact HI
    iexact Ha4
  imod (close_cell I κ c 5) $$ [Ha5] with Hs5
  · isplitr; · iexact HI
    iexact Ha5
  imod (close_cell I κ c 6) $$ [Ha6] with Hs6
  · isplitr; · iexact HI
    iexact Ha6
  imod (close_cell I κ c 7) $$ [Ha7] with Hs7
  · isplitr; · iexact HI
    iexact Ha7
  imod (close_cell I κ c 8) $$ [Ha8] with Hs8
  · isplitr; · iexact HI
    iexact Ha8
  imod (close_cell I κ c 9) $$ [Ha9] with Hs9
  · isplitr; · iexact HI
    iexact Ha9
  imod (close_cell I κ c 10) $$ [Ha10] with Hs10
  · isplitr; · iexact HI
    iexact Ha10
  imodintro
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  iexact Hs10

/-! ## The cells and the tokens, all devices together -/

/-- The eleven semaphores differ. -/
theorem osem_inj : Function.Injective osem := by decide

/-- Cells are equal where device and semaphore are. -/
theorem kcell_eq_iff {c d : Dev nD} {k j : Fin 11} : kcell c k = kcell d j ↔ c = d ∧ k = j :=
  ⟨fun h => ⟨congrArg (fun g : GSem nD τ sig => g.1.1) h, osem_inj (congrArg Prod.snd h)⟩, fun ⟨h, h'⟩ => by rw [h, h']⟩

/-- The barrier cells, one a device. -/
def barEmb : Dev nD ↪ GSem nD τ sig := ⟨fun c => kcell c 0, fun _ _ h => (kcell_eq_iff.mp h).1⟩
/-- The ten copy cells of every device. -/
def scEmb : Dev nD × Fin 10 ↪ GSem nD τ sig :=
  ⟨fun ck => kcell ck.1 ck.2.succ, fun _ _ h => Prod.ext (kcell_eq_iff.mp h).1 (Fin.succ_injective _ (kcell_eq_iff.mp h).2)⟩
/-- All eleven cells of every device. -/
def allEmb : Dev nD × Fin 11 ↪ GSem nD τ sig :=
  ⟨fun ck => kcell ck.1 ck.2, fun _ _ h => Prod.ext (kcell_eq_iff.mp h).1 (kcell_eq_iff.mp h).2⟩

/-- The barrier cells, and the ten others of each device. -/
abbrev barCells : Finset (GSem nD τ sig) := Finset.univ.map barEmb
/-- The set of the copy cells. -/
abbrev scCells : Finset (GSem nD τ sig) := Finset.univ.map scEmb

/-- No barrier cell is a copy cell. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact Fin.succ_ne_zero _ (kcell_eq_iff.mp h).2

/-- Barrier cells and copy cells are all cells. -/
theorem cells_union : (barCells ∪ scCells : Finset (GSem nD τ sig)) = Finset.univ.map allEmb := by
  ext g
  simp only [Finset.mem_union, Finset.mem_map, Finset.mem_univ, true_and]
  constructor
  · rintro (⟨c, rfl⟩ | ⟨ck, rfl⟩)
    · exact ⟨(c, 0), rfl⟩
    · exact ⟨(ck.1, ck.2.succ), rfl⟩
  · rintro ⟨⟨c, k⟩, rfl⟩
    rcases Fin.eq_zero_or_eq_succ k with rfl | ⟨j, rfl⟩
    · exact .inl ⟨c, rfl⟩
    · exact .inr ⟨(c, j), rfl⟩

/-- The twelve tokens of each device's cells: two on the barrier cell, one on each other. -/
def tk : Fin 12 → Fin 11 × Bool := fun
  | 0 => (0, true) | 1 => (0, false) | 2 => (1, false) | 3 => (2, false) | 4 => (3, false) | 5 => (4, false) | 6 => (5, false) | 7 => (6, false) | 8 => (7, false) | 9 => (8, false) | 10 => (9, false) | 11 => (10, false)
/-- The twelve tokens of a device differ. -/
theorem tk_inj : Function.Injective tk := by decide
/-- The twelve tokens of every device. -/
def tokEmb : Dev nD × Fin 12 ↪ GSem nD τ sig × ℕ × Bool :=
  ⟨fun p => (kcell p.1 (tk p.2).1, 0, (tk p.2).2), fun _ _ h =>
    Prod.ext (kcell_eq_iff.mp (congrArg Prod.fst h)).1
      (tk_inj (Prod.ext (kcell_eq_iff.mp (congrArg Prod.fst h)).2 (congrArg (fun t : GSem nD τ sig × ℕ × Bool => t.2.2) h)))⟩
/-- The set of all tokens. -/
def toks : Finset (GSem nD τ sig × ℕ × Bool) := Finset.univ.map tokEmb

/-- On which device the cell stands whose `i`-th token device `c` takes. -/
def away : Fin 12 → (Dev nD ≃ Dev nD) := fun
  | 0 => ring.symm | 1 => ring | 2 => Equiv.refl _ | 3 => Equiv.refl _ | 4 => Equiv.refl _ | 5 => Equiv.refl _ | 6 => Equiv.refl _ | 7 => ring | 8 => ring | 9 => ring | 10 => ring.symm | 11 => ring.symm
/-- Every device's tokens, by the device that takes them. -/
def awayAll : Dev nD × Fin 12 ≃ Dev nD × Fin 12 :=
  ⟨fun p => (away p.2 p.1, p.2), fun p => ((away p.2).symm p.1, p.2),
    fun p => Prod.ext ((away p.2).symm_apply_apply p.1) rfl, fun p => Prod.ext ((away p.2).apply_symm_apply p.1) rfl⟩

/-- The tokens, each in the hands of the device that pays it. -/
theorem toks_dues : bigSep toks (fun x => (dutyTok ER x.1 x.2.1 x.2.2 : sProp 𝕄)) = bigSep Finset.univ fun c : Dev nD => dues c := by
  unfold toks
  rw [bigSep_map, bigSep_univ_equiv awayAll, bigSep_univ_prod]
  refine bigSep_congr fun c _ => ?_
  rw [bigSep_univ_eq_bigSepL [0, 1, 2, 3, 4, 5, 6, 7, 8, 9, 10, 11] (by decide) (by decide)]
  rfl

/-- The permissions to open the copy cells, device by device. -/
theorem opens_eq : bigSep scCells (fun g => (openTok ER g : sProp 𝕄)) = bigSep Finset.univ fun c : Dev nD => opens c := by
  rw [bigSep_map, bigSep_univ_prod]
  refine bigSep_congr fun c _ => ?_
  rw [bigSep_univ_eq_bigSepL [0, 1, 2, 3, 4, 5, 6, 7, 8, 9] (by decide) (by decide)]
  rfl

/-! ## The credits -/

/-- A tally on one cell, read at another: nothing unless they are the same. -/
theorem tally_cell (c d : Dev nD) (k j : Fin 11) (n : ℕ) :
    (tallyAt (kcell d j) () n : CellTallies nD τ sig Unit) (kcell c k) () = if c = d ∧ k = j then n else 0 := by
  rw [tallyAt_apply]
  exact if_congr (by rw [kcell_eq_iff]; simp) rfl rfl

/-- What all devices together owe a cell at launch is what its owner waits for. -/
theorem owed_all (c : Dev nD) (k : Fin 11) :
    ∑ d : Dev nD, D7 d (kcell c k) () = if k = 0 then 2 else if 6 ≤ k then amt k else 0 := by
  have e : ∀ d : Dev nD, D7 d (kcell c k) () = (if c = nxt d ∧ k = 8 then N2 else 0) + (if c = prv d ∧ k = 10 then N1 else 0)
      + (if c = prv d ∧ k = 9 then N1 else 0) + (if c = nxt d ∧ k = 7 then N1 else 0) + (if c = nxt d ∧ k = 6 then N1 else 0)
      + (if c = nxt d ∧ k = 0 then 1 else 0) + (if c = prv d ∧ k = 0 then 1 else 0) := fun d => by
    unfold D7 D6 D5 D4 D3 D2 D1
    simp only [Pi.add_apply, Finsupp.add_apply]
    rw [tally_cell c (nxt d) k 8, tally_cell c (prv d) k 10, tally_cell c (prv d) k 9, tally_cell c (nxt d) k 7, tally_cell c (nxt d) k 6,
      tally_cell c (nxt d) k 0, tally_cell c (prv d) k 0]
  rw [Finset.sum_congr rfl fun d _ => e d]
  unfold amt
  generalize N1 = a
  generalize N2 = b
  rw [Fin.sum_univ_four]
  fin_cases c <;> fin_cases k <;> simp +decide

/-- What a device may expect on a cell of its own at launch: two signals on the barrier, one landing on each arrival cell. -/
theorem launch_cell (c : Dev nD) (k : Fin 11) :
    tallyOn (kcell c k) (launchCredit (Pipeline.owing D7) 0 (kcell c k))
      = (tallyAt (kcell c k) () (if k = 0 then 2 else if 6 ≤ k then amt k else 0) : CellTallies nD τ sig Unit) := by
  unfold tallyAt; refine congrArg _ (Finsupp.ext fun u => ?_); cases u
  rw [Pipeline.launchCredit_owing, Finsupp.single_eq_same, owed_all]

/-- The launch's credit contains the six a device waits with. -/
theorem launch_creds (c : Dev nD) : (Pipeline.launchCred D7 c : sProp 𝕄) ⊢ creds c := by
  unfold Pipeline.launchCred
  rw [BI.bigSep_sdiff_split (t := {osem 0, osem 6, osem 7, osem 8, osem 9, osem 10}) (Finset.subset_univ _)]
  refine sep_elim_left.trans (Entails.of_eq ?_)
  rw [bigSep_eq_bigSepL_of_eq [osem 0, osem 6, osem 7, osem 8, osem 9, osem 10] (by decide) (by decide)]
  unfold creds
  simp only [bigSepL_cons_cons, bigSepL_singleton]
  rw [launch_cell c 0, launch_cell c 6, launch_cell c 7, launch_cell c 8, launch_cell c 9, launch_cell c 10]
  rfl

/-! ## The launch -/

/-- The ghost state of the launch: the staging cells' part and the eleven cells' part. -/
def u₁ : UB × Counters := (launchOf barCells scCells toks, 1)

/-- The eleven cells' part waits on device 0 until all devices' counters are together. -/
def G (c : Dev nD) : sProp 𝕄 := if c = 0 then BI.own (ER (launchOf barCells scCells toks)) else iprop(emp)

/-- The devices' shares of the ghost state are together the launch's. -/
theorem G_eq : bigSep Finset.univ (G (F := F)) = (BI.own (ER (launchOf barCells scCells toks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The one semaphore outside the call is the barrier. -/
theorem unscopedSems0_eq (c : Dev nD) : (unscopedSems0 c : sProp 𝕄) = semVal (kcell c 0) 0 := by
  unfold unscopedSems0
  rw [show (Finset.univ.filter fun sm : SemLoc sig => ¬ sm.isScoped .tc) = {SemLoc.reg barS} from by decide, BI.bigSep_singleton]

variable (m : (ℓ : Loc nD τ sig) → Buf (Elt F) ℓ) (ρ : Dev nD → PrngReg)

/-- What device `c` has at the beginning of its program. -/
def T₀ (I : Ins F) (c : Dev nD) : sProp 𝕄 :=
  iprop(unscopedBufs c (fun b => m ((c : Thread nD τ).loc b)) ∗ start I c ∗ ∃ W, owes (c : Thread nD τ) (D7 c) W)

/-- A device's beginning, from what it is given at launch. -/
theorem T₀_intro (I : Ins F) (κ : GSem nD τ sig → ℕ) (c : Dev nD) :
    iprop((invs I κ ∗ bars) ∗ ((atPos ER (kcell c 0) 0 ∅ 0 ∗ opens c ∗ dues c)
      ∗ (unscopedBufs c (fun b => m ((c : Thread nD τ).loc b)) ∗ creds c ∗ owes (c : Thread nD τ) (D7 c) ∅))) ⊢ T₀ m I c := by
  unfold T₀ start
  iintro ⟨⟨#HI, #HB⟩, ⟨Ha, Ho, Hd⟩, Hub, Hc, HO⟩
  isplitl [Hub]; · iexact Hub
  isplitr [HO]
  · iexists κ
    isplitr; · iexact HI
    isplitr; · iexact HB
    isplitl [Ha]; · iexact Ha
    isplitl [Ho]; · iexact Ho
    isplitl [Hd]; · iexact Hd
    iexact Hc
  · iexists ∅; iexact HO

/-- Pairs over the devices come apart. -/
theorem unzip (Φ Ψ : Dev nD → sProp 𝕄) :
    (bigSep Finset.univ fun c => iprop(Φ c ∗ Ψ c)) ⊢ iprop(bigSep Finset.univ Φ ∗ bigSep Finset.univ Ψ) := Entails.of_eq (bigSep_sep' ..)
/-- Pairs over the devices come together. -/
theorem zip (Φ Ψ : Dev nD → sProp 𝕄) :
    iprop(bigSep Finset.univ Φ ∗ bigSep Finset.univ Ψ) ⊢ bigSep Finset.univ fun c => iprop(Φ c ∗ Ψ c) := Entails.of_eq (bigSep_sep' ..).symm

/-- All devices' launch holdings together make every device's beginning. -/
theorem init (I : Ins F) :
    iprop((bigSep Finset.univ fun c : Dev nD => iprop(unscopedBufs c (fun b => m ((c : Thread nD τ).loc b)) ∗ unscopedSems0 c
          ∗ owes (c : Thread nD τ) (D7 c) ∅ ∗ Pipeline.launchCred D7 c ∗ prngReg c (ρ c) ∗ G c)) ∗ levAts L lv)
      ⊢ (|={Set.univ}=> bigSep Finset.univ (T₀ m I) : sProp 𝕄) := by
  have hcore (c : Dev nD) : iprop(unscopedBufs c (fun b => m ((c : Thread nD τ).loc b)) ∗ unscopedSems0 c
        ∗ owes (c : Thread nD τ) (D7 c) ∅ ∗ Pipeline.launchCred D7 c ∗ prngReg c (ρ c) ∗ G c)
      ⊢ (iprop((unscopedBufs c (fun b => m ((c : Thread nD τ).loc b)) ∗ creds c ∗ owes (c : Thread nD τ) (D7 c) ∅)
          ∗ (semVal (kcell c 0) 0 ∗ G c)) : sProp 𝕄) := by
    rw [unscopedSems0_eq]
    iintro ⟨Hh, Hus, HO, Hcr, -, HG⟩
    ihave Hc := (launch_creds (F := F) c) $$ Hcr
    isplitl [Hh Hc HO]
    · isplitl [Hh]; · iexact Hh
      isplitl [Hc] <;> iassumption
    isplitl [Hus] <;> iassumption
  have hv : bigSep Finset.univ (fun c : Dev nD => (semVal (kcell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kcell c 0) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bars :=
    Entails.of_eq (bigSep_map (s := Finset.univ) barEmb (Φ := fun g : GSem nD τ sig => (reached ER g 0 : sProp 𝕄)))
  have hinv (κ : GSem nD τ sig → ℕ) : bigSep (barCells ∪ scCells) (fun g => (cellInv ER (Rd I) (κ g) g : sProp 𝕄)) ⊢ invs I κ :=
    Entails.of_eq (by rw [cells_union, bigSep_map]; rfl)
  iintro ⟨H, -⟩
  ihave H' := (show (bigSep Finset.univ fun c : Dev nD => iprop(unscopedBufs c (fun b => m ((c : Thread nD τ).loc b)) ∗ unscopedSems0 c
        ∗ owes (c : Thread nD τ) (D7 c) ∅ ∗ Pipeline.launchCred D7 c ∗ prngReg c (ρ c) ∗ G c))
      ⊢ (bigSep Finset.univ fun c : Dev nD => iprop((unscopedBufs c (fun b => m ((c : Thread nD τ).loc b)) ∗ creds c ∗ owes (c : Thread nD τ) (D7 c) ∅)
          ∗ (semVal (kcell c 0) 0 ∗ G c)) : sProp 𝕄) from bigSep_mono fun c _ => hcore c) $$ H
  ihave H2 := (unzip _ _) $$ H'; icases H2 with ⟨HB, H3⟩
  ihave H4 := (unzip _ _) $$ H3; icases H4 with ⟨Hv, HG⟩
  ihave Hu := (Entails.of_eq (G_eq (F := F))) $$ HG
  imod (Rounds.fund_launch ER (Rd I) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := iprop(invs I κ ∗ bars)) (Φ := fun c => iprop((atPos ER (kcell c 0) 0 ∅ 0 ∗ opens c ∗ dues c)
      ∗ (unscopedBufs c (fun b => m ((c : Thread nD τ).loc b)) ∗ creds c ∗ owes (c : Thread nD τ) (D7 c) ∅))) fun c _ => T₀_intro m I κ c)
  isplitr
  · isplitr; · iapply (hinv κ) $$ Hinv
    iapply hre $$ Hr
  iapply (zip _ _)
  isplitr [HB]
  · iapply (zip _ _); isplitl [Hat]; · iapply hat $$ Hat
    iapply (zip _ _); isplitl [Hopen]; · iapply (Entails.of_eq (opens_eq (F := F))) $$ Hopen
    iapply (Entails.of_eq (toks_dues (F := F))) $$ Htok
  · iexact HB

end Cert.Proof
-- ==== Proof.Body.lean ====
/- The parts of the body. -/
module

public import proofs.«01_k».proof.Proof.Run
public import proofs.«01_k».proof.Proof.Ghost
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

open Idealize.ShloMosaic.Pipeline (Dat Cfg BodyObligation cellOf)

local notation "𝕄" => MT nD τ sig Unit (Elt F) ℕ UU ℕ

/-!
# The body of the kernel as the pipeline asks for it

The contents of the buffers before, between and after the host operations, what the kernel holds on entry and on exit, and the
obligation that the body takes one to the other.
-/

variable (m : (ℓ : Loc nD τ sig) → Buf (Elt F) ℓ)

/-- Core `c`'s buffers at launch. -/
def V₀ (c : Dev nD) : Valuation τ sig (Elt F) := fun b => m (c, b)

/-- Core `c`'s buffers when the kernel is entered. -/
def V₁ (c : Dev nD) : Valuation τ sig (Elt F) := StableHlo.after hostOps0 (V₀ m c)

/-- What the kernel reads on each device. -/
def ins : Ins F where
  X c := V₁ m c (Proc.devRef .tc main_v4)
  WQ c := V₁ m c (Proc.devRef .tc main_v5)
  WO c := V₁ m c (Proc.devRef .tc main_v6)
  KE c := V₁ m c (Proc.devRef .tc main_arg2)
  VE c := V₁ m c (Proc.devRef .tc main_arg3)

/-- Core `c`'s buffers when the kernel has ended. -/
def V₂ (c : Dev nD) : Valuation τ sig (Elt F) := Function.update (V₁ m c) (Proc.devRef .tc main_v7) (outOf (ins m) c)

/-- The eight shares of the keys that the copies of the keys read through. -/
def kToks (c : Dev nD) (f : Vec F S4x2048x32x128 .f32) : sProp 𝕄 :=
  iprop(pt kM c (Transfers.shareTokN fullShare 14) f
    ∗ pt kM c (Transfers.shareTokN fullShare 15) f
    ∗ pt kM c (Transfers.shareTokN fullShare 16) f
    ∗ pt kM c (Transfers.shareTokN fullShare 17) f
    ∗ pt kM c (Transfers.shareTokN fullShare 18) f
    ∗ pt kM c (Transfers.shareTokN fullShare 19) f
    ∗ pt kM c (Transfers.shareTokN fullShare 20) f
    ∗ pt kM c (Transfers.shareTokN fullShare 21) f)

/-- The eight shares of the values that the copies of the values read through. -/
def vToks (c : Dev nD) (f : Vec F S4x2048x32x128 .f32) : sProp 𝕄 :=
  iprop(pt vM c (Transfers.shareTokN fullShare 22) f
    ∗ pt vM c (Transfers.shareTokN fullShare 23) f
    ∗ pt vM c (Transfers.shareTokN fullShare 24) f
    ∗ pt vM c (Transfers.shareTokN fullShare 25) f
    ∗ pt vM c (Transfers.shareTokN fullShare 26) f
    ∗ pt vM c (Transfers.shareTokN fullShare 27) f
    ∗ pt vM c (Transfers.shareTokN fullShare 28) f
    ∗ pt vM c (Transfers.shareTokN fullShare 29) f)

/-- The counters of the copies of the keys at zero. -/
def kSems (c : Dev nD) : sProp 𝕄 :=
  iprop(semVal ((c : Thread nD τ), .dma kS0) 0
    ∗ semVal ((c : Thread nD τ), .dma kS1) 0
    ∗ semVal ((c : Thread nD τ), .dma kS2) 0
    ∗ semVal ((c : Thread nD τ), .dma kS3) 0
    ∗ semVal ((c : Thread nD τ), .dma kS4) 0
    ∗ semVal ((c : Thread nD τ), .dma kS5) 0
    ∗ semVal ((c : Thread nD τ), .dma kS6) 0
    ∗ semVal ((c : Thread nD τ), .dma kS7) 0)

/-- The counters of the copies of the values at zero. -/
def vSems (c : Dev nD) : sProp 𝕄 :=
  iprop(semVal ((c : Thread nD τ), .dma vS0) 0
    ∗ semVal ((c : Thread nD τ), .dma vS1) 0
    ∗ semVal ((c : Thread nD τ), .dma vS2) 0
    ∗ semVal ((c : Thread nD τ), .dma vS3) 0
    ∗ semVal ((c : Thread nD τ), .dma vS4) 0
    ∗ semVal ((c : Thread nD τ), .dma vS5) 0
    ∗ semVal ((c : Thread nD τ), .dma vS6) 0
    ∗ semVal ((c : Thread nD τ), .dma vS7) 0)

/-- The eight scratch buffers at any contents. -/
def scr (c : Dev nD) : sProp 𝕄 :=
  iprop((∃ f, pt flM c fullShare f)
    ∗ (∃ f, pt frM c fullShare f)
    ∗ (∃ f, pt kscM c fullShare f)
    ∗ (∃ f, pt vscM c fullShare f)
    ∗ (∃ f, pt fstM c fullShare f)
    ∗ (∃ f, pt qscM c fullShare f)
    ∗ (∃ f, pt ctxM c fullShare f)
    ∗ (∃ f, pt mskM c fullShare f))

/-- What is left of a buffer once the numbered shares `t` have been lent. -/
def kept {sp : Space} {s : Shape} {e : EltTy} (M : Memref sig .tc sp s e) (t : Finset ℕ) (c : Dev nD) (f : Buf (Elt F) (M.view.loc (c : Thread nD τ))) : sProp 𝕄 :=
  iprop(pt M c (Transfers.shareDrop fullShare 30) f
    ∗ bigSep (Finset.range 30 \ t) (fun i => pt M c (Transfers.shareTokN fullShare i) f))

/-- Three conjuncts, the middle one moved to the end. -/
theorem regroup (P Q R : sProp 𝕄) : iprop(P ∗ Q ∗ R) = iprop((P ∗ R) ∗ Q) := by
  have h1 : iprop(P ∗ Q ∗ R) ⊢ iprop((P ∗ R) ∗ Q) := by
    iintro ⟨H1, H2, H3⟩; isplitr [H2]
    · isplitl [H1] <;> iassumption
    · iexact H2
  have h2 : iprop((P ∗ R) ∗ Q) ⊢ iprop(P ∗ Q ∗ R) := by
    iintro ⟨⟨H1, H2⟩, H3⟩; isplitl [H1]; (· iexact H1); isplitl [H3] <;> iassumption
  exact BI.equiv_iff.mp ⟨h1, h2⟩

/-- A buffer held whole is what is kept of it and the shares lent. -/
theorem lend {sp : Space} {s : Shape} {e : EltTy} (M : Memref sig .tc sp s e) (t : Finset ℕ) (ht : t ⊆ Finset.range 30) (c : Dev nD) (f : Buf (Elt F) (M.view.loc (c : Thread nD τ))) :
    (pt M c fullShare f : sProp 𝕄)
      = iprop(kept M t c f ∗ bigSep t (fun i => pt M c (Transfers.shareTokN fullShare i) f)) := by
  have e : (pt M c fullShare f : sProp 𝕄) = iprop(pt M c (Transfers.shareDrop fullShare 30) f
      ∗ bigSep (Finset.range 30) (fun i => pt M c (Transfers.shareTokN fullShare i) f)) :=
    BI.equiv_iff.mp ⟨(Transfers.pointsTo_toks_range fullShare 30).1, (Transfers.pointsTo_toks_range fullShare 30).2⟩
  rw [e, BI.bigSep_sdiff_split ht]
  unfold kept
  exact regroup _ _ _

/-- The shares of the keys' buffer. -/
theorem kM_split (c : Dev nD) (f : Vec F S4x2048x32x128 .f32) :
    (pt kM c fullShare f : sProp 𝕄) = iprop(kept kM {14, 15, 16, 17, 18, 19, 20, 21} c f ∗ kToks c f) := by
  rw [lend kM {14, 15, 16, 17, 18, 19, 20, 21} (by decide) c f,
    bigSep_eq_bigSepL_of_eq [14, 15, 16, 17, 18, 19, 20, 21] (by decide) (by decide)]
  simp only [bigSepL_cons_cons, bigSepL_singleton]
  rfl

/-- The shares of the values' buffer. -/
theorem vM_split (c : Dev nD) (f : Vec F S4x2048x32x128 .f32) :
    (pt vM c fullShare f : sProp 𝕄) = iprop(kept vM {22, 23, 24, 25, 26, 27, 28, 29} c f ∗ vToks c f) := by
  rw [lend vM {22, 23, 24, 25, 26, 27, 28, 29} (by decide) c f,
    bigSep_eq_bigSepL_of_eq [22, 23, 24, 25, 26, 27, 28, 29] (by decide) (by decide)]
  simp only [bigSepL_cons_cons, bigSepL_singleton]
  rfl

/-- A whole buffer, as a view and as a reference. -/
theorem pt_whole (b : Ref sig .tc) (c : Dev nD) (q : PosShare TreeShare) (f : Buf (Elt F) ((c : Thread nD τ).loc b)) :
    (pt (Memref.whole b) c q f : sProp 𝕄) = iprop(((c : Thread nD τ).loc b) ↦{q} f) :=
  congrArg (fun S => (((c : Thread nD τ).loc b) ↦[S]{q} f : sProp 𝕄)) (View.set_whole b)

/-- A whole buffer at any contents, as a reference and as a view. -/
theorem any_whole (b : Ref sig .tc) (c : Dev nD) :
    (iprop(∃ f : Buf (Elt F) ((c : Thread nD τ).loc b), ((c : Thread nD τ).loc b) ↦{fullShare} f) : sProp 𝕄)
      = iprop(∃ f, pt (Memref.whole b) c fullShare f) :=
  congrArg BIBase.exists (funext fun f => (pt_whole b c fullShare f).symm)

/-- The kernel's scratch buffers are `scr`. -/
theorem scr_eq (c : Dev nD) : (Pipeline.scopedRest (Val := Elt F) spec0 c : sProp 𝕄) = scr c := by
  refine (scopedRest0_eq c).trans ?_
  unfold scr
  exact congrArg₂ BI.sep (any_whole cc0_scratch0 c) (congrArg₂ BI.sep (any_whole cc0_scratch1 c) (congrArg₂ BI.sep (any_whole cc0_scratch2 c) (congrArg₂ BI.sep (any_whole cc0_scratch3 c) (congrArg₂ BI.sep (any_whole cc0_scratch4 c) (congrArg₂ BI.sep (any_whole cc0_scratch5 c) (congrArg₂ BI.sep (any_whole cc0_scratch6 c) (any_whole cc0_scratch7 c)))))))

/-- What the kernel takes in beside its windows and its scratch buffers. -/
def entered (c : Dev nD) : sProp 𝕄 :=
  iprop((∃ κ, opened (ins m) κ c) ∗ levAts L lv ∗ kToks c ((ins m).KE c) ∗ vToks c ((ins m).VE c) ∗ kSems c ∗ vSems c)

/-- What the kernel gives back beside its windows, its own counters and its scratch buffers. -/
def left (c : Dev nD) : sProp 𝕄 :=
  iprop(semVal (kcell c 0) 0 ∗ kToks c ((ins m).KE c) ∗ vToks c ((ins m).VE c))

/-- The carried state before and after the one grid point. -/
def Φ0 (c : Dev nD) (t : Fin (cfg0.N + 1)) : sProp 𝕄 :=
  if t.val = 0 then iprop(entered m c ∗ scr c) else iprop(left m c ∗ (zeros c ∗ kSems c ∗ vSems c) ∗ scr c)

/-- The pipeline's data: the arrays at entry, what the body leaves in each window, the carried state and the debts. -/
def dat0 (c : Dev nD) : Pipeline.Dat τ (Elt F) Unit ℕ UU ℕ cfg0 c where
  A w := V₁ m c (Proc.devRef .tc (Pipeline.arrRef spec0 w))
  after w _ := match w with
    | ⟨0, _⟩ => (ins m).X c
    | ⟨1, _⟩ => (ins m).WQ c
    | ⟨2, _⟩ => (ins m).WO c
    | ⟨3, _⟩ => outOf (ins m) c
  Φ := Φ0 m c
  q _ := fullShare
  owed t := if t.val = 0 then D7 c else 0

end Cert.Proof
-- ==== Proof.Step.lean ====
/- One device runs the body: what it takes in and what it gives back. -/
module

public import proofs.«01_k».proof.Proof.Body

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

open Idealize.ShloMosaic.Pipeline (Dat Cfg BodyObligation cellOf)

local notation "𝕄" => MT nD τ sig Unit (Elt F) ℕ UU ℕ

variable (m : (ℓ : Loc nD τ sig) → Buf (Elt F) ℓ)

/-- One device's run of the body: from what it takes in to what it gives back, its own cells closed again. -/
theorem step (c : Dev nD) (h0 : xM.IsWhole) (h1 : wqM.IsWhole) (h2 : woM.IsWhole) (h3 : kM.IsWhole) (h4 : vM.IsWhole) (h5 : outM.IsWhole) (h6 : flM.IsWhole) (h7 : frM.IsWhole) (h8 : kscM.IsWhole) (h9 : vscM.IsWhole) (h10 : fstM.IsWhole) (h11 : qscM.IsWhole) (h12 : ctxM.IsWhole) (h13 : mskM.IsWhole) (W : Waits sig Unit) (go : Vec F S2048x1024 .f32) :
    iprop(entered m c ∗ scr c ∗ owes (c : Thread nD τ) (D7 c) W ∗ pt xM c fullShare ((ins m).X c) ∗ pt wqM c fullShare ((ins m).WQ c)
      ∗ pt woM c fullShare ((ins m).WO c) ∗ pt outM c fullShare go)
    ⊢ wp Idealize.ShloMosaic.frame (wpE (defs₀ (F := F)) 𝒱₀ (c : Thread nD τ) none) Set.univ (bodyS (F := F) h0 h1 h2 h3 h4 h5 h6 h7 h8 h9 h10 h11 h12 h13) (fun _ =>
      iprop(left m c ∗ (zeros c ∗ kSems c ∗ vSems c) ∗ scr c ∗ (∃ W', owes (c : Thread nD τ) 0 W') ∗ pt xM c fullShare ((ins m).X c)
        ∗ pt wqM c fullShare ((ins m).WQ c) ∗ pt woM c fullShare ((ins m).WO c) ∗ pt outM c fullShare (outOf (ins m) c))) := by
  unfold entered opened places begun dues creds scr left
  iintro ⟨⟨⟨%κ, #Hinv, #Hbar, HaB, ⟨Ha1, Ha2, Ha3, Ha4, Ha5, Ha6, Ha7, Ha8, Ha9, Ha10⟩,
      ⟨#Hb1, #Hb2, #Hb3, #Hb4, #Hb5, #Hb6, #Hb7, #Hb8, #Hb9, #Hb10⟩, ⟨Hd0, Hd1, Hd2, Hd3, Hd4, Hd5, Hd6, Hd7, Hd8, Hd9, Hd10, Hd11⟩, ⟨Hc0, Hc6, Hc7, Hc8, Hc9, Hc10⟩⟩, #Hlev, HK, HV, HSK, HSV⟩,
    ⟨⟨%ffl, Hfl⟩, ⟨%ffr, Hfr⟩, ⟨%gk, Hksc⟩, ⟨%gv, Hvsc⟩, ⟨%gf, Hfst⟩, ⟨%gq, Hqsc⟩, ⟨%gc, Hctx⟩, ⟨%gm, Hmsk⟩⟩, HO, Hx, Hwq, Hwo, Hout⟩
  iapply wp_fupd
  iapply (wp_wand _ _ _) $$ [HaB Ha1 Ha2 Ha3 Ha4 Ha5 Ha6 Ha7 Ha8 Ha9 Ha10 Hd0 Hd1 Hd2 Hd3 Hd4 Hd5 Hd6 Hd7 Hd8 Hd9 Hd10 Hd11 Hc0 Hc6 Hc7 Hc8 Hc9 Hc10 HK HV HSK HSV Hfl Hfr Hksc Hvsc Hfst Hqsc Hctx Hmsk HO Hx Hwq Hwo Hout]
  · iapply (run (ins m) κ c h0 h1 h2 h3 h4 h5 h6 h7 h8 h9 h10 h11 h12 h13 W gm gk gv gf gq gc go (mayWait_low c))
    unfold kToks vToks kSems vSems
    icases HK with ⟨Hk0, Hk1, Hk2, Hk3, Hk4, Hk5, Hk6, Hk7⟩
    icases HV with ⟨Hv0, Hv1, Hv2, Hv3, Hv4, Hv5, Hv6, Hv7⟩
    icases HSK with ⟨Hsk0, Hsk1, Hsk2, Hsk3, Hsk4, Hsk5, Hsk6, Hsk7⟩
    icases HSV with ⟨Hsv0, Hsv1, Hsv2, Hsv3, Hsv4, Hsv5, Hsv6, Hsv7⟩
    isplitr; · iexact Hlev
    isplitr; · iexact Hinv
    isplitr; · iexact Hbar
    isplitl [HO]; · iexact HO
    isplitl [Hd0]; · iexact Hd0
    isplitl [Hd1]; · iexact Hd1
    isplitl [Hfl]; · iexists _; iexact Hfl
    isplitl [Hfr]; · iexists _; iexact Hfr
    isplitr
    · isplitr; · iexact Hb6
      isplitr; · iexact Hb7
      isplitr; · iexact Hb8
      isplitr; · iexact Hb9
      iexact Hb10
    isplitl [Hc0]; · iexact Hc0
    isplitl [HaB]; · iexact HaB
    isplitl [Hd2 Hd7]
    · isplitl [Hd2]; · iexact Hd2
      isplitr; · iexact Hb1
      iexact Hd7
    isplitl [Hd3 Hd8]
    · isplitl [Hd3]; · iexact Hd3
      isplitr; · iexact Hb2
      iexact Hd8
    isplitl [Hd5 Hd10]
    · isplitl [Hd5]; · iexact Hd5
      isplitr; · iexact Hb4
      iexact Hd10
    isplitl [Hd6 Hd11]
    · isplitl [Hd6]; · iexact Hd6
      isplitr; · iexact Hb5
      iexact Hd11
    isplitl [Hd4 Hd9]
    · isplitl [Hd4]; · iexact Hd4
      isplitr; · iexact Hb3
      iexact Hd9
    isplitl [Hc6 Hc7 Hc8 Hc9 Hc10]
    · isplitl [Hc6]; · iexact Hc6
      isplitl [Hc7]; · iexact Hc7
      isplitl [Hc8]; · iexact Hc8
      isplitl [Hc9]; · iexact Hc9
      iexact Hc10
    isplitl [Ha1 Ha2 Ha3 Ha4 Ha5 Ha6 Ha7 Ha8 Ha9 Ha10]
    · isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      iexact Ha10
    isplitl [Hx]; · iexact Hx
    isplitl [Hwq]; · iexact Hwq
    isplitl [Hwo]; · iexact Hwo
    isplitl [Hout]; · iexact Hout
    isplitl [Hmsk]; · iexact Hmsk
    isplitl [Hksc]; · iexact Hksc
    isplitl [Hvsc]; · iexact Hvsc
    isplitl [Hfst]; · iexact Hfst
    isplitl [Hqsc]; · iexact Hqsc
    isplitl [Hctx]; · iexact Hctx
    isplitl [Hk0 Hk1 Hk2 Hk3 Hk4 Hk5 Hk6 Hk7]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      iexact Hk7
    isplitl [Hv0 Hv1 Hv2 Hv3 Hv4 Hv5 Hv6 Hv7]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    isplitl [Hsk0 Hsk1 Hsk2 Hsk3 Hsk4 Hsk5 Hsk6 Hsk7]
    · isplitl [Hsk0]; · iexact Hsk0
      isplitl [Hsk1]; · iexact Hsk1
      isplitl [Hsk2]; · iexact Hsk2
      isplitl [Hsk3]; · iexact Hsk3
      isplitl [Hsk4]; · iexact Hsk4
      isplitl [Hsk5]; · iexact Hsk5
      isplitl [Hsk6]; · iexact Hsk6
      iexact Hsk7
    isplitl [Hsv0]; · iexact Hsv0
    isplitl [Hsv1]; · iexact Hsv1
    isplitl [Hsv2]; · iexact Hsv2
    isplitl [Hsv3]; · iexact Hsv3
    isplitl [Hsv4]; · iexact Hsv4
    isplitl [Hsv5]; · iexact Hsv5
    isplitl [Hsv6]; · iexact Hsv6
    iexact Hsv7
  iintro %a ⟨HO, Hx, Hwq, Hwo, Hout, Hscr, Hat, HK, HV, HSK, HSV⟩
  imod (close_all (ins m) κ c) $$ [Hat] with ⟨Hs0, Hz⟩
  · isplitr; · iexact Hinv
    iexact Hat
  imodintro
  unfold kToks vToks kSems vSems
  isplitl [Hs0 HK HV]
  · isplitl [Hs0]; · iexact Hs0
    isplitl [HK]; · iexact HK
    iexact HV
  isplitl [Hz HSK HSV]
  · isplitl [Hz]; · iexact Hz
    isplitl [HSK]; · iexact HSK
    iexact HSV
  isplitl [Hscr]; · iexact Hscr
  isplitl [HO]; · iexact HO
  isplitl [Hx]; · iexact Hx
  isplitl [Hwq]; · iexact Hwq
  isplitl [Hwo]; · iexact Hwo
  iexact Hout

end Cert.Proof
-- ==== Proof.Obligation.lean ====
/- The body as the call needs it. -/
module

public import proofs.«01_k».proof.Proof.Step

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

open Idealize.ShloMosaic.Pipeline (Dat Cfg BodyObligation cellOf)

local notation "𝕄" => MT nD τ sig Unit (Elt F) ℕ UU ℕ

/-!
# The kernel's region of the program

The obligation of the body in the pipeline's own form, and the region: how the buffers held at entry are dealt to the pipeline and to
the kernel, and how they come back at exit.
-/

variable (m : (ℓ : Loc nD τ sig) → Buf (Elt F) ℓ)

/-- What a device owes, as the call counts it at a step. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound
  rw [h0, hr]
  iintro HO
  iexists W
  isplitr
  · ipureintro; exact fun _ _ => Or.inl trivial
  · iexact HO

/-- What the call counts as owed at a step, as the device owes it. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

/-- Before the body a device owes everything. -/
theorem owed_first (c : Dev nD) : (dat0 m c).owed 0 = D7 c := by
  show (if ((0 : Fin (cfg0.N + 1)).val = 0) then D7 c else 0) = D7 c
  exact if_pos rfl

/-- After the body a device owes nothing. -/
theorem owed_last (c : Dev nD) : (dat0 m c).owed (Fin.last cfg0.N) = 0 := by
  show (if (Fin.last cfg0.N).val = 0 then D7 c else 0) = 0
  rw [Fin.val_last, if_neg (by rw [show cfg0.N = 1 from N_0]; decide)]

/-- A window of the kernel holds what its array held at entry. -/
theorem before0 (c : Dev nD) (d) : (dat0 m c).before 0 t0_0 d = (ins m).X c := by
  unfold Pipeline.Dat.before
  rw [if_pos (by decide)]
  funext j
  refine congrArg (V₁ m c (Proc.devRef .tc main_v4)) ?_
  funext a
  apply Fin.ext
  exact Pipeline.Window.rect_emb_val_of_index_zero (cfg0.win 0) t0_0 a rfl j

/-- Before the body the second staged block is Wq. -/
theorem before1 (c : Dev nD) (d) : (dat0 m c).before 1 t0_0 d = (ins m).WQ c := by
  unfold Pipeline.Dat.before
  rw [if_pos (by decide)]
  funext j
  refine congrArg (V₁ m c (Proc.devRef .tc main_v5)) ?_
  funext a
  apply Fin.ext
  exact Pipeline.Window.rect_emb_val_of_index_zero (cfg0.win 1) t0_0 a rfl j

/-- Before the body the third staged block is Wo. -/
theorem before2 (c : Dev nD) (d) : (dat0 m c).before 2 t0_0 d = (ins m).WO c := by
  unfold Pipeline.Dat.before
  rw [if_pos (by decide)]
  funext j
  refine congrArg (V₁ m c (Proc.devRef .tc main_v6)) ?_
  funext a
  apply Fin.ext
  exact Pipeline.Window.rect_emb_val_of_index_zero (cfg0.win 2) t0_0 a rfl j

/-- A whole buffer owned at a reading is the buffer at those contents. -/
theorem owns_pt (b : Ref sig .tc) (c : Dev nD) (X : b.ty.Contents (Elt F)) :
    (owns (c : Thread nD τ) (Memref.whole b) fullShare X : sProp 𝕄) = pt (Memref.whole b) c fullShare X :=
  (owns_whole (c : Thread nD τ) b fullShare X).trans (pt_whole b c fullShare X).symm

/-- A whole buffer owned is its elements held. -/
theorem to_pt (b : Ref sig .tc) (c : Dev nD) (X : b.ty.Contents (Elt F)) :
    (owns (c : Thread nD τ) (Memref.whole b) fullShare X : sProp 𝕄) ⊢ pt (Memref.whole b) c fullShare X := by
  rw [owns_pt]

/-- A whole buffer's elements held is the buffer owned. -/
theorem from_pt (b : Ref sig .tc) (c : Dev nD) (X : b.ty.Contents (Elt F)) :
    (pt (Memref.whole b) c fullShare X : sProp 𝕄) ⊢ owns (c : Thread nD τ) (Memref.whole b) fullShare X := by
  rw [owns_pt]

/-- The program's body at the one grid point is the parts in order. -/
theorem body_eq : (bodyAt0 (F := F) t0_0) = bodyS (Memref.isWhole_whole _) (Memref.isWhole_whole _) (Memref.isWhole_whole _)
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _)
    (Memref.isWhole_whole _) := by
  unfold bodyAt0
  rw [cc0_body_eq_skeleton]
  rfl

set_option maxRecDepth 4000 in
/-- The body takes the carried state and the windows from before the grid point to after it. -/
theorem body_obligation (c : Dev nD) : BodyObligation (dat0 m c) (defs₀ (F := F)) 𝒱₀ () Set.univ := fun t => by
  obtain rfl := fin_N0 t
  rw [bigSep_W0, bigSep_W0]
  rw [show (dat0 m c).Φ t0_0.castSucc = iprop(entered m c ∗ scr c) from rfl,
    show (dat0 m c).Φ t0_0.succ = iprop(left m c ∗ (zeros c ∗ kSems c ∗ vSems c) ∗ scr c) from rfl]
  show _ ⊢ wp Idealize.ShloMosaic.frame (wpE (defs₀ (F := F)) 𝒱₀ (c : Thread nD τ) none) Set.univ (bodyAt0 (F := F) t0_0) _
  rw [body_eq]
  iintro ⟨⟨HE, Hscr⟩, HO, ⟨%d0, H0⟩, ⟨%d1, H1⟩, ⟨%d2, H2⟩, ⟨%d3, H3⟩⟩
  ihave HO := (owesAt_elim (dat0 m c) t0_0.castSucc (D7 c) (owed_first m c)) $$ HO
  icases HO with ⟨%W, HO⟩
  iapply (wp_wand _ _ _) $$ [HE Hscr HO H0 H1 H2 H3]
  · iapply (step m c (Memref.isWhole_whole _) (Memref.isWhole_whole _) (Memref.isWhole_whole _)
      (Memref.isWhole_whole _) (Memref.isWhole_whole _) (Memref.isWhole_whole _) (Memref.isWhole_whole _) (Memref.isWhole_whole _)
      (Memref.isWhole_whole _) (Memref.isWhole_whole _) (Memref.isWhole_whole _) (Memref.isWhole_whole _) (Memref.isWhole_whole _)
      (Memref.isWhole_whole _) W ((dat0 m c).before 3 t0_0 d3))
    isplitl [HE]; · iexact HE
    isplitl [Hscr]; · iexact Hscr
    isplitl [HO]; · iexact HO
    rw [← before0 m c d0, ← before1 m c d1, ← before2 m c d2]
    isplitl [H0]; · iapply (to_pt cc0_stg0_0 c _) $$ H0
    isplitl [H1]; · iapply (to_pt cc0_stg1_0 c _) $$ H1
    isplitl [H2]; · iapply (to_pt cc0_stg2_0 c _) $$ H2
    iapply (to_pt cc0_stg3_0 c _) $$ H3
  iintro %a ⟨HL, HZ, Hscr, ⟨%W', HO⟩, H0, H1, H2, H3⟩
  isplitl [HL HZ Hscr]
  · isplitl [HL]; · iexact HL
    isplitl [HZ]; · iexact HZ
    iexact Hscr
  isplitl [HO]
  · iapply (owesAt_intro (dat0 m c) t0_0.succ 0 (owed_last m c) W' rfl) $$ HO
  isplitl [H0]; · iapply (from_pt cc0_stg0_0 c _) $$ H0
  isplitl [H1]; · iapply (from_pt cc0_stg1_0 c _) $$ H1
  isplitl [H2]; · iapply (from_pt cc0_stg2_0 c _) $$ H2
  iapply (from_pt cc0_stg3_0 c _) $$ H3

end Cert.Proof
-- ==== Proof.Region.lean ====
/- The call within the program. -/
module

public import proofs.«01_k».proof.Proof.Obligation

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

open Idealize.ShloMosaic.Pipeline (Dat Cfg BodyObligation cellOf)

local notation "𝕄" => MT nD τ sig Unit (Elt F) ℕ UU ℕ

variable (m : (ℓ : Loc nD τ sig) → Buf (Elt F) ℓ)

/-- The kernel's own counters: the ten of the transfers between devices, then the sixteen of the local copies. -/
def osem26 : Fin 26 → SemLoc sig := ![osem 1, osem 2, osem 3, osem 4, osem 5, osem 6, osem 7, osem 8, osem 9, osem 10, .dma kS0, .dma kS1, .dma kS2, .dma kS3, .dma kS4, .dma kS5, .dma kS6, .dma kS7, .dma vS0, .dma vS1, .dma vS2, .dma vS3, .dma vS4, .dma vS5, .dma vS6, .dma vS7]

/-- The kernel's own counters at zero, one by one. -/
theorem own_eq (c : Dev nD) : (Pipeline.ownSems0 osem26 c : sProp 𝕄) = iprop(semVal (kcell c 1) 0 ∗ semVal (kcell c 2) 0 ∗ semVal (kcell c 3) 0 ∗ semVal (kcell c 4) 0 ∗ semVal (kcell c 5) 0 ∗ semVal (kcell c 6) 0 ∗ semVal (kcell c 7) 0 ∗ semVal (kcell c 8) 0 ∗ semVal (kcell c 9) 0 ∗ semVal (kcell c 10) 0 ∗ semVal ((c : Thread nD τ), .dma kS0) 0 ∗ semVal ((c : Thread nD τ), .dma kS1) 0 ∗ semVal ((c : Thread nD τ), .dma kS2) 0 ∗ semVal ((c : Thread nD τ), .dma kS3) 0 ∗ semVal ((c : Thread nD τ), .dma kS4) 0 ∗ semVal ((c : Thread nD τ), .dma kS5) 0 ∗ semVal ((c : Thread nD τ), .dma kS6) 0 ∗ semVal ((c : Thread nD τ), .dma kS7) 0 ∗ semVal ((c : Thread nD τ), .dma vS0) 0 ∗ semVal ((c : Thread nD τ), .dma vS1) 0 ∗ semVal ((c : Thread nD τ), .dma vS2) 0 ∗ semVal ((c : Thread nD τ), .dma vS3) 0 ∗ semVal ((c : Thread nD τ), .dma vS4) 0 ∗ semVal ((c : Thread nD τ), .dma vS5) 0 ∗ semVal ((c : Thread nD τ), .dma vS6) 0 ∗ semVal ((c : Thread nD τ), .dma vS7) 0) :=
  (Pipeline.ownSems0_eq_of_list c osem26 [0, 1, 2, 3, 4, 5, 6, 7, 8, 9, 10, 11, 12, 13, 14, 15, 16, 17, 18, 19, 20, 21, 22, 23, 24, 25] (by decide) (by decide)).trans rfl

/-- The call's own semaphores: the copy cells, and those of the local copies of K and of V. -/
theorem own_split (c : Dev nD) : (Pipeline.ownSems0 osem26 c : sProp 𝕄) ⊢ iprop(zeros c ∗ kSems c ∗ vSems c) := by
  rw [own_eq]
  unfold zeros kSems vSems
  iintro ⟨H0, H1, H2, H3, H4, H5, H6, H7, H8, H9, H10, H11, H12, H13, H14, H15, H16, H17, H18, H19, H20, H21, H22, H23, H24, H25⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10 H11 H12 H13 H14 H15 H16 H17]
  · isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The same the other way. -/
theorem own_join (c : Dev nD) : iprop(zeros c ∗ kSems c ∗ vSems c) ⊢ (Pipeline.ownSems0 osem26 c : sProp 𝕄) := by
  rw [own_eq]
  unfold zeros kSems vSems
  iintro ⟨⟨H0, H1, H2, H3, H4, H5, H6, H7, H8, H9⟩, ⟨H10, H11, H12, H13, H14, H15, H16, H17⟩, H18, H19, H20, H21, H22, H23, H24, H25⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The one pipeline's configuration, and its data on every device. -/
abbrev adm : (p : Fin 1) → (pcfgs (F := F) p).Adm := fun p => (cfgs p).toPCfg_adm
/-- What is claimed of the program's one call. -/
def pdats : (p : Fin 1) → (c : Dev nD) → Pipeline.Dat τ (Elt F) Unit ℕ UU ℕ (Pipeline.pin (pcfgs (F := F)) adm p) c
  | 0 => dat0 m

local notation "ℝ𝕊" => Pipeline.RegionSeg (pcfgs (F := F)) adm (pdats m) () defs₀ 𝒱₀ L lv

/-- The kernel changes its result's buffer and no other. -/
theorem V₂_ne (c : Dev nD) (b : Ref sig .tc) (h : b ≠ main_v7) : V₂ m c (Proc.devRef .tc b) = V₁ m c (Proc.devRef .tc b) :=
  Function.update_of_ne (fun h' => h (Proc.devRef_injective .tc h')) _ _

/-- After the call its result is the computed output. -/
theorem V₂_self (c : Dev nD) : V₂ m c (Proc.devRef .tc main_v7) = outOf (ins m) c := Function.update_self ..

/-- The windows' arrays when the kernel has ended. -/
theorem arr_last (c : Dev nD) (w : Fin cfg0.W) :
    (dat0 m c).arrAt w cfg0.N = V₂ m c (Proc.devRef .tc (Pipeline.arrRef spec0 w)) := by
  fin_cases w
  · exact ((dat0 m c).arrAt_in 0 rfl _).trans (V₂_ne m c main_v4 (by decide)).symm
  · exact ((dat0 m c).arrAt_in 1 rfl _).trans (V₂_ne m c main_v5 (by decide)).symm
  · exact ((dat0 m c).arrAt_in 2 rfl _).trans (V₂_ne m c main_v6 (by decide)).symm
  · refine (Pipeline.Dat.arrAt_eq_of_after_last (dat := dat0 m c) 3 t0_0 (by decide +kernel) (outOf (ins m) c) ?_).trans
      (V₂_self m c).symm
    intro j
    refine congrArg (outOf (ins m) c) ?_
    funext a
    apply Fin.ext
    rfl

/-- The buffers beside the windows that the kernel does not read. -/
def bypass (c : Dev nD) : sProp 𝕄 :=
  iprop(pt (Memref.whole main_arg0) c fullShare (V₁ m c (Proc.devRef .tc main_arg0)) ∗ pt (Memref.whole main_arg1) c fullShare (V₁ m c (Proc.devRef .tc main_arg1))
    ∗ kept kM {14, 15, 16, 17, 18, 19, 20, 21} c ((ins m).KE c) ∗ kept vM {22, 23, 24, 25, 26, 27, 28, 29} c ((ins m).VE c)
    ∗ pt (Memref.whole main_arg4) c fullShare (V₁ m c (Proc.devRef .tc main_arg4)) ∗ pt (Memref.whole main_v1) c fullShare (V₁ m c (Proc.devRef .tc main_v1))
    ∗ pt (Memref.whole main_cst) c fullShare (V₁ m c (Proc.devRef .tc main_cst)) ∗ pt (Memref.whole main_v2) c fullShare (V₁ m c (Proc.devRef .tc main_v2))
    ∗ pt (Memref.whole main_v3) c fullShare (V₁ m c (Proc.devRef .tc main_v3)) ∗ pt (Memref.whole main_v8) c fullShare (V₁ m c (Proc.devRef .tc main_v8)))

/-- The buffers beside the windows: those not read, what is kept of the keys and values, and the shares of them lent. -/
theorem rest_eq (c : Dev nD) : (Pipeline.unscopedRest spec0 c (fun b => V₁ m c (Proc.devRef .tc b)) : sProp 𝕄)
    = iprop(pt (Memref.whole main_arg0) c fullShare (V₁ m c (Proc.devRef .tc main_arg0)) ∗ pt (Memref.whole main_arg1) c fullShare (V₁ m c (Proc.devRef .tc main_arg1))
    ∗ (kept kM {14, 15, 16, 17, 18, 19, 20, 21} c ((ins m).KE c) ∗ kToks c ((ins m).KE c)) ∗ (kept vM {22, 23, 24, 25, 26, 27, 28, 29} c ((ins m).VE c) ∗ vToks c ((ins m).VE c))
    ∗ pt (Memref.whole main_arg4) c fullShare (V₁ m c (Proc.devRef .tc main_arg4)) ∗ pt (Memref.whole main_v1) c fullShare (V₁ m c (Proc.devRef .tc main_v1))
    ∗ pt (Memref.whole main_cst) c fullShare (V₁ m c (Proc.devRef .tc main_cst)) ∗ pt (Memref.whole main_v2) c fullShare (V₁ m c (Proc.devRef .tc main_v2))
    ∗ pt (Memref.whole main_v3) c fullShare (V₁ m c (Proc.devRef .tc main_v3)) ∗ pt (Memref.whole main_v8) c fullShare (V₁ m c (Proc.devRef .tc main_v8))) := by
  rw [← kM_split, ← vM_split]
  refine (unscopedRest0_eq c _).trans ?_
  exact congrArg₂ BI.sep (pt_whole main_arg0 c fullShare _).symm (congrArg₂ BI.sep (pt_whole main_arg1 c fullShare _).symm
    (congrArg₂ BI.sep (pt_whole main_arg2 c fullShare _).symm (congrArg₂ BI.sep (pt_whole main_arg3 c fullShare _).symm
    (congrArg₂ BI.sep (pt_whole main_arg4 c fullShare _).symm (congrArg₂ BI.sep (pt_whole main_v1 c fullShare _).symm
    (congrArg₂ BI.sep (pt_whole main_cst c fullShare _).symm (congrArg₂ BI.sep (pt_whole main_v2 c fullShare _).symm
    (congrArg₂ BI.sep (pt_whole main_v3 c fullShare _).symm (pt_whole main_v8 c fullShare _).symm))))))))

/-- The buffers outside the call: K and V by heads, and those it does not touch. -/
theorem rest_split (c : Dev nD) : (Pipeline.unscopedRest spec0 c (fun b => V₁ m c (Proc.devRef .tc b)) : sProp 𝕄)
    ⊢ iprop(bypass m c ∗ kToks c ((ins m).KE c) ∗ vToks c ((ins m).VE c)) := by
  rw [rest_eq]
  unfold bypass
  iintro ⟨H0, H1, ⟨H2, HK⟩, ⟨H3, HV⟩, H4, H5, H6, H7, H8, H9⟩
  isplitr [HK HV]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HK] <;> iassumption

/-- The same the other way. -/
theorem rest_join (c : Dev nD) : iprop(bypass m c ∗ kToks c ((ins m).KE c) ∗ vToks c ((ins m).VE c))
    ⊢ (Pipeline.unscopedRest spec0 c (fun b => V₁ m c (Proc.devRef .tc b)) : sProp 𝕄) := by
  rw [rest_eq]
  unfold bypass
  iintro ⟨⟨H0, H1, H2, H3, H4, H5, H6, H7, H8, H9⟩, HK, HV⟩
  isplitl [H0]; · iexact H0
  isplitl [H1]; · iexact H1
  isplitl [H2 HK]; · isplitl [H2] <;> iassumption
  isplitl [H3 HV]; · isplitl [H3] <;> iassumption
  isplitl [H4]; · iexact H4
  isplitl [H5]; · iexact H5
  isplitl [H6]; · iexact H6
  isplitl [H7]; · iexact H7
  isplitl [H8]; · iexact H8
  iexact H9

/-- The buffers held when the kernel is entered, dealt to the pipeline and to the kernel. -/
theorem entry (c : Dev nD) :
    iprop((StableHlo.held (c.tc : Thread nD τ) (Pipeline.ucRefs τ sig) (V₁ m c) ∗ start (ins m) c ∗ ∃ W, owes (c : Thread nD τ) (D7 c) W)
        ∗ Pipeline.ownSems0 osem26 c ∗ levAts L lv)
      ⊢ (|={Set.univ}=> iprop((pdats m 0 c).arrays ((pdats m 0 c).arrAt · 0) ∗ Pipeline.prefHeld (pcfgs (F := F) 0).pre c (fun _ => fullShare) (adm (F := F) 0).1
        ∗ (pdats m 0 c).owesAt () 0 ∗ entered m c ∗ bypass m c) : sProp 𝕄) := by
  have hsplit := Pipeline.arrays_of_unscopedBufs (pcfgs (F := F)) adm (pdats m) launch0.win launch0.arr_whole c
    ((pdats m 0 c).share_full fun _ => rfl) (fun b => V₁ m c (Proc.devRef .tc b)) fun _ => rfl
  rw [← Pipeline.unscopedBufs_held c (V₁ m c)]
  unfold start entered opened
  iintro ⟨⟨Hub, ⟨%κ, #HI, #HB, Ha, Ho, Hd, Hc⟩, ⟨%W, HO⟩⟩, Hs, Hlev⟩
  ihave H := hsplit $$ Hub
  icases H with ⟨Harr, Hr⟩
  ihave H := (rest_split m c) $$ Hr
  icases H with ⟨Hby, HK, HV⟩
  ihave H := (own_split c) $$ Hs
  icases H with ⟨Hz, HSK, HSV⟩
  imod (open_all (ins m) κ c) $$ [Ho Hz] with ⟨Hpl, Hbg⟩
  · isplitr; · iexact HI
    isplitl [Ho] <;> iassumption
  imodintro
  isplitl [Harr]; · iexact Harr
  isplitr
  · unfold Pipeline.prefHeld; rw [show (Finset.univ : Finset (Fin 0)) = ∅ from rfl, BI.bigSep_empty]; iempintro
  isplitl [HO]
  · iapply (owesAt_intro (dat0 m c) 0 (D7 c) (owed_first m c) W rfl) $$ HO
  isplitr [Hby]
  · isplitr [Hlev HK HV HSK HSV]
    · iexists κ
      isplitr; · iexact HI
      isplitr; · iexact HB
      isplitl [Ha]; · iexact Ha
      isplitl [Hpl]; · iexact Hpl
      isplitl [Hbg]; · iexact Hbg
      isplitl [Hd] <;> iassumption
    isplitl [Hlev]; · iexact Hlev
    isplitl [HK]; · iexact HK
    isplitl [HV]; · iexact HV
    isplitl [HSK] <;> iassumption
  iexact Hby

/-- The buffers held when the kernel has ended. -/
theorem exit (c : Dev nD) :
    iprop((pdats m 0 c).arrays ((pdats m 0 c).arrAt · cfg0.N) ∗ (pdats m 0 c).owesAt () (Fin.last cfg0.N) ∗ left m c ∗ bypass m c)
      ⊢ (|={Set.univ}=> iprop(StableHlo.held (c.tc : Thread nD τ) (Pipeline.ucRefs τ sig) (V₂ m c)
        ∗ semVal (kcell c 0) 0 ∗ ∃ W, owes (c : Thread nD τ) 0 W) : sProp 𝕄) := by
  have hjoin := Pipeline.unscopedBufs_of_arrays (pcfgs (F := F)) adm launch0.win launch0.arr_whole c (pdats m)
    ((pdats m 0 c).share_full fun _ => rfl) (fun b => V₁ m c (Proc.devRef .tc b)) (fun b => V₂ m c (Proc.devRef .tc b))
    (fun w => (dat0 m c).arrAt w cfg0.N) (arr_last m c) (fun b hb => V₂_ne m c b fun h => hb (by
      rw [h]; exact Finset.mem_image.mpr ⟨3, Finset.mem_univ _, rfl⟩))
  rw [← Pipeline.unscopedBufs_held c (V₂ m c)]
  unfold left
  iintro ⟨Harr, HO, ⟨Hs, HK, HV⟩, Hby⟩
  ihave HO := (show (pdats m 0 c).owesAt () (Fin.last cfg0.N) ⊢ iprop(∃ W, owes (c : Thread nD τ) 0 W) from
    owesAt_elim (dat0 m c) (Fin.last cfg0.N) 0 (owed_last m c)) $$ HO
  ihave Hr := (rest_join m c) $$ [Hby HK HV]
  · isplitl [Hby]; · iexact Hby
    isplitl [HK] <;> iassumption
  imodintro
  isplitl [Harr Hr]
  · iapply hjoin
    isplitl [Harr]; · iexact Harr
    iexact Hr
  isplitl [Hs]; · iexact Hs
  iexact HO

/-- The kernel's own counters are distinct and none of them is a window's. -/
theorem own_facts : Pipeline.OwnSemFacts (spec0) osem26 := by decide

/-- What the kernel carries when it has ended. -/
theorem Φ_last (c : Dev nD) : (dat0 m c).Φ (Fin.last cfg0.N) = iprop(left m c ∗ (zeros c ∗ kSems c ∗ vSems c) ∗ scr c) := by
  show (if (Fin.last cfg0.N).val = 0 then iprop(entered m c ∗ scr c) else iprop(left m c ∗ (zeros c ∗ kSems c ∗ vSems c) ∗ scr c)) = _
  rw [Fin.val_last, if_neg (by rw [show cfg0.N = 1 from N_0]; decide)]

/-- The kernel's region of the program. -/
def reg0 : ℝ𝕊 0 where
  win := launch0.win.to₀
  block_pos := launch0.block_pos
  stage_whole := launch0.stage_whole
  K := Fin 26
  osem := osem26
  ho := own_facts
  hbody c := (body_obligation m c).loose
  hwaits c := Pipeline.cellsWaits_intro _ (pdats m) () 0 c fun w s t => by
    by_cases ht : t.val = 0
    · rw [show (pdats m 0 c).owed t = D7 c from if_pos ht]
      exact mayWait_stage c _ (by fin_cases w <;> fin_cases s <;> rfl)
    · rw [show (pdats m 0 c).owed t = 0 from if_neg ht, MayWait_zero]
      iintro -
      iempintro
  pre c := iprop(StableHlo.held (c.tc : Thread nD τ) (Pipeline.ucRefs τ sig) (V₁ m c) ∗ start (ins m) c ∗ ∃ W, owes (c : Thread nD τ) (D7 c) W)
  post c := iprop(StableHlo.held (c.tc : Thread nD τ) (Pipeline.ucRefs τ sig) (V₂ m c) ∗ semVal (kcell c 0) 0 ∗ ∃ W, owes (c : Thread nD τ) 0 W)
  X := entered m
  Y := left m
  Z := bypass m
  hentry := entry m
  hin c := by
    show _ ⊢ iprop(entered m c ∗ scr c)
    rw [← scr_eq]
    iintro ⟨HX, -, HS⟩
    isplitl [HX] <;> iassumption
  hout c := by
    show (dat0 m c).Φ (Fin.last cfg0.N) ⊢ iprop(left m c ∗ Pipeline.ownSems0 osem26 c ∗ Pipeline.scopedRest spec0 c)
    rw [Φ_last, ← scr_eq]
    iintro ⟨HY, HZ, HS⟩
    isplitl [HY]; · iexact HY
    isplitl [HZ]; · iapply (own_join c) $$ HZ
    iexact HS
  hexit := exit m

end Cert.Proof
-- ==== Proof.Main.lean ====
/- The program: its segments, its beginning and its end. -/
module

public import proofs.«01_k».proof.Proof.Region

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

open Idealize.ShloMosaic.Pipeline (Dat Cfg BodyObligation cellOf)

local notation "𝕄" => MT nD τ sig Unit (Elt F) ℕ UU ℕ

/-!
# The run of the whole program

The host operations before the kernel, the kernel, and the reshape after it, launched together. Every fair run ends; the arguments
are unchanged, the result of every device is the reshape of `outOf` of what the devices were given, and every counter is zero again.
-/

variable (m : (ℓ : Loc nD τ sig) → Buf (Elt F) ℓ) (ρ : Dev nD → PrngReg)

local notation "ℝ𝕊" => Pipeline.RegionSeg (pcfgs (F := F)) adm (pdats m) () defs₀ 𝒱₀ L lv
local notation "ℍ" => Pipeline.HostSeg (Name := ℕ) (U := UU) (pcfgs (F := F)) defs₀ 𝒱₀ L lv

/-- Core `c`'s buffers at the end. -/
def V₃ (c : Dev nD) : Valuation τ sig (Elt F) := StableHlo.after hostOps1 (V₂ m c)

/-- The operations before the call take up no fresh buffers. -/
theorem fresh0 : ∀ op ∈ hostOps0 (F := F), op.fresh = ∅ := by
  refine List.forall_iff_forall_mem.mp ?_
  simp only [hostOps0, List.Forall]
  repeat' constructor

/-- The operations after the call take up no fresh buffers. -/
theorem fresh1 : ∀ op ∈ hostOps1 (F := F), op.fresh = ∅ := by
  refine List.forall_iff_forall_mem.mp ?_
  simp only [hostOps1, List.Forall]
  repeat' constructor

/-- The host operations before the kernel. -/
def seg0 : ℍ := Pipeline.HostSeg.ofOps _ _ _ _ _ (Pipeline.ucRefs τ sig) hostOps0
  (fun op h => Pipeline.sub_ucRefs op (List.forall_iff_forall_mem.mp hostOps0_sub op h)) fresh0 (V₀ m)
  (fun c => iprop(start (ins m) c ∗ ∃ W, owes (c : Thread nD τ) (D7 c) W))

/-- The reshape after it. -/
def seg1 : ℍ := Pipeline.HostSeg.ofOps _ _ _ _ _ (Pipeline.ucRefs τ sig) hostOps1
  (fun op h => Pipeline.sub_ucRefs op (List.forall_iff_forall_mem.mp hostOps1_sub op h)) fresh1 (V₂ m)
  (fun c => iprop(semVal (kcell c 0) 0 ∗ ∃ W, owes (c : Thread nD τ) 0 W))

/-- The program in segments. -/
def segs : List (Pipeline.Seg (pcfgs (F := F)) adm (pdats m) () defs₀ 𝒱₀ L lv) := [.host (seg0 m), .region (reg0 m), .host (seg1 m)]

/-- The program is its segments in order. -/
theorem main_eq (c : Dev nD) : main (F := F) c = Pipeline.Seg.run (segs m) :=
  main_segs adm (pdats m) () 𝒱₀ L lv (seg0 m) (seg1 m) (reg0 m) rfl rfl c

/-- What a device holds at the end. -/
def Tₙ (c : Dev nD) : sProp 𝕄 := iprop(StableHlo.held (c.tc : Thread nD τ) (Pipeline.ucRefs τ sig) (V₃ m c) ∗ semVal (kcell c 0) 0)

/-- A device's beginning is what its first segment needs. -/
theorem link_first (c : Dev nD) : (T₀ m (ins m) c : sProp 𝕄) ⊢ (seg0 m).pre c := by
  show T₀ m (ins m) c ⊢ iprop(StableHlo.held (c.tc : Thread nD τ) (Pipeline.ucRefs τ sig) (V₀ m c) ∗ start (ins m) c ∗ ∃ W, owes (c : Thread nD τ) (D7 c) W)
  rw [← Pipeline.unscopedBufs_held c (V₀ m c)]
  rfl

/-- What the last segment leaves is a device's end. -/
theorem link_last (c : Dev nD) : ((seg1 m).post c : sProp 𝕄) ⊢ iprop(Tₙ m c ∗ ∃ W, owes (c : Thread nD τ) 0 W) := by
  show iprop(StableHlo.held (c.tc : Thread nD τ) (Pipeline.ucRefs τ sig) (V₃ m c) ∗ semVal (kcell c 0) 0 ∗ ∃ W, owes (c : Thread nD τ) 0 W) ⊢ _
  unfold Tₙ
  iintro ⟨H, Hs, HO⟩
  isplitr [HO]
  · isplitl [H] <;> iassumption
  iexact HO

/-- The arguments' and the result's buffers. -/
def readRefs : Finset (DevRef τ sig) := {Proc.devRef .tc main_arg0, Proc.devRef .tc main_arg1, Proc.devRef .tc main_arg2, Proc.devRef .tc main_arg3, Proc.devRef .tc main_arg4, Proc.devRef .tc main_v8}

/-- The buffers read at the end all lie outside the call. -/
theorem readRefs_sub : readRefs ⊆ Pipeline.ucRefs τ sig := by decide

/-- Holding the buffers read at the end is holding each one. -/
theorem held_reads (c : Dev nD) (V : Valuation τ sig (Elt F)) : (StableHlo.held (c.tc : Thread nD τ) readRefs V : sProp 𝕄)
    = iprop(((c : Thread nD τ).loc main_arg0 ↦{fullShare} V (Proc.devRef .tc main_arg0)) ∗ ((c : Thread nD τ).loc main_arg1 ↦{fullShare} V (Proc.devRef .tc main_arg1)) ∗ ((c : Thread nD τ).loc main_arg2 ↦{fullShare} V (Proc.devRef .tc main_arg2)) ∗ ((c : Thread nD τ).loc main_arg3 ↦{fullShare} V (Proc.devRef .tc main_arg3)) ∗ ((c : Thread nD τ).loc main_arg4 ↦{fullShare} V (Proc.devRef .tc main_arg4)) ∗ ((c : Thread nD τ).loc main_v8 ↦{fullShare} V (Proc.devRef .tc main_v8))) := by
  unfold StableHlo.held readRefs
  exact ((bigSep_eq_bigSepL_of_eq (S := {Proc.devRef .tc main_arg0, Proc.devRef .tc main_arg1, Proc.devRef .tc main_arg2, Proc.devRef .tc main_arg3, Proc.devRef .tc main_arg4, Proc.devRef .tc main_v8}) [Proc.devRef .tc main_arg0, Proc.devRef .tc main_arg1, Proc.devRef .tc main_arg2, Proc.devRef .tc main_arg3, Proc.devRef .tc main_arg4, Proc.devRef .tc main_v8] (by decide) (by decide) _).trans rfl)

/-- What a device's buffers are read to hold at the end. -/
def Reads (c : Dev nD) (s : MemSt nD τ sig (Elt F)) : Prop :=
  s.mem ((c : Thread nD τ).loc main_arg0) = V₃ m c (Proc.devRef .tc main_arg0) ∧ s.mem ((c : Thread nD τ).loc main_arg1) = V₃ m c (Proc.devRef .tc main_arg1) ∧ s.mem ((c : Thread nD τ).loc main_arg2) = V₃ m c (Proc.devRef .tc main_arg2) ∧ s.mem ((c : Thread nD τ).loc main_arg3) = V₃ m c (Proc.devRef .tc main_arg3) ∧ s.mem ((c : Thread nD τ).loc main_arg4) = V₃ m c (Proc.devRef .tc main_arg4) ∧ s.mem ((c : Thread nD τ).loc main_v8) = V₃ m c (Proc.devRef .tc main_v8) ∧ s.sem (kcell c 0) = 0

/-- At a device's end the memory holds what is claimed of it. -/
theorem final (c : Dev nD) (s' : Phys nD τ sig (Elt F)) :
    iprop(Tₙ m c ∗ SI s') ⊢ (|={Set.univ}=> iprop(⌜Reads m c s'.mem⌝ ∗ SI s') : sProp 𝕄) := by
  unfold Tₙ
  rw [StableHlo.held_sub_split (c.tc : Thread nD τ) readRefs_sub, held_reads]
  iintro ⟨⟨⟨⟨H0, H1, H2, H3, H4, H5⟩, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, by simpa using hb⟩
  iexact HSI

/-- The barrier is the only counter that is not the kernel's own. -/
theorem unscoped_eq : ∀ sm : SemLoc sig, sm.isScoped .tc = false → sm = osem 0 := by decide

set_option backward.isDefEq.respectTransparency.types false in
/-- Every fair run ends, with every buffer read as said and every counter zero. -/
theorem run_all : θ_run defs (onTc (τ := τ) (main (F := F))) ⟨m, fun _ => 0, ρ⟩
    (fun r => (∀ c : Dev nD, Reads m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := D7) (hL := L_of_ne) (G := G)
    (u₀ := (initOf (Pipeline.cells (Pipeline.pin (pcfgs (F := F)) adm) cellOf_inj) (Pipeline.launchToks (Pipeline.pin (pcfgs (F := F)) adm) cellOf_inj), u₁))
    (hu₀ := by
      iintro Hu
      ihave H := (ownU_pair _ _) $$ Hu
      icases H with ⟨HP, HX⟩
      imodintro
      isplitl [HP]; · iexact HP
      rw [G_eq]
      iexact HX)
    (T₀ := T₀ m (ins m)) (Tₙ := Tₙ m)
    (hch := ⟨link_first m, fun c => .rfl, fun c => .rfl, link_last m⟩)
    (hinit := init m ρ (ins m))
    (QY := Reads m)
    (hfin := final m)
    (hQ := fun s h hs => ⟨h, sem_eq_zero hs fun c sm hsm => by
      obtain rfl := unscoped_eq sm hsm
      exact (h c).2.2.2.2.2.2⟩)

end Cert.Proof
-- ==== Proof.Ends.lean ====
/- The run of the program, with its result. -/
module

public import proofs.«01_k».proof.Proof.Main

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig Unit (Elt F) ℕ UU ℕ

/-!
# The buffers at the end, in terms of the memory at launch
-/

variable (m : (ℓ : Loc nD τ sig) → Buf (Elt F) ℓ) (ρ : Dev nD → PrngReg)

/-- The operations before the kernel write none of the buffers but their own results. -/
theorem V₁_of_ne (c : Dev nD) (b : Ref sig .tc) (h : b ≠ main_v1 ∧ b ≠ main_cst ∧ b ≠ main_v2 ∧ b ≠ main_v3 ∧ b ≠ main_v4 ∧ b ≠ main_v5 ∧ b ≠ main_v6) :
    V₁ m c (Proc.devRef .tc b) = m ((c : Thread nD τ).loc b) := by
  obtain ⟨h1, h2, h3, h4, h5, h6, h7⟩ := h
  unfold V₁ V₀
  simp only [hostOps0, StableHlo.after_cons, StableHlo.after_nil]
  rw [StableHlo.unary_result_ne (h := h7), StableHlo.unary_result_ne (h := h6), StableHlo.unary_result_ne (h := h5),
    StableHlo.binary_result_ne (h := h4), StableHlo.unary_result_ne (h := h3), StableHlo.nullary_result_ne (h := h2),
    StableHlo.reshape_result_ne (h := h1)]

/-- The arguments' buffers are never written. -/
theorem V₃_of_ne (c : Dev nD) (b : Ref sig .tc) (h : b ≠ main_v1 ∧ b ≠ main_cst ∧ b ≠ main_v2 ∧ b ≠ main_v3 ∧ b ≠ main_v4 ∧ b ≠ main_v5 ∧ b ≠ main_v6)
    (h' : b ≠ main_v7) (h'' : b ≠ main_v8) : V₃ m c (Proc.devRef .tc b) = m ((c : Thread nD τ).loc b) := by
  unfold V₃
  simp only [hostOps1, StableHlo.after_cons, StableHlo.after_nil]
  rw [StableHlo.reshape_result_ne (h := h''), V₂_ne m c b h', V₁_of_ne m c b h]

/-- The result is the kernel's, reshaped. -/
theorem V₃_result (c : Dev nD) : V₃ m c (Proc.devRef .tc main_v8) = shapeCast S1x2048x1024 (outOf (ins m) c) shapeCasts_S2048x1024_S1x2048x1024 := by
  unfold V₃
  simp only [hostOps1, StableHlo.after_cons, StableHlo.after_nil]
  rw [StableHlo.reshape_result, V₂_self]
  rfl

/-- What the kernel reads of `x`: the device's part, flattened, scaled and rounded. -/
theorem ins_X (c : Dev nD) : (ins m).X c
    = truncf .bf16 (mulf (shapeCast S2048x1024 (m ((c : Thread nD τ).loc main_arg0)) shapeCasts_S1x2048x1024_S2048x1024)
        (broadcastInDim S2048x1024 ![] bcast_S_S2048x1024 (constant S_ .f32 0x3DB504F3#32))) bitsLt_bf16_f32 := by
  show V₁ m c (Proc.devRef .tc main_v4) = _
  unfold V₁ V₀
  after_results
  rfl

/-- What it reads of the projections: the device's parts, rounded. -/
theorem ins_WQ (c : Dev nD) : (ins m).WQ c = truncf .bf16 (m ((c : Thread nD τ).loc main_arg1)) bitsLt_bf16_f32 := by
  show V₁ m c (Proc.devRef .tc main_v5) = _
  unfold V₁ V₀
  after_results

/-- Wo as the call gets it: the argument rounded. -/
theorem ins_WO (c : Dev nD) : (ins m).WO c = truncf .bf16 (m ((c : Thread nD τ).loc main_arg4)) bitsLt_bf16_f32 := by
  show V₁ m c (Proc.devRef .tc main_v6) = _
  unfold V₁ V₀
  after_results

/-- It reads the keys and the values as they are. -/
theorem ins_KE (c : Dev nD) : (ins m).KE c = m ((c : Thread nD τ).loc main_arg2) := V₁_of_ne m c main_arg2 (by decide)
/-- V as the call gets it: the argument. -/
theorem ins_VE (c : Dev nD) : (ins m).VE c = m ((c : Thread nD τ).loc main_arg3) := V₁_of_ne m c main_arg3 (by decide)

/-- Every fair run ends with the result of every device as computed, the arguments unchanged and every counter zero. -/
theorem run_main : θ_run defs (onTc (τ := τ) (main (F := F))) ⟨m, fun _ => 0, ρ⟩
    (fun r => (∀ c : Dev nD, r.2.mem ((c : Thread nD τ).loc main_v8) = shapeCast S1x2048x1024 (outOf (ins m) c) shapeCasts_S2048x1024_S1x2048x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => by
    obtain ⟨h0, h1, h2, h3, h4, h5, -⟩ := h.1 c
    exact ⟨h5.trans (V₃_result m c), h0.trans (V₃_of_ne m c main_arg0 (by decide) (by decide) (by decide)),
      h1.trans (V₃_of_ne m c main_arg1 (by decide) (by decide) (by decide)), h2.trans (V₃_of_ne m c main_arg2 (by decide) (by decide) (by decide)),
      h3.trans (V₃_of_ne m c main_arg3 (by decide) (by decide) (by decide)), h4.trans (V₃_of_ne m c main_arg4 (by decide) (by decide) (by decide))⟩,
    h.2⟩) (run_all m ρ)

end Cert.Proof
-- ==== Proof.Agree.lean ====
/- The kernel's output on a device is its batch of the reference's result. -/
module

public import proofs.«01_k».proof.Proof.Finite
public import proofs.«01_k».proof.Proof.KernelAt
public import proofs.«01_k».proof.Proof.RefAt
public import proofs.«01_k».proof.Proof.Ends
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- A column of all heads, from the device that holds it and its place there. -/
def wide (d : Fin 4) (k : Fin 1024) : Fin 4096 := ⟨1024 * d.val + k.val, by omega⟩

/-- A sum over all columns, device by device. -/
theorem sum_wide (f : Fin 4096 → EReal) : ∑ c : Fin 4096, f c = ∑ d : Fin 4, ∑ k : Fin 1024, f (wide d k) := by
  have e := (Equiv.sum_comp (finProdFinEquiv (m := 4) (n := 1024)) (fun c : Fin (4 * 1024) => f c)).symm
  refine e.trans ((Fintype.sum_prod_type _).trans (Finset.sum_congr rfl fun d _ => Finset.sum_congr rfl fun k _ => congrArg f (Fin.ext ?_)))
  show k.val + 1024 * d.val = 1024 * d.val + k.val
  exact Nat.add_comm _ _

/-- A device's block of the queries is its batch. -/
theorem block_x (x : Ref.R Cert.ReferenceIdeal.S4x2048x1024) (c : Fin 4) (i : Fin 2048) (k : Fin 1024) :
    Layout.block ⟨3, ![1, 2048, 1024]⟩ ⟨3, ![4, 2048, 1024]⟩ 0 4 c x (by decide) (ix3 0 i k) = x (ix3 c i k) :=
  congrArg x (funext fun b => Fin.ext (by
    rw [Layout.Tiles.idx_val]
    match b with
    | ⟨0, _⟩ => show c.val * 1 + 0 = c.val; omega
    | ⟨1, _⟩ => rfl
    | ⟨2, _⟩ => rfl))

/-- A device's block of Wq is its columns. -/
theorem block_w (w : Ref.R Cert.ReferenceIdeal.S1024x4096) (c : Fin 4) (i k : Fin 1024) :
    Layout.block ⟨2, ![1024, 1024]⟩ ⟨2, ![1024, 4096]⟩ 1 4 c w (by decide) (ix2 i k) = w (ix2 i (wide c k)) :=
  congrArg w (funext fun b => Fin.ext (by
    rw [Layout.Tiles.idx_val]
    match b with
    | ⟨0, _⟩ => rfl
    | ⟨1, _⟩ => show c.val * 1024 + k.val = 1024 * c.val + k.val; omega))

/-- A device's block of Wo is its rows. -/
theorem block_o (w : Ref.R Cert.ReferenceIdeal.S4096x1024) (c : Fin 4) (i k : Fin 1024) :
    Layout.block ⟨2, ![1024, 1024]⟩ ⟨2, ![4096, 1024]⟩ 0 4 c w (by decide) (ix2 i k) = w (ix2 (wide c i) k) :=
  congrArg w (funext fun b => Fin.ext (by
    rw [Layout.Tiles.idx_val]
    match b with
    | ⟨0, _⟩ => show c.val * 1024 + i.val = 1024 * c.val + i.val; omega
    | ⟨1, _⟩ => rfl))

/-- Column `k` of device `d` is head `8 d + hd k`, place `inHd k`. -/
theorem wide_head (d : Fin 4) (k : Fin 1024) (p) : wide d k = ⟨128 * (headOf d (hd k)).val + (inHd k).val, p⟩ :=
  Fin.ext (by simp only [wide, headOf, hd, inHd]; omega)

/-- The kernel's scores, of queries scaled beforehand and a device's columns, are the reference's. -/
theorem score_eq (x : Fin 4 → Fin 2048 → Fin 1024 → ℝ) (w : Fin 1024 → Fin 4096 → ℝ) (k : Fin 4 → Fin 2048 → Fin 32 → Fin 128 → ℝ) (s : ℝ)
    (c d : Fin 4) (h : Fin 8) (i : Fin 2048) :
    score (fun i k => x c i k * s) (fun k' j => w k' (wide d j)) (fun j e => k c j (headOf d h) e) h i = Ref.rScore x w k s c (headOf d h) i := by
  funext j
  unfold score Ref.rScore
  rw [Finset.sum_mul]
  refine Finset.sum_congr rfl fun e _ => ?_
  have hc : ∀ p, wide d (colOf h e) = ⟨(headOf d h).val * 128 + e.val, p⟩ := fun p => Fin.ext (by simp only [wide, headOf, colOf]; omega)
  rw [Finset.sum_mul, Finset.sum_mul, Finset.sum_mul]
  refine Finset.sum_congr rfl fun k' _ => ?_
  beta_reduce
  rw [hc (by omega)]; ring

variable (m : (ℓ : Loc nD τ sig) → Buf (Elt Idealize.ShloMosaic.Ideal) ℓ)

/-- What a device starts with as queries: its argument, scaled. -/
theorem X_at (c : Dev nD) (a : IF S1x2048x1024 .f32) (h : m ((c : Thread nD τ).loc main_arg0) = a) (i : Fin 2048) (k : Fin 1024) :
    ((ins m).X c : IF S2048x1024 .bf16) (ValueIdx.ix2 i k) = a (ix3 0 i k) * Ideal.ofBits .f32 0x3DB504F3#32 := by
  rw [ins_X, h]
  simp only [pointwise, ← ix2_eq_valueIdx]

/-- What a device starts with as Wq: its argument. -/
theorem WQ_at (c : Dev nD) (a : IF S1024x1024 .f32) (h : m ((c : Thread nD τ).loc main_arg1) = a) (i k : Fin 1024) :
    ((ins m).WQ c : IF S1024x1024 .bf16) (ValueIdx.ix2 i k) = a (ix2 i k) := by
  rw [ins_WQ, h]
  simp only [pointwise, ← ix2_eq_valueIdx]

/-- What a device starts with as Wo: its argument. -/
theorem WO_at (c : Dev nD) (a : IF S1024x1024 .f32) (h : m ((c : Thread nD τ).loc main_arg4) = a) (i k : Fin 1024) :
    ((ins m).WO c : IF S1024x1024 .bf16) (ValueIdx.ix2 i k) = a (ix2 i k) := by
  rw [ins_WO, h]
  simp only [pointwise, ← ix2_eq_valueIdx]

/-- On blocks of the whole arrays, with real queries, projections and keys, device `c`'s output is its batch of the reference's result. -/
theorem out_eq (x : Ref.R Cert.ReferenceIdeal.S4x2048x1024) (w : Ref.R Cert.ReferenceIdeal.S1024x4096) (k v : Ref.R Cert.ReferenceIdeal.S4x2048x32x128)
    (o : Ref.R Cert.ReferenceIdeal.S4096x1024)
    (hx : ∀ c : Dev nD, m ((c : Thread nD τ).loc main_arg0) = Layout.block ⟨3, ![1, 2048, 1024]⟩ ⟨3, ![4, 2048, 1024]⟩ 0 4 c x (by decide))
    (hw : ∀ c : Dev nD, m ((c : Thread nD τ).loc main_arg1) = Layout.block ⟨2, ![1024, 1024]⟩ ⟨2, ![1024, 4096]⟩ 1 4 c w (by decide))
    (hk : ∀ c : Dev nD, m ((c : Thread nD τ).loc main_arg2) = k) (hv : ∀ c : Dev nD, m ((c : Thread nD τ).loc main_arg3) = v)
    (ho : ∀ c : Dev nD, m ((c : Thread nD τ).loc main_arg4) = Layout.block ⟨2, ![1024, 1024]⟩ ⟨2, ![4096, 1024]⟩ 0 4 c o (by decide))
    (hr : ∀ c : Dev nD, (∀ i, ∃ r : ℝ, (m ((c : Thread nD τ).loc main_arg0) : IF S1x2048x1024 .f32) i = (r : EReal)) ∧
      (∀ i, ∃ r : ℝ, (m ((c : Thread nD τ).loc main_arg1) : IF S1024x1024 .f32) i = (r : EReal)) ∧
      (∀ i, ∃ r : ℝ, (m ((c : Thread nD τ).loc main_arg2) : IF S4x2048x32x128 .f32) i = (r : EReal)))
    (c : Fin 4) (i : Fin 2048) (j : Fin 1024) :
    outOf (F := Idealize.ShloMosaic.Ideal) (ins m) c (ValueIdx.ix2 i j) = Ref.rO x w k v o (ix3 c i j) := by
  obtain ⟨s, hs⟩ := scale_real
  have ex : ∀ (b : Fin 4) (i : Fin 2048) (q : Fin 1024), ∃ r : ℝ, x (ix3 b i q) = (r : EReal) := fun b i q => by
    obtain ⟨r, h⟩ := (hr b).1 (ix3 0 i q)
    rw [hx b] at h
    exact ⟨r, (block_x x b i q).symm.trans h⟩
  have ew : ∀ (q : Fin 1024) (n : Fin 4096), ∃ r : ℝ, w (ix2 q n) = (r : EReal) := fun q n => by
    obtain ⟨r, h⟩ := (hr (⟨n.val / 1024, by omega⟩ : Fin 4)).2.1 (ix2 q ⟨n.val % 1024, Nat.mod_lt _ (by decide)⟩)
    rw [hw] at h
    refine ⟨r, Eq.trans (congrArg w ?_) ((block_w w _ _ _).symm.trans h)⟩
    exact congrArg (ix2 q) (Fin.ext (by simp only [wide]; omega))
  have ek : ∀ (b : Fin 4) (n : Fin 2048) (h : Fin 32) (e : Fin 128), ∃ r : ℝ, k (ix4 b n h e) = (r : EReal) := fun b n h e => by
    obtain ⟨r, hq⟩ := (hr 0).2.2 (ix4 b n h e)
    rw [hk] at hq
    exact ⟨r, hq⟩
  choose x' hx' using ex
  choose w' hw' using ew
  choose k' hk' using ek
  rw [outOf_at (ins m) (fun c i q => x' c i q * s) (fun d q n => w' q (wide d n)) (fun _ => k')
    (fun c i q => by rw [X_at m c _ (hx c), block_x, hx', hs, EReal.coe_mul])
    (fun c q n => by rw [WQ_at m c _ (hw c), block_w, hw'])
    (fun c b n h e => by rw [ins_KE, hk c, ← ix4_eq_valueIdx, hk'])]
  rw [Ref.rO_at, sum_wide]
  refine Finset.sum_congr rfl fun d _ => ?_
  unfold part
  refine Finset.sum_congr rfl fun col _ => ?_
  rw [WO_at m d _ (ho d), block_o]
  refine congrArg (· * _) ?_
  have hc := Ref.rC_soft x w k v x' w' k' s hx' hw' hk' hs c i (headOf d (hd col)) (inHd col)
  rw [← wide_head] at hc
  beta_reduce
  rw [hc, score_eq x' w' k' s c d (hd col) i]
  refine congrArg (soft _ i) (funext fun n => ?_)
  rw [ins_VE, hv c, ← ix4_eq_valueIdx]

end Cert.Proof
-- ==== Proof.Algebraic.lean ====
/- The value claim. -/
module

public import proofs.«01_k».proof.Proof.Agree
public import proofs.«01_k».proof.Proof.Gen.ReferenceIdeal.Run
public import Idealize.ShloMosaic.Lib.Pointwise
public import Idealize.ShloMosaic.Lib.Pointwise.IndexBridge

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-- Two arrays of one batch with the same entries are the same. -/
theorem batch_ext (a b : IF S1x2048x1024 .f32) (h : ∀ (i : Fin 2048) (j : Fin 1024), a (ix3 0 i j) = b (ix3 0 i j)) : a = b := by
  funext q
  have e : q = ix3 (0 : Fin 1) (q (1 : Fin 3) : Fin 2048) (q (2 : Fin 3) : Fin 1024) := funext fun x => by
    match x with
    | ⟨0, _⟩ => exact Fin.ext (Nat.lt_one_iff.mp (show (q (0 : Fin 3)).val < 1 from (q (0 : Fin 3)).isLt))
    | ⟨1, _⟩ => rfl
    | ⟨2, _⟩ => rfl
  rw [e]; exact h _ _

/-- The kernel's result, as stored, at an entry: the output it computed there. -/
theorem stored_at (a : IF S2048x1024 .f32) (i : Fin 2048) (j : Fin 1024) :
    (shapeCast S1x2048x1024 a shapeCasts_S2048x1024_S1x2048x1024 : IF S1x2048x1024 .f32) (ix3 0 i j) = a (ValueIdx.ix2 i j) := by
  simp only [pointwise, ← ix2_eq_valueIdx]

/-- The value claim: from blocks of the reference's arguments, finite where the precondition asks it, every device leaves its batch of the
    reference's result. -/
theorem algebraic : Cert.algebraic_KernelIdeal_ReferenceIdeal_pre_finite_KernelIdeal (hPre_finite_KernelIdeal := preFactsK) := by
  intro m g m' g' hpre hb
  refine ⟨Cert.ReferenceIdeal.Value.res_main_v34 m' 0, (θ_run defs _ _).mono (fun r h c => ⟨((h.1 c).1).trans ?_, (h.1 c).2⟩) (run_main m g),
    (θ_run Cert.ReferenceIdeal.defs _ _).mono (fun r h => h 0) (Cert.ReferenceIdeal.Value.run (F := Idealize.ShloMosaic.Ideal) m' g')⟩
  refine batch_ext _ _ fun i j => (stored_at _ i j).trans ?_
  rw [Ref.res_eq]
  exact (out_eq m _ _ _ _ _ (fun c => (hb c).1) (fun c => (hb c).2.1) (fun c => (hb c).2.2.1) (fun c => (hb c).2.2.2.1) (fun c => (hb c).2.2.2.2)
    (fun c => reals_of_pre _ _ _ _ _ (hpre c)) c i j).trans (block_x _ c i j).symm

end Cert.Proof
-- ==== Proof.Frames.lean ====
/- The frames of the kernel and of the idealized kernel. -/
module

public import proofs.«01_k».proof.Proof.Ends
public import proofs.«01_k».proof.Proof.Gen.Kernel
public import proofs.«01_k».proof.Defs
public import Idealize.ShloMosaic.PureOps.BitExact

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

/-!
# The kernel at its own float words

Read at bit patterns, with every named constant standing for its own word, the idealized kernel is the kernel: the two programs
are the same term. So the run proved over any floats is the kernel's.
-/

/-- A named constant, read at bit patterns, is its word. -/
abbrev bitsNamed : Named Bits where
  named _ _ φ b := Scalar.ofBits φ b

attribute [local instance] bitsNamed

/-- As floats both programs define the same call. -/
theorem defs0_eq : Cert.KernelIdeal.defs₀ (F := Bits) = Cert.Kernel.defs₀ (F := Bits) := by
  unfold Cert.KernelIdeal.defs₀ Cert.Kernel.defs₀
  refine congrArg Defs.onTc ?_
  funext l x
  match l, x with
  | ⟨0, _⟩, (t, s) => rfl

/-- As floats both programs have the same definitions. -/
theorem defs_eq : Cert.KernelIdeal.defs (F := Bits) = Cert.Kernel.defs (F := Bits) :=
  congrArg (Pipeline.defs Cert.KernelIdeal.pcfgs) defs0_eq

/-- As floats both programs have the same main. -/
theorem main_same : Cert.KernelIdeal.main (F := Bits) = Cert.Kernel.main (F := Bits) := rfl

/-- The kernel runs, leaves its arguments unchanged and every counter at zero. -/
theorem frame_kernel : Cert.quiescent_Kernel := fun m ρ _ => by
  have h := run_main (F := Bits) m ρ
  rw [defs_eq, main_same] at h
  exact (θ_run Cert.Kernel.defs _ _).mono (fun _ h => ⟨fun c => (h.1 c).2, h.2⟩) h

/-- So does the idealized kernel. -/
theorem frame_ideal (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2, h.2⟩) (run_main (F := Ideal) m ρ)

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebraic
public import proofs.«01_k».proof.Proof.Frames
public import Idealize.ShloMosaic.PureOps.IdealRules

@[expose] public section

noncomputable section

namespace Cert.Proof

open Idealize.ShloMosaic Idealize.ShloMosaic.TcCoe Idealize.SL.Sem

/-- The reference has no counters. -/
theorem no_counters : IsEmpty (GSem Cert.ReferenceIdeal.nD Cert.ReferenceIdeal.τ Cert.ReferenceIdeal.sig) :=
  ⟨fun g => (show ∀ sm : SemLoc Cert.ReferenceIdeal.sig, False by decide) g.2⟩

/-- The reference runs and leaves its arguments unchanged. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, funext fun s => no_counters.elim s⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, preFactsK, preFactsR,
    frame_kernel, fun m g _ => frame_ideal m g, fun m g _ => frame_ideal m g, fun m g _ => frame_reference m g, fun m g _ => frame_reference m g,
    IdealRules.named_const.statement _ _ _ _ _ rfl, algebraic⟩

end Cert.Proof
